-- ==== Defs.lean ====
def Pre_Kernel [hPre_idx_in_table : Cert.Pre_idx_in_table.Facts] (m : (ℓ : Loc Cert.Kernel.nD Cert.Kernel.τ Cert.Kernel.sig) → Buf (Elt Bits) ℓ) : Prop :=
  ∀ c : Dev Cert.Kernel.nD,
    (Cert.Pre_idx_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_table : Cert.Pre_idx_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_table [hPre_idx_in_table : Cert.Pre_idx_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsIdeal_finite [hPre_finite : Cert.Pre_finite.Facts] (m : (ℓ : Loc Cert.StatsIdeal.nD Cert.StatsIdeal.τ Cert.StatsIdeal.sig) → Buf (Elt Ideal) ℓ) : Prop :=
  ∀ c : Dev Cert.StatsIdeal.nD,
    (Cert.Pre_finite.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2))) = (fun _ => 1#1)

def Pre_StatsReferenceIdeal (m : (ℓ : Loc Cert.StatsReferenceIdeal.nD Cert.StatsReferenceIdeal.τ Cert.StatsReferenceIdeal.sig) → Buf (Elt Ideal) ℓ) : Prop :=
  True

def Pre_StatsReferenceIdeal_finite [hPre_finite : Cert.Pre_finite.Facts] (m : (ℓ : Loc Cert.StatsReferenceIdeal.nD Cert.StatsReferenceIdeal.τ Cert.StatsReferenceIdeal.sig) → Buf (Elt Ideal) ℓ) : Prop :=
  ∀ c : Dev Cert.StatsReferenceIdeal.nD,
    (Cert.Pre_finite.fn (F := Ideal) (m ((c.tc : Thread Cert.StatsReferenceIdeal.nD Cert.StatsReferenceIdeal.τ).loc Cert.StatsReferenceIdeal.main_arg0)) (m ((c.tc : Thread Cert.StatsReferenceIdeal.nD Cert.StatsReferenceIdeal.τ).loc Cert.StatsReferenceIdeal.main_arg1)) (m ((c.tc : Thread Cert.StatsReferenceIdeal.nD Cert.StatsReferenceIdeal.τ).loc Cert.StatsReferenceIdeal.main_arg2))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_above_floor [hPre_above_floor : Cert.Pre_above_floor.Facts] (m : (ℓ : Loc Cert.SelectIdeal.nD Cert.SelectIdeal.τ Cert.SelectIdeal.sig) → Buf (Elt Ideal) ℓ) : Prop :=
  ∀ c : Dev Cert.SelectIdeal.nD,
    (Cert.Pre_above_floor.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_above_floor [hPre_above_floor : Cert.Pre_above_floor.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_above_floor.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1))) = (fun _ => 1#1)

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_EncodeReferenceIdeal (m : (ℓ : Loc Cert.EncodeReferenceIdeal.nD Cert.EncodeReferenceIdeal.τ Cert.EncodeReferenceIdeal.sig) → Buf (Elt Ideal) ℓ) : Prop :=
  True

def quiescent_Kernel [hKernel : Cert.Kernel.Facts] [hPre_idx_in_table : Cert.Pre_idx_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_idx_in_table [hReferenceIdeal : Cert.ReferenceIdeal.Facts] [hPre_idx_in_table : Cert.Pre_idx_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2))
      ∧ r.2.sem = fun _ => 0)

def quiescent_StatsIdeal_pre_finite [hStatsIdeal : Cert.StatsIdeal.Facts] [hPre_finite : Cert.Pre_finite.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal_finite m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2))
      ∧ r.2.sem = fun _ => 0)

def quiescent_StatsReferenceIdeal_pre_finite [hStatsReferenceIdeal : Cert.StatsReferenceIdeal.Facts] [hPre_finite : Cert.Pre_finite.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal_finite m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectIdeal_pre_above_floor [hSelectIdeal : Cert.SelectIdeal.Facts] [hPre_above_floor : Cert.Pre_above_floor.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_above_floor m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1))
      ∧ r.2.sem = fun _ => 0)

def quiescent_SelectReferenceIdeal_pre_above_floor [hSelectReferenceIdeal : Cert.SelectReferenceIdeal.Facts] [hPre_above_floor : Cert.Pre_above_floor.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_above_floor m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2))
      ∧ r.2.sem = fun _ => 0)

def quiescent_EncodeReferenceIdeal [hEncodeReferenceIdeal : Cert.EncodeReferenceIdeal.Facts] : Prop :=
  ∀ (m : (ℓ : Loc Cert.EncodeReferenceIdeal.nD Cert.EncodeReferenceIdeal.τ Cert.EncodeReferenceIdeal.sig) → Buf (Elt Ideal) ℓ) (g : Dev Cert.EncodeReferenceIdeal.nD → PrngReg), Pre_EncodeReferenceIdeal m →
    θ_run (Cert.EncodeReferenceIdeal.defs (F := Ideal)) (onTc (τ := Cert.EncodeReferenceIdeal.τ) (Cert.EncodeReferenceIdeal.main (F := Ideal))) ⟨m, fun _ => 0, g⟩ (fun r => (∀ c : Dev Cert.EncodeReferenceIdeal.nD,
      r.2.mem ((c.tc : Thread Cert.EncodeReferenceIdeal.nD Cert.EncodeReferenceIdeal.τ).loc Cert.EncodeReferenceIdeal.main_arg0) = m ((c.tc : Thread Cert.EncodeReferenceIdeal.nD Cert.EncodeReferenceIdeal.τ).loc Cert.EncodeReferenceIdeal.main_arg0)
      ∧ r.2.mem ((c.tc : Thread Cert.EncodeReferenceIdeal.nD Cert.EncodeReferenceIdeal.τ).loc Cert.EncodeReferenceIdeal.main_arg1) = m ((c.tc : Thread Cert.EncodeReferenceIdeal.nD Cert.EncodeReferenceIdeal.τ).loc Cert.EncodeReferenceIdeal.main_arg1)
      ∧ r.2.mem ((c.tc : Thread Cert.EncodeReferenceIdeal.nD Cert.EncodeReferenceIdeal.τ).loc Cert.EncodeReferenceIdeal.main_arg2) = m ((c.tc : Thread Cert.EncodeReferenceIdeal.nD Cert.EncodeReferenceIdeal.τ).loc Cert.EncodeReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_table : Cert.Pre_idx_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Stats_StatsIdeal : Prop :=
  True

def algebraic_StatsIdeal_StatsReferenceIdeal_pre_finite [hStatsIdeal : Cert.StatsIdeal.Facts] [hStatsReferenceIdeal : Cert.StatsReferenceIdeal.Facts] [hPre_finite : Cert.Pre_finite.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal_finite m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)
      ∧ m' ((c.tc : Thread Cert.StatsReferenceIdeal.nD Cert.StatsReferenceIdeal.τ).loc Cert.StatsReferenceIdeal.main_arg1) = m ((c.tc : Thread Cert.StatsIdeal.nD Cert.StatsIdeal.τ).loc Cert.StatsIdeal.main_arg1)
      ∧ m' ((c.tc : Thread Cert.StatsReferenceIdeal.nD Cert.StatsReferenceIdeal.τ).loc Cert.StatsReferenceIdeal.main_arg2) = m ((c.tc : Thread Cert.StatsIdeal.nD Cert.StatsIdeal.τ).loc Cert.StatsIdeal.main_arg2)) →
    ∃ (v0 : (c : Dev Cert.StatsIdeal.nD) → Buf (Elt Ideal) ((c.tc : Thread Cert.StatsIdeal.nD Cert.StatsIdeal.τ).loc Cert.StatsIdeal.main_v1_0)) (v1 : (c : Dev Cert.StatsIdeal.nD) → Buf (Elt Ideal) ((c.tc : Thread Cert.StatsIdeal.nD Cert.StatsIdeal.τ).loc Cert.StatsIdeal.main_v1_1)) (v2 : (c : Dev Cert.StatsIdeal.nD) → Buf (Elt Ideal) ((c.tc : Thread Cert.StatsIdeal.nD Cert.StatsIdeal.τ).loc Cert.StatsIdeal.main_v1_2)) (v3 : (c : Dev Cert.StatsIdeal.nD) → Buf (Elt Ideal) ((c.tc : Thread Cert.StatsIdeal.nD Cert.StatsIdeal.τ).loc Cert.StatsIdeal.main_v1_3)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v1_0) = v0 c
          ∧ r.2.mem ((c.tc : Thread Cert.StatsIdeal.nD Cert.StatsIdeal.τ).loc Cert.StatsIdeal.main_v1_1) = v1 c
          ∧ r.2.mem ((c.tc : Thread Cert.StatsIdeal.nD Cert.StatsIdeal.τ).loc Cert.StatsIdeal.main_v1_2) = v2 c
          ∧ r.2.mem ((c.tc : Thread Cert.StatsIdeal.nD Cert.StatsIdeal.τ).loc Cert.StatsIdeal.main_v1_3) = v3 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          r.2.mem ((c.tc : Thread Cert.StatsReferenceIdeal.nD Cert.StatsReferenceIdeal.τ).loc Cert.StatsReferenceIdeal.main_v9) = v0 c
          ∧ r.2.mem ((c.tc : Thread Cert.StatsReferenceIdeal.nD Cert.StatsReferenceIdeal.τ).loc Cert.StatsReferenceIdeal.main_v7) = v1 c
          ∧ r.2.mem ((c.tc : Thread Cert.StatsReferenceIdeal.nD Cert.StatsReferenceIdeal.τ).loc Cert.StatsReferenceIdeal.main_v41) = v2 c
          ∧ r.2.mem ((c.tc : Thread Cert.StatsReferenceIdeal.nD Cert.StatsReferenceIdeal.τ).loc Cert.StatsReferenceIdeal.main_v42) = v3 c
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0)
          ∧ r.2.mem ((c.tc : Thread Cert.StatsReferenceIdeal.nD Cert.StatsReferenceIdeal.τ).loc Cert.StatsReferenceIdeal.main_arg1) = m' ((c.tc : Thread Cert.StatsReferenceIdeal.nD Cert.StatsReferenceIdeal.τ).loc Cert.StatsReferenceIdeal.main_arg1)
          ∧ r.2.mem ((c.tc : Thread Cert.StatsReferenceIdeal.nD Cert.StatsReferenceIdeal.τ).loc Cert.StatsReferenceIdeal.main_arg2) = m' ((c.tc : Thread Cert.StatsReferenceIdeal.nD Cert.StatsReferenceIdeal.τ).loc Cert.StatsReferenceIdeal.main_arg2))

def preserves_Select_SelectIdeal : Prop :=
  True

def algebraic_SelectIdeal_SelectReferenceIdeal_pre_above_floor [hSelectIdeal : Cert.SelectIdeal.Facts] [hSelectReferenceIdeal : Cert.SelectReferenceIdeal.Facts] [hPre_above_floor : Cert.Pre_above_floor.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_above_floor m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)) →
    ∃ (v0 : (c : Dev Cert.SelectIdeal.nD) → Buf (Elt Ideal) ((c.tc : Thread Cert.SelectIdeal.nD Cert.SelectIdeal.τ).loc Cert.SelectIdeal.main_v0_0)) (v1 : (c : Dev Cert.SelectIdeal.nD) → Buf (Elt Ideal) ((c.tc : Thread Cert.SelectIdeal.nD Cert.SelectIdeal.τ).loc Cert.SelectIdeal.main_v0_1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0_0) = v0 c
          ∧ r.2.mem ((c.tc : Thread Cert.SelectIdeal.nD Cert.SelectIdeal.τ).loc Cert.SelectIdeal.main_v0_1) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_values) = v0 c
          ∧ r.2.mem ((c.tc : Thread Cert.SelectReferenceIdeal.nD Cert.SelectReferenceIdeal.τ).loc Cert.SelectReferenceIdeal.main_v0) = v1 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1))

def preserves_Encode_EncodeIdeal : Prop :=
  True

def algebraic_EncodeIdeal_EncodeReferenceIdeal [hEncodeIdeal : Cert.EncodeIdeal.Facts] [hEncodeReferenceIdeal : Cert.EncodeReferenceIdeal.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodeReferenceIdeal.nD Cert.EncodeReferenceIdeal.τ Cert.EncodeReferenceIdeal.sig) → Buf (Elt Ideal) ℓ) (g' : Dev Cert.EncodeReferenceIdeal.nD → PrngReg), Pre_EncodeIdeal m →
    (∀ c : Dev Cert.EncodeIdeal.nD,
      m' ((c.tc : Thread Cert.EncodeReferenceIdeal.nD Cert.EncodeReferenceIdeal.τ).loc Cert.EncodeReferenceIdeal.main_arg0) = m ((c.tc : Thread Cert.EncodeIdeal.nD Cert.EncodeIdeal.τ).loc Cert.EncodeIdeal.main_arg0)
      ∧ m' ((c.tc : Thread Cert.EncodeReferenceIdeal.nD Cert.EncodeReferenceIdeal.τ).loc Cert.EncodeReferenceIdeal.main_arg1) = m ((c.tc : Thread Cert.EncodeIdeal.nD Cert.EncodeIdeal.τ).loc Cert.EncodeIdeal.main_arg1)
      ∧ m' ((c.tc : Thread Cert.EncodeReferenceIdeal.nD Cert.EncodeReferenceIdeal.τ).loc Cert.EncodeReferenceIdeal.main_arg2) = m ((c.tc : Thread Cert.EncodeIdeal.nD Cert.EncodeIdeal.τ).loc Cert.EncodeIdeal.main_arg2)) →
    ∃ (v0 : (c : Dev Cert.EncodeIdeal.nD) → Buf (Elt Ideal) ((c.tc : Thread Cert.EncodeIdeal.nD Cert.EncodeIdeal.τ).loc Cert.EncodeIdeal.main_v0_0)) (v1 : (c : Dev Cert.EncodeIdeal.nD) → Buf (Elt Ideal) ((c.tc : Thread Cert.EncodeIdeal.nD Cert.EncodeIdeal.τ).loc Cert.EncodeIdeal.main_v0_1)) (v2 : (c : Dev Cert.EncodeIdeal.nD) → Buf (Elt Ideal) ((c.tc : Thread Cert.EncodeIdeal.nD Cert.EncodeIdeal.τ).loc Cert.EncodeIdeal.main_v0_2)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v0_0) = v0 c
          ∧ r.2.mem ((c.tc : Thread Cert.EncodeIdeal.nD Cert.EncodeIdeal.τ).loc Cert.EncodeIdeal.main_v0_1) = v1 c
          ∧ r.2.mem ((c.tc : Thread Cert.EncodeIdeal.nD Cert.EncodeIdeal.τ).loc Cert.EncodeIdeal.main_v0_2) = v2 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2))
      ∧ θ_run (Cert.EncodeReferenceIdeal.defs (F := Ideal)) (onTc (τ := Cert.EncodeReferenceIdeal.τ) (Cert.EncodeReferenceIdeal.main (F := Ideal))) ⟨m', fun _ => 0, g'⟩ (fun r => ∀ c : Dev Cert.EncodeReferenceIdeal.nD,
          r.2.mem ((c.tc : Thread Cert.EncodeReferenceIdeal.nD Cert.EncodeReferenceIdeal.τ).loc Cert.EncodeReferenceIdeal.main_v4) = v0 c
          ∧ r.2.mem ((c.tc : Thread Cert.EncodeReferenceIdeal.nD Cert.EncodeReferenceIdeal.τ).loc Cert.EncodeReferenceIdeal.main_v17) = v1 c
          ∧ r.2.mem ((c.tc : Thread Cert.EncodeReferenceIdeal.nD Cert.EncodeReferenceIdeal.τ).loc Cert.EncodeReferenceIdeal.main_v18) = v2 c
          ∧ r.2.mem ((c.tc : Thread Cert.EncodeReferenceIdeal.nD Cert.EncodeReferenceIdeal.τ).loc Cert.EncodeReferenceIdeal.main_arg0) = m' ((c.tc : Thread Cert.EncodeReferenceIdeal.nD Cert.EncodeReferenceIdeal.τ).loc Cert.EncodeReferenceIdeal.main_arg0)
          ∧ r.2.mem ((c.tc : Thread Cert.EncodeReferenceIdeal.nD Cert.EncodeReferenceIdeal.τ).loc Cert.EncodeReferenceIdeal.main_arg1) = m' ((c.tc : Thread Cert.EncodeReferenceIdeal.nD Cert.EncodeReferenceIdeal.τ).loc Cert.EncodeReferenceIdeal.main_arg1)
          ∧ r.2.mem ((c.tc : Thread Cert.EncodeReferenceIdeal.nD Cert.EncodeReferenceIdeal.τ).loc Cert.EncodeReferenceIdeal.main_arg2) = m' ((c.tc : Thread Cert.EncodeReferenceIdeal.nD Cert.EncodeReferenceIdeal.τ).loc Cert.EncodeReferenceIdeal.main_arg2))

def Claim : Prop :=
  ∃ (hKernel : Cert.Kernel.Facts) (hKernelIdeal : Cert.KernelIdeal.Facts) (hReferenceIdeal : Cert.ReferenceIdeal.Facts) (hStats : Cert.Stats.Facts) (hStatsIdeal : Cert.StatsIdeal.Facts) (hStatsReferenceIdeal : Cert.StatsReferenceIdeal.Facts) (hSelect : Cert.Select.Facts) (hSelectIdeal : Cert.SelectIdeal.Facts) (hSelectReferenceIdeal : Cert.SelectReferenceIdeal.Facts) (hEncode : Cert.Encode.Facts) (hEncodeIdeal : Cert.EncodeIdeal.Facts) (hEncodeReferenceIdeal : Cert.EncodeReferenceIdeal.Facts) (hPre_idx_in_table : Cert.Pre_idx_in_table.Facts) (hPre_finite : Cert.Pre_finite.Facts) (hPre_above_floor : Cert.Pre_above_floor.Facts),
    quiescent_Kernel (hKernel := hKernel) (hPre_idx_in_table := hPre_idx_in_table)
    ∧ quiescent_KernelIdeal (hKernelIdeal := hKernelIdeal) (hPre_idx_in_table := hPre_idx_in_table)
    ∧ quiescent_ReferenceIdeal (hReferenceIdeal := hReferenceIdeal)
    ∧ quiescent_ReferenceIdeal_pre_idx_in_table (hReferenceIdeal := hReferenceIdeal) (hPre_idx_in_table := hPre_idx_in_table)
    ∧ quiescent_Stats (hStats := hStats)
    ∧ quiescent_StatsIdeal (hStatsIdeal := hStatsIdeal)
    ∧ quiescent_StatsIdeal_pre_finite (hStatsIdeal := hStatsIdeal) (hPre_finite := hPre_finite)
    ∧ quiescent_StatsReferenceIdeal (hStatsReferenceIdeal := hStatsReferenceIdeal)
    ∧ quiescent_StatsReferenceIdeal_pre_finite (hStatsReferenceIdeal := hStatsReferenceIdeal) (hPre_finite := hPre_finite)
    ∧ quiescent_Select (hSelect := hSelect)
    ∧ quiescent_SelectIdeal (hSelectIdeal := hSelectIdeal)
    ∧ quiescent_SelectIdeal_pre_above_floor (hSelectIdeal := hSelectIdeal) (hPre_above_floor := hPre_above_floor)
    ∧ quiescent_SelectReferenceIdeal (hSelectReferenceIdeal := hSelectReferenceIdeal)
    ∧ quiescent_SelectReferenceIdeal_pre_above_floor (hSelectReferenceIdeal := hSelectReferenceIdeal) (hPre_above_floor := hPre_above_floor)
    ∧ quiescent_Encode (hEncode := hEncode)
    ∧ quiescent_EncodeIdeal (hEncodeIdeal := hEncodeIdeal)
    ∧ quiescent_EncodeReferenceIdeal (hEncodeReferenceIdeal := hEncodeReferenceIdeal)
    ∧ preserves_Kernel_KernelIdeal
    ∧ algebraic_KernelIdeal_ReferenceIdeal (hKernelIdeal := hKernelIdeal) (hReferenceIdeal := hReferenceIdeal) (hPre_idx_in_table := hPre_idx_in_table)
    ∧ preserves_Stats_StatsIdeal
    ∧ algebraic_StatsIdeal_StatsReferenceIdeal_pre_finite (hStatsIdeal := hStatsIdeal) (hStatsReferenceIdeal := hStatsReferenceIdeal) (hPre_finite := hPre_finite)
    ∧ preserves_Select_SelectIdeal
    ∧ algebraic_SelectIdeal_SelectReferenceIdeal_pre_above_floor (hSelectIdeal := hSelectIdeal) (hSelectReferenceIdeal := hSelectReferenceIdeal) (hPre_above_floor := hPre_above_floor)
    ∧ preserves_Encode_EncodeIdeal
    ∧ algebraic_EncodeIdeal_EncodeReferenceIdeal (hEncodeIdeal := hEncodeIdeal) (hEncodeReferenceIdeal := hEncodeReferenceIdeal)
-- ==== Pre_above_floor.lean ====
abbrev S2048x768 : Shape := ⟨2, ![2048, 768]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel

variable [Facts]

def fn {F : FTy → Type} [FloatOps F] (main_arg0 : FVec F S2048x768 .f32) (main_arg1 : IVec S2048x768 32) : IVec S_ 1 :=
  let main_cst : FVec F S_ .f32 := constant S_ .f32 0xFF800000#32
  let main_v0 : FVec F S2048x768 .f32 := broadcastInDim S2048x768 ![] bcast_S_S2048x768 main_cst
  let main_v1 : IVec S2048x768 1 := cmpf .ogt main_arg0 main_v0
  let main_c : IVec S_ 1 := constantI S_ 1 1#1
  let main_v2 : IVec S_ 1 := (fun x v => Host.reduce IntOp.andi x v reducesTo_S2048x768_S_d0_1 h_S_) main_v1 main_c
  main_v2
-- ==== Pre_finite.lean ====
abbrev S2048x768 : Shape := ⟨2, ![2048, 768]⟩
abbrev S768 : Shape := ⟨1, ![768]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S768 : S_.BroadcastsInDim S768 (![] : Fin 0 → Fin S768.rank)
  reducesTo_S768_S_d0 : S768.ReducesTo [0] S_

variable [Facts]

def fn {F : FTy → Type} [FloatOps F] (main_arg0 : FVec F S2048x768 .f32) (main_arg1 : FVec F S2048x768 .f32) (main_arg2 : FVec F S768 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Pre_idx_in_table.lean ====
abbrev S2048x32 : Shape := ⟨2, ![2048, 32]⟩
abbrev S49152x768 : Shape := ⟨2, ![49152, 768]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel

variable [Facts]

def fn {F : FTy → Type} [FloatOps F] (main_arg0 : IVec S2048x32 32) (main_arg1 : FVec F S2048x32 .f32) (main_arg2 : FVec F S49152x768 .f32) : IVec S_ 1 :=
  let main_c : IVec S_ 32 := constantI S_ 32 0#32
  let main_v0 : IVec S2048x32 32 := broadcastInDim S2048x32 ![] bcast_S_S2048x32 main_c
  let main_v1 : IVec S2048x32 1 := cmpi .sge main_arg0 main_v0
  let main_c_0 : IVec S_ 32 := constantI S_ 32 49152#32
  let main_v2 : IVec S2048x32 32 := broadcastInDim S2048x32 ![] bcast_S_S2048x32 main_c_0
  let main_v3 : IVec S2048x32 1 := cmpi .slt main_arg0 main_v2
  let main_v4 : IVec S2048x32 1 := andi main_v1 main_v3
  let main_c_1 : IVec S_ 1 := constantI S_ 1 1#1
  let main_v5 : IVec S_ 1 := (fun x v => Host.reduce IntOp.andi x v reducesTo_S2048x32_S_d0_1 h_S_) main_v4 main_c_1
  main_v5
-- ==== Kernel.lean ====
abbrev S2048x32 : Shape := ⟨2, ![2048, 32]⟩
abbrev S49152x768 : Shape := ⟨2, ![49152, 768]⟩
abbrev S2048x32x1 : Shape := ⟨3, ![2048, 32, 1]⟩
abbrev S2048x32x16 : Shape := ⟨3, ![2048, 32, 16]⟩
abbrev S1048576 : Shape := ⟨1, ![1048576]⟩
abbrev S_ : Shape := ⟨0, ![]⟩
abbrev S3 : Shape := ⟨1, ![3]⟩
abbrev S1x1x3 : Shape := ⟨3, ![1, 1, 3]⟩
abbrev S2048x32x3 : Shape := ⟨3, ![2048, 32, 3]⟩
abbrev S2048x96 : Shape := ⟨2, ![2048, 96]⟩
abbrev S147456x2x128 : Shape := ⟨3, ![147456, 2, 128]⟩
abbrev S2048x768 : Shape := ⟨2, ![2048, 768]⟩
abbrev S64x96 : Shape := ⟨2, ![64, 96]⟩
abbrev S32768 : Shape := ⟨1, ![32768]⟩
abbrev S2x96x2x128 : Shape := ⟨4, ![2, 96, 2, 128]⟩
abbrev S768 : Shape := ⟨1, ![768]⟩
abbrev S1x96x2x128 : Shape := ⟨4, ![1, 96, 2, 128]⟩
abbrev S96x2x128 : Shape := ⟨3, ![96, 2, 128]⟩
abbrev S1x96 : Shape := ⟨2, ![1, 96]⟩
abbrev S96 : Shape := ⟨1, ![96]⟩
abbrev S16 : Shape := ⟨1, ![16]⟩
abbrev S1x1x1x16 : Shape := ⟨4, ![1, 1, 1, 16]⟩
abbrev S1x768 : Shape := ⟨2, ![1, 768]⟩

abbrev nBuf : Table → Nat
  | .hbm => 18
  | .local .scVector .vmem => 4
  | _ => 0

abbrev bufTy : (tb : Table) → Fin (nBuf tb) → BufTy
  | .hbm, ⟨0, _⟩ => ⟨S2048x32, .i32⟩
  | .hbm, ⟨1, _⟩ => ⟨S2048x32, .f32⟩
  | .hbm, ⟨2, _⟩ => ⟨S49152x768, .f32⟩
  | .hbm, ⟨3, _⟩ => ⟨S2048x32x1, .f32⟩
  | .hbm, ⟨4, _⟩ => ⟨S2048x32x16, .f32⟩
  | .hbm, ⟨5, _⟩ => ⟨S1048576, .f32⟩
  | .hbm, ⟨6, _⟩ => ⟨S2048x32x1, .i32⟩
  | .hbm, ⟨7, _⟩ => ⟨S_, .i32⟩
  | .hbm, ⟨8, _⟩ => ⟨S2048x32x1, .i32⟩
  | .hbm, ⟨9, _⟩ => ⟨S2048x32x1, .i32⟩
  | .hbm, ⟨10, _⟩ => ⟨S3, .i32⟩
  | .hbm, ⟨11, _⟩ => ⟨S1x1x3, .i32⟩
  | .hbm, ⟨12, _⟩ => ⟨S2048x32x3, .i32⟩
  | .hbm, ⟨13, _⟩ => ⟨S2048x32x3, .i32⟩
  | .hbm, ⟨14, _⟩ => ⟨S2048x32x3, .i32⟩
  | .hbm, ⟨15, _⟩ => ⟨S2048x96, .i32⟩
  | .hbm, ⟨16, _⟩ => ⟨S147456x2x128, .f32⟩
  | .hbm, ⟨17, _⟩ => ⟨S2048x768, .f32⟩
  | .local .scVector .vmem, ⟨0, _⟩ => ⟨S64x96, .i32⟩
  | .local .scVector .vmem, ⟨1, _⟩ => ⟨S32768, .f32⟩
  | .local .scVector .vmem, ⟨2, _⟩ => ⟨S2x96x2x128, .f32⟩
  | .local .scVector .vmem, ⟨3, _⟩ => ⟨S768, .f32⟩
  | _, _ => ⟨S2048x32, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v11_scv : Ref sig .scVector := ⟨.hbm, 15, rfl⟩
abbrev main_v2_scv : Ref sig .scVector := ⟨.hbm, 5, rfl⟩
abbrev main_v12_scv : Ref sig .scVector := ⟨.hbm, 16, rfl⟩
abbrev main_v13_scv : Ref sig .scVector := ⟨.hbm, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_21_r0 : BitVec 32 := 0#32
  ![v2.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32 : BitVec 32 := 32#32
  let v3 : BitVec 32 := Scalar.muli v2 c32_i32
  let c16_i32 : BitVec 32 := 16#32
  let v4 : BitVec 32 := Scalar.muli v3 c16_i32
  ![v4.toNat]
@[reducible] def k0_t1_loop : Scf.Loop 32 :=
  let c0_i32_17 : BitVec 32 := 0#32
  let c32_i32_18 : BitVec 32 := 32#32
  let v15 : BitVec 32 := Scalar.addi c0_i32_17 c32_i32_18
  let c1_i32_19 : BitVec 32 := 1#32
  ⟨c0_i32_17, v15, c1_i32_19⟩
def k0_off3 (k0_t1 : Fin k0_t1_loop.trips) : Fin 2 → Nat :=
  let c2_i32_21 : BitVec 32 := 2#32
  let c0_i32_17 : BitVec 32 := 0#32
  let c1_i32_19 : BitVec 32 := 1#32
  let arg12 : BitVec 32 := Scf.iv c0_i32_17 c1_i32_19 k0_t1
  let v16 : BitVec 32 := Scalar.muli c2_i32_21 arg12
  let c0_i32_26 : BitVec 32 := 0#32
  ![v16.toNat, 0]
@[reducible] def k0_t2_loop : Scf.Loop 32 :=
  let c0_i32_77 : BitVec 32 := 0#32
  let c32_i32_78 : BitVec 32 := 32#32
  let v70 : BitVec 32 := Scalar.addi c0_i32_77 c32_i32_78
  let c1_i32_79 : BitVec 32 := 1#32
  ⟨c0_i32_77, v70, c1_i32_79⟩
def k0_off4 (k0_t1 : Fin k0_t1_loop.trips) (k0_t2 : Fin k0_t2_loop.trips) : Fin 1 → Nat :=
  let c2_i32_21 : BitVec 32 := 2#32
  let c0_i32_17 : BitVec 32 := 0#32
  let c1_i32_19 : BitVec 32 := 1#32
  let arg12 : BitVec 32 := Scf.iv c0_i32_17 c1_i32_19 k0_t1
  let v16 : BitVec 32 := Scalar.muli c2_i32_21 arg12
  let c512_i32 : BitVec 32 := 512#32
  let v426 : BitVec 32 := Scalar.muli v16 c512_i32
  let c0_i32_77 : BitVec 32 := 0#32
  let c1_i32_79 : BitVec 32 := 1#32
  let arg13 : BitVec 32 := Scf.iv c0_i32_77 c1_i32_79 k0_t2
  let c16_i32_195 : BitVec 32 := 16#32
  let v427 : BitVec 32 := Scalar.muli arg13 c16_i32_195
  let v428 : BitVec 32 := Scalar.addi v426 v427
  let v429 : Index := Scalar.indexCast v428
  ![v429.toNat]
def k0_off5 (k0_t2 : Fin k0_t2_loop.trips) (c0_i32_197 : BitVec 32) : Fin 4 → Nat :=
  let c0_i32_198 : BitVec 32 := 0#32
  let v434 : Index := Scalar.indexCast c0_i32_198
  let c3_i32_196 : BitVec 32 := 3#32
  let c0_i32_77 : BitVec 32 := 0#32
  let c1_i32_79 : BitVec 32 := 1#32
  let arg13 : BitVec 32 := Scf.iv c0_i32_77 c1_i32_79 k0_t2
  let v432 : BitVec 32 := Scalar.muli c3_i32_196 arg13
  let v433 : BitVec 32 := Scalar.addi v432 c0_i32_197
  let v435 : Index := Scalar.indexCast v433
  let c0_i32_199 : BitVec 32 := 0#32
  let v436 : Index := Scalar.indexCast c0_i32_199
  let c0_200 : Index := 0#32
  ![0, v435.toNat, 0, 0]
def k0_off6 (k0_t2 : Fin k0_t2_loop.trips) (c0_i32_202 : BitVec 32) : Fin 4 → Nat :=
  let c0_i32_203 : BitVec 32 := 0#32
  let v443 : Index := Scalar.indexCast c0_i32_203
  let c3_i32_201 : BitVec 32 := 3#32
  let c0_i32_77 : BitVec 32 := 0#32
  let c1_i32_79 : BitVec 32 := 1#32
  let arg13 : BitVec 32 := Scf.iv c0_i32_77 c1_i32_79 k0_t2
  let v441 : BitVec 32 := Scalar.muli c3_i32_201 arg13
  let v442 : BitVec 32 := Scalar.addi v441 c0_i32_202
  let v444 : Index := Scalar.indexCast v442
  let c0_i32_204 : BitVec 32 := 0#32
  let v445 : Index := Scalar.indexCast c0_i32_204
  let c16_205 : Index := 16#32
  ![0, v444.toNat, 0, 16]
def k0_off7 (k0_t2 : Fin k0_t2_loop.trips) (c0_i32_207 : BitVec 32) : Fin 4 → Nat :=
  let c0_i32_208 : BitVec 32 := 0#32
  let v452 : Index := Scalar.indexCast c0_i32_208
  let c3_i32_206 : BitVec 32 := 3#32
  let c0_i32_77 : BitVec 32 := 0#32
  let c1_i32_79 : BitVec 32 := 1#32
  let arg13 : BitVec 32 := Scf.iv c0_i32_77 c1_i32_79 k0_t2
  let v450 : BitVec 32 := Scalar.muli c3_i32_206 arg13
  let v451 : BitVec 32 := Scalar.addi v450 c0_i32_207
  let v453 : Index := Scalar.indexCast v451
  let c0_i32_209 : BitVec 32 := 0#32
  let v454 : Index := Scalar.indexCast c0_i32_209
  let c32_210 : Index := 32#32
  ![0, v453.toNat, 0, 32]
def k0_off8 (k0_t2 : Fin k0_t2_loop.trips) (c0_i32_212 : BitVec 32) : Fin 4 → Nat :=
  let c0_i32_213 : BitVec 32 := 0#32
  let v461 : Index := Scalar.indexCast c0_i32_213
  let c3_i32_211 : BitVec 32 := 3#32
  let c0_i32_77 : BitVec 32 := 0#32
  let c1_i32_79 : BitVec 32 := 1#32
  let arg13 : BitVec 32 := Scf.iv c0_i32_77 c1_i32_79 k0_t2
  let v459 : BitVec 32 := Scalar.muli c3_i32_211 arg13
  let v460 : BitVec 32 := Scalar.addi v459 c0_i32_212
  let v462 : Index := Scalar.indexCast v460
  let c0_i32_214 : BitVec 32 := 0#32
  let v463 : Index := Scalar.indexCast c0_i32_214
  let c48_215 : Index := 48#32
  ![0, v462.toNat, 0, 48]
def k0_off9 (k0_t2 : Fin k0_t2_loop.trips) (c0_i32_217 : BitVec 32) : Fin 4 → Nat :=
  let c0_i32_218 : BitVec 32 := 0#32
  let v470 : Index := Scalar.indexCast c0_i32_218
  let c3_i32_216 : BitVec 32 := 3#32
  let c0_i32_77 : BitVec 32 := 0#32
  let c1_i32_79 : BitVec 32 := 1#32
  let arg13 : BitVec 32 := Scf.iv c0_i32_77 c1_i32_79 k0_t2
  let v468 : BitVec 32 := Scalar.muli c3_i32_216 arg13
  let v469 : BitVec 32 := Scalar.addi v468 c0_i32_217
  let v471 : Index := Scalar.indexCast v469
  let c0_i32_219 : BitVec 32 := 0#32
  let v472 : Index := Scalar.indexCast c0_i32_219
  let c64_220 : Index := 64#32
  ![0, v471.toNat, 0, 64]
def k0_off10 (k0_t2 : Fin k0_t2_loop.trips) (c0_i32_222 : BitVec 32) : Fin 4 → Nat :=
  let c0_i32_223 : BitVec 32 := 0#32
  let v479 : Index := Scalar.indexCast c0_i32_223
  let c3_i32_221 : BitVec 32 := 3#32
  let c0_i32_77 : BitVec 32 := 0#32
  let c1_i32_79 : BitVec 32 := 1#32
  let arg13 : BitVec 32 := Scf.iv c0_i32_77 c1_i32_79 k0_t2
  let v477 : BitVec 32 := Scalar.muli c3_i32_221 arg13
  let v478 : BitVec 32 := Scalar.addi v477 c0_i32_222
  let v480 : Index := Scalar.indexCast v478
  let c0_i32_224 : BitVec 32 := 0#32
  let v481 : Index := Scalar.indexCast c0_i32_224
  let c80_225 : Index := 80#32
  ![0, v480.toNat, 0, 80]
def k0_off11 (k0_t2 : Fin k0_t2_loop.trips) (c0_i32_227 : BitVec 32) : Fin 4 → Nat :=
  let c0_i32_228 : BitVec 32 := 0#32
  let v488 : Index := Scalar.indexCast c0_i32_228
  let c3_i32_226 : BitVec 32 := 3#32
  let c0_i32_77 : BitVec 32 := 0#32
  let c1_i32_79 : BitVec 32 := 1#32
  let arg13 : BitVec 32 := Scf.iv c0_i32_77 c1_i32_79 k0_t2
  let v486 : BitVec 32 := Scalar.muli c3_i32_226 arg13
  let v487 : BitVec 32 := Scalar.addi v486 c0_i32_227
  let v489 : Index := Scalar.indexCast v487
  let c0_i32_229 : BitVec 32 := 0#32
  let v490 : Index := Scalar.indexCast c0_i32_229
  let c96_230 : Index := 96#32
  ![0, v489.toNat, 0, 96]
def k0_off12 (k0_t2 : Fin k0_t2_loop.trips) (c0_i32_232 : BitVec 32) : Fin 4 → Nat :=
  let c0_i32_233 : BitVec 32 := 0#32
  let v497 : Index := Scalar.indexCast c0_i32_233
  let c3_i32_231 : BitVec 32 := 3#32
  let c0_i32_77 : BitVec 32 := 0#32
  let c1_i32_79 : BitVec 32 := 1#32
  let arg13 : BitVec 32 := Scf.iv c0_i32_77 c1_i32_79 k0_t2
  let v495 : BitVec 32 := Scalar.muli c3_i32_231 arg13
  let v496 : BitVec 32 := Scalar.addi v495 c0_i32_232
  let v498 : Index := Scalar.indexCast v496
  let c0_i32_234 : BitVec 32 := 0#32
  let v499 : Index := Scalar.indexCast c0_i32_234
  let c112_235 : Index := 112#32
  ![0, v498.toNat, 0, 112]
def k0_off13 (k0_t2 : Fin k0_t2_loop.trips) (c0_i32_237 : BitVec 32) : Fin 4 → Nat :=
  let c0_i32_238 : BitVec 32 := 0#32
  let v506 : Index := Scalar.indexCast c0_i32_238
  let c3_i32_236 : BitVec 32 := 3#32
  let c0_i32_77 : BitVec 32 := 0#32
  let c1_i32_79 : BitVec 32 := 1#32
  let arg13 : BitVec 32 := Scf.iv c0_i32_77 c1_i32_79 k0_t2
  let v504 : BitVec 32 := Scalar.muli c3_i32_236 arg13
  let v505 : BitVec 32 := Scalar.addi v504 c0_i32_237
  let v507 : Index := Scalar.indexCast v505
  let c1_i32_239 : BitVec 32 := 1#32
  let v508 : Index := Scalar.indexCast c1_i32_239
  let c0_240 : Index := 0#32
  ![0, v507.toNat, 1, 0]
def k0_off14 (k0_t2 : Fin k0_t2_loop.trips) (c0_i32_242 : BitVec 32) : Fin 4 → Nat :=
  let c0_i32_243 : BitVec 32 := 0#32
  let v515 : Index := Scalar.indexCast c0_i32_243
  let c3_i32_241 : BitVec 32 := 3#32
  let c0_i32_77 : BitVec 32 := 0#32
  let c1_i32_79 : BitVec 32 := 1#32
  let arg13 : BitVec 32 := Scf.iv c0_i32_77 c1_i32_79 k0_t2
  let v513 : BitVec 32 := Scalar.muli c3_i32_241 arg13
  let v514 : BitVec 32 := Scalar.addi v513 c0_i32_242
  let v516 : Index := Scalar.indexCast v514
  let c1_i32_244 : BitVec 32 := 1#32
  let v517 : Index := Scalar.indexCast c1_i32_244
  let c16_245 : Index := 16#32
  ![0, v516.toNat, 1, 16]
def k0_off15 (k0_t2 : Fin k0_t2_loop.trips) (c0_i32_247 : BitVec 32) : Fin 4 → Nat :=
  let c0_i32_248 : BitVec 32 := 0#32
  let v524 : Index := Scalar.indexCast c0_i32_248
  let c3_i32_246 : BitVec 32 := 3#32
  let c0_i32_77 : BitVec 32 := 0#32
  let c1_i32_79 : BitVec 32 := 1#32
  let arg13 : BitVec 32 := Scf.iv c0_i32_77 c1_i32_79 k0_t2
  let v522 : BitVec 32 := Scalar.muli c3_i32_246 arg13
  let v523 : BitVec 32 := Scalar.addi v522 c0_i32_247
  let v525 : Index := Scalar.indexCast v523
  let c1_i32_249 : BitVec 32 := 1#32
  let v526 : Index := Scalar.indexCast c1_i32_249
  let c32_250 : Index := 32#32
  ![0, v525.toNat, 1, 32]
def k0_off16 (k0_t2 : Fin k0_t2_loop.trips) (c0_i32_252 : BitVec 32) : Fin 4 → Nat :=
  let c0_i32_253 : BitVec 32 := 0#32
  let v533 : Index := Scalar.indexCast c0_i32_253
  let c3_i32_251 : BitVec 32 := 3#32
  let c0_i32_77 : BitVec 32 := 0#32
  let c1_i32_79 : BitVec 32 := 1#32
  let arg13 : BitVec 32 := Scf.iv c0_i32_77 c1_i32_79 k0_t2
  let v531 : BitVec 32 := Scalar.muli c3_i32_251 arg13
  let v532 : BitVec 32 := Scalar.addi v531 c0_i32_252
  let v534 : Index := Scalar.indexCast v532
  let c1_i32_254 : BitVec 32 := 1#32
  let v535 : Index := Scalar.indexCast c1_i32_254
  let c48_255 : Index := 48#32
  ![0, v534.toNat, 1, 48]
def k0_off17 (k0_t2 : Fin k0_t2_loop.trips) (c0_i32_257 : BitVec 32) : Fin 4 → Nat :=
  let c0_i32_258 : BitVec 32 := 0#32
  let v542 : Index := Scalar.indexCast c0_i32_258
  let c3_i32_256 : BitVec 32 := 3#32
  let c0_i32_77 : BitVec 32 := 0#32
  let c1_i32_79 : BitVec 32 := 1#32
  let arg13 : BitVec 32 := Scf.iv c0_i32_77 c1_i32_79 k0_t2
  let v540 : BitVec 32 := Scalar.muli c3_i32_256 arg13
  let v541 : BitVec 32 := Scalar.addi v540 c0_i32_257
  let v543 : Index := Scalar.indexCast v541
  let c1_i32_259 : BitVec 32 := 1#32
  let v544 : Index := Scalar.indexCast c1_i32_259
  let c64_260 : Index := 64#32
  ![0, v543.toNat, 1, 64]
def k0_off18 (k0_t2 : Fin k0_t2_loop.trips) (c0_i32_262 : BitVec 32) : Fin 4 → Nat :=
  let c0_i32_263 : BitVec 32 := 0#32
  let v551 : Index := Scalar.indexCast c0_i32_263
  let c3_i32_261 : BitVec 32 := 3#32
  let c0_i32_77 : BitVec 32 := 0#32
  let c1_i32_79 : BitVec 32 := 1#32
  let arg13 : BitVec 32 := Scf.iv c0_i32_77 c1_i32_79 k0_t2
  let v549 : BitVec 32 := Scalar.muli c3_i32_261 arg13
  let v550 : BitVec 32 := Scalar.addi v549 c0_i32_262
  let v552 : Index := Scalar.indexCast v550
  let c1_i32_264 : BitVec 32 := 1#32
  let v553 : Index := Scalar.indexCast c1_i32_264
  let c80_265 : Index := 80#32
  ![0, v552.toNat, 1, 80]
def k0_off19 (k0_t2 : Fin k0_t2_loop.trips) (c0_i32_267 : BitVec 32) : Fin 4 → Nat :=
  let c0_i32_268 : BitVec 32 := 0#32
  let v560 : Index := Scalar.indexCast c0_i32_268
  let c3_i32_266 : BitVec 32 := 3#32
  let c0_i32_77 : BitVec 32 := 0#32
  let c1_i32_79 : BitVec 32 := 1#32
  let arg13 : BitVec 32 := Scf.iv c0_i32_77 c1_i32_79 k0_t2
  let v558 : BitVec 32 := Scalar.muli c3_i32_266 arg13
  let v559 : BitVec 32 := Scalar.addi v558 c0_i32_267
  let v561 : Index := Scalar.indexCast v559
  let c1_i32_269 : BitVec 32 := 1#32
  let v562 : Index := Scalar.indexCast c1_i32_269
  let c96_270 : Index := 96#32
  ![0, v561.toNat, 1, 96]
def k0_off20 (k0_t2 : Fin k0_t2_loop.trips) (c0_i32_272 : BitVec 32) : Fin 4 → Nat :=
  let c0_i32_273 : BitVec 32 := 0#32
  let v569 : Index := Scalar.indexCast c0_i32_273
  let c3_i32_271 : BitVec 32 := 3#32
  let c0_i32_77 : BitVec 32 := 0#32
  let c1_i32_79 : BitVec 32 := 1#32
  let arg13 : BitVec 32 := Scf.iv c0_i32_77 c1_i32_79 k0_t2
  let v567 : BitVec 32 := Scalar.muli c3_i32_271 arg13
  let v568 : BitVec 32 := Scalar.addi v567 c0_i32_272
  let v570 : Index := Scalar.indexCast v568
  let c1_i32_274 : BitVec 32 := 1#32
  let v571 : Index := Scalar.indexCast c1_i32_274
  let c112_275 : Index := 112#32
  ![0, v570.toNat, 1, 112]
def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_21 : BitVec 32 := 2#32
  let c0_i32_17 : BitVec 32 := 0#32
  let c1_i32_19 : BitVec 32 := 1#32
  let arg12 : BitVec 32 := Scf.iv c0_i32_17 c1_i32_19 k0_t1
  let v16 : BitVec 32 := Scalar.muli c2_i32_21 arg12
  let v216 : BitVec 32 := Scalar.addi v2 v16
  let c0_i32_195_r2 : BitVec 32 := 0#32
  ![v216.toNat, 0]
def k0_cond1 (k0_t1 : Fin k0_t1_loop.trips) : BitVec 1 :=
  let c2_i32_21 : BitVec 32 := 2#32
  let c0_i32_17 : BitVec 32 := 0#32
  let c1_i32_19 : BitVec 32 := 1#32
  let arg12 : BitVec 32 := Scf.iv c0_i32_17 c1_i32_19 k0_t1
  let v16 : BitVec 32 := Scalar.muli c2_i32_21 arg12
  let c2_i32_81 : BitVec 32 := 2#32
  let v217 : BitVec 32 := Scalar.addi v16 c2_i32_81
  let c64_i32_82 : BitVec 32 := 64#32
  let v218 : BitVec 1 := Scalar.cmpi .slt v217 c64_i32_82
  let v219 : BitVec 32 := Scalar.extui v218
  let c0_i32_83 : BitVec 32 := 0#32
  let v220 : BitVec 1 := Scalar.cmpi .ne v219 c0_i32_83
  v220

def k0_off22 (k0_t1 : Fin k0_t1_loop.trips) : Fin 2 → Nat :=
  let c2_i32_21 : BitVec 32 := 2#32
  let c0_i32_17 : BitVec 32 := 0#32
  let c1_i32_19 : BitVec 32 := 1#32
  let arg12 : BitVec 32 := Scf.iv c0_i32_17 c1_i32_19 k0_t1
  let v16 : BitVec 32 := Scalar.muli c2_i32_21 arg12
  let c2_i32_195 : BitVec 32 := 2#32
  let v426 : BitVec 32 := Scalar.addi v16 c2_i32_195
  let c0_i32_200 : BitVec 32 := 0#32
  ![v426.toNat, 0]
def k0_off23 (k0_t1 : Fin k0_t1_loop.trips) : Fin 2 → Nat :=
  let c2_i32_21 : BitVec 32 := 2#32
  let c0_i32_17 : BitVec 32 := 0#32
  let c1_i32_19 : BitVec 32 := 1#32
  let arg12 : BitVec 32 := Scf.iv c0_i32_17 c1_i32_19 k0_t1
  let v16 : BitVec 32 := Scalar.muli c2_i32_21 arg12
  let c1_i32_84 : BitVec 32 := 1#32
  let v221 : BitVec 32 := Scalar.addi v16 c1_i32_84
  let c0_i32_89 : BitVec 32 := 0#32
  ![v221.toNat, 0]
@[reducible] def k0_t3_loop : Scf.Loop 32 :=
  let c0_i32_141 : BitVec 32 := 0#32
  let c32_i32_142 : BitVec 32 := 32#32
  let v275 : BitVec 32 := Scalar.addi c0_i32_141 c32_i32_142
  let c1_i32_143 : BitVec 32 := 1#32
  ⟨c0_i32_141, v275, c1_i32_143⟩
def k0_off24 (k0_t1 : Fin k0_t1_loop.trips) (k0_t3 : Fin k0_t3_loop.trips) : Fin 1 → Nat :=
  let c2_i32_21 : BitVec 32 := 2#32
  let c0_i32_17 : BitVec 32 := 0#32
  let c1_i32_19 : BitVec 32 := 1#32
  let arg12 : BitVec 32 := Scf.iv c0_i32_17 c1_i32_19 k0_t1
  let v16 : BitVec 32 := Scalar.muli c2_i32_21 arg12
  let c1_i32_84 : BitVec 32 := 1#32
  let v221 : BitVec 32 := Scalar.addi v16 c1_i32_84
  let c512_i32 : BitVec 32 := 512#32
  let v426 : BitVec 32 := Scalar.muli v221 c512_i32
  let c0_i32_141 : BitVec 32 := 0#32
  let c1_i32_143 : BitVec 32 := 1#32
  let arg13 : BitVec 32 := Scf.iv c0_i32_141 c1_i32_143 k0_t3
  let c16_i32_195 : BitVec 32 := 16#32
  let v427 : BitVec 32 := Scalar.muli arg13 c16_i32_195
  let v428 : BitVec 32 := Scalar.addi v426 v427
  let v429 : Index := Scalar.indexCast v428
  ![v429.toNat]
def k0_off25 (k0_t3 : Fin k0_t3_loop.trips) (c0_i32_197 : BitVec 32) : Fin 4 → Nat :=
  let c1_i32_198 : BitVec 32 := 1#32
  let v434 : Index := Scalar.indexCast c1_i32_198
  let c3_i32_196 : BitVec 32 := 3#32
  let c0_i32_141 : BitVec 32 := 0#32
  let c1_i32_143 : BitVec 32 := 1#32
  let arg13 : BitVec 32 := Scf.iv c0_i32_141 c1_i32_143 k0_t3
  let v432 : BitVec 32 := Scalar.muli c3_i32_196 arg13
  let v433 : BitVec 32 := Scalar.addi v432 c0_i32_197
  let v435 : Index := Scalar.indexCast v433
  let c0_i32_199 : BitVec 32 := 0#32
  let v436 : Index := Scalar.indexCast c0_i32_199
  let c0_200 : Index := 0#32
  ![1, v435.toNat, 0, 0]
def k0_off26 (k0_t3 : Fin k0_t3_loop.trips) (c0_i32_202 : BitVec 32) : Fin 4 → Nat :=
  let c1_i32_203 : BitVec 32 := 1#32
  let v443 : Index := Scalar.indexCast c1_i32_203
  let c3_i32_201 : BitVec 32 := 3#32
  let c0_i32_141 : BitVec 32 := 0#32
  let c1_i32_143 : BitVec 32 := 1#32
  let arg13 : BitVec 32 := Scf.iv c0_i32_141 c1_i32_143 k0_t3
  let v441 : BitVec 32 := Scalar.muli c3_i32_201 arg13
  let v442 : BitVec 32 := Scalar.addi v441 c0_i32_202
  let v444 : Index := Scalar.indexCast v442
  let c0_i32_204 : BitVec 32 := 0#32
  let v445 : Index := Scalar.indexCast c0_i32_204
  let c16_205 : Index := 16#32
  ![1, v444.toNat, 0, 16]
def k0_off27 (k0_t3 : Fin k0_t3_loop.trips) (c0_i32_207 : BitVec 32) : Fin 4 → Nat :=
  let c1_i32_208 : BitVec 32 := 1#32
  let v452 : Index := Scalar.indexCast c1_i32_208
  let c3_i32_206 : BitVec 32 := 3#32
  let c0_i32_141 : BitVec 32 := 0#32
  let c1_i32_143 : BitVec 32 := 1#32
  let arg13 : BitVec 32 := Scf.iv c0_i32_141 c1_i32_143 k0_t3
  let v450 : BitVec 32 := Scalar.muli c3_i32_206 arg13
  let v451 : BitVec 32 := Scalar.addi v450 c0_i32_207
  let v453 : Index := Scalar.indexCast v451
  let c0_i32_209 : BitVec 32 := 0#32
  let v454 : Index := Scalar.indexCast c0_i32_209
  let c32_210 : Index := 32#32
  ![1, v453.toNat, 0, 32]
def k0_off28 (k0_t3 : Fin k0_t3_loop.trips) (c0_i32_212 : BitVec 32) : Fin 4 → Nat :=
  let c1_i32_213 : BitVec 32 := 1#32
  let v461 : Index := Scalar.indexCast c1_i32_213
  let c3_i32_211 : BitVec 32 := 3#32
  let c0_i32_141 : BitVec 32 := 0#32
  let c1_i32_143 : BitVec 32 := 1#32
  let arg13 : BitVec 32 := Scf.iv c0_i32_141 c1_i32_143 k0_t3
  let v459 : BitVec 32 := Scalar.muli c3_i32_211 arg13
  let v460 : BitVec 32 := Scalar.addi v459 c0_i32_212
  let v462 : Index := Scalar.indexCast v460
  let c0_i32_214 : BitVec 32 := 0#32
  let v463 : Index := Scalar.indexCast c0_i32_214
  let c48_215 : Index := 48#32
  ![1, v462.toNat, 0, 48]
def k0_off29 (k0_t3 : Fin k0_t3_loop.trips) (c0_i32_217 : BitVec 32) : Fin 4 → Nat :=
  let c1_i32_218 : BitVec 32 := 1#32
  let v470 : Index := Scalar.indexCast c1_i32_218
  let c3_i32_216 : BitVec 32 := 3#32
  let c0_i32_141 : BitVec 32 := 0#32
  let c1_i32_143 : BitVec 32 := 1#32
  let arg13 : BitVec 32 := Scf.iv c0_i32_141 c1_i32_143 k0_t3
  let v468 : BitVec 32 := Scalar.muli c3_i32_216 arg13
  let v469 : BitVec 32 := Scalar.addi v468 c0_i32_217
  let v471 : Index := Scalar.indexCast v469
  let c0_i32_219 : BitVec 32 := 0#32
  let v472 : Index := Scalar.indexCast c0_i32_219
  let c64_220 : Index := 64#32
  ![1, v471.toNat, 0, 64]
def k0_off30 (k0_t3 : Fin k0_t3_loop.trips) (c0_i32_222 : BitVec 32) : Fin 4 → Nat :=
  let c1_i32_223 : BitVec 32 := 1#32
  let v479 : Index := Scalar.indexCast c1_i32_223
  let c3_i32_221 : BitVec 32 := 3#32
  let c0_i32_141 : BitVec 32 := 0#32
  let c1_i32_143 : BitVec 32 := 1#32
  let arg13 : BitVec 32 := Scf.iv c0_i32_141 c1_i32_143 k0_t3
  let v477 : BitVec 32 := Scalar.muli c3_i32_221 arg13
  let v478 : BitVec 32 := Scalar.addi v477 c0_i32_222
  let v480 : Index := Scalar.indexCast v478
  let c0_i32_224 : BitVec 32 := 0#32
  let v481 : Index := Scalar.indexCast c0_i32_224
  let c80_225 : Index := 80#32
  ![1, v480.toNat, 0, 80]
def k0_off31 (k0_t3 : Fin k0_t3_loop.trips) (c0_i32_227 : BitVec 32) : Fin 4 → Nat :=
  let c1_i32_228 : BitVec 32 := 1#32
  let v488 : Index := Scalar.indexCast c1_i32_228
  let c3_i32_226 : BitVec 32 := 3#32
  let c0_i32_141 : BitVec 32 := 0#32
  let c1_i32_143 : BitVec 32 := 1#32
  let arg13 : BitVec 32 := Scf.iv c0_i32_141 c1_i32_143 k0_t3
  let v486 : BitVec 32 := Scalar.muli c3_i32_226 arg13
  let v487 : BitVec 32 := Scalar.addi v486 c0_i32_227
  let v489 : Index := Scalar.indexCast v487
  let c0_i32_229 : BitVec 32 := 0#32
  let v490 : Index := Scalar.indexCast c0_i32_229
  let c96_230 : Index := 96#32
  ![1, v489.toNat, 0, 96]
def k0_off32 (k0_t3 : Fin k0_t3_loop.trips) (c0_i32_232 : BitVec 32) : Fin 4 → Nat :=
  let c1_i32_233 : BitVec 32 := 1#32
  let v497 : Index := Scalar.indexCast c1_i32_233
  let c3_i32_231 : BitVec 32 := 3#32
  let c0_i32_141 : BitVec 32 := 0#32
  let c1_i32_143 : BitVec 32 := 1#32
  let arg13 : BitVec 32 := Scf.iv c0_i32_141 c1_i32_143 k0_t3
  let v495 : BitVec 32 := Scalar.muli c3_i32_231 arg13
  let v496 : BitVec 32 := Scalar.addi v495 c0_i32_232
  let v498 : Index := Scalar.indexCast v496
  let c0_i32_234 : BitVec 32 := 0#32
  let v499 : Index := Scalar.indexCast c0_i32_234
  let c112_235 : Index := 112#32
  ![1, v498.toNat, 0, 112]
def k0_off33 (k0_t3 : Fin k0_t3_loop.trips) (c0_i32_237 : BitVec 32) : Fin 4 → Nat :=
  let c1_i32_238 : BitVec 32 := 1#32
  let v506 : Index := Scalar.indexCast c1_i32_238
  let c3_i32_236 : BitVec 32 := 3#32
  let c0_i32_141 : BitVec 32 := 0#32
  let c1_i32_143 : BitVec 32 := 1#32
  let arg13 : BitVec 32 := Scf.iv c0_i32_141 c1_i32_143 k0_t3
  let v504 : BitVec 32 := Scalar.muli c3_i32_236 arg13
  let v505 : BitVec 32 := Scalar.addi v504 c0_i32_237
  let v507 : Index := Scalar.indexCast v505
  let c1_i32_239 : BitVec 32 := 1#32
  let v508 : Index := Scalar.indexCast c1_i32_239
  let c0_240 : Index := 0#32
  ![1, v507.toNat, 1, 0]
def k0_off34 (k0_t3 : Fin k0_t3_loop.trips) (c0_i32_242 : BitVec 32) : Fin 4 → Nat :=
  let c1_i32_243 : BitVec 32 := 1#32
  let v515 : Index := Scalar.indexCast c1_i32_243
  let c3_i32_241 : BitVec 32 := 3#32
  let c0_i32_141 : BitVec 32 := 0#32
  let c1_i32_143 : BitVec 32 := 1#32
  let arg13 : BitVec 32 := Scf.iv c0_i32_141 c1_i32_143 k0_t3
  let v513 : BitVec 32 := Scalar.muli c3_i32_241 arg13
  let v514 : BitVec 32 := Scalar.addi v513 c0_i32_242
  let v516 : Index := Scalar.indexCast v514
  let c1_i32_244 : BitVec 32 := 1#32
  let v517 : Index := Scalar.indexCast c1_i32_244
  let c16_245 : Index := 16#32
  ![1, v516.toNat, 1, 16]
def k0_off35 (k0_t3 : Fin k0_t3_loop.trips) (c0_i32_247 : BitVec 32) : Fin 4 → Nat :=
  let c1_i32_248 : BitVec 32 := 1#32
  let v524 : Index := Scalar.indexCast c1_i32_248
  let c3_i32_246 : BitVec 32 := 3#32
  let c0_i32_141 : BitVec 32 := 0#32
  let c1_i32_143 : BitVec 32 := 1#32
  let arg13 : BitVec 32 := Scf.iv c0_i32_141 c1_i32_143 k0_t3
  let v522 : BitVec 32 := Scalar.muli c3_i32_246 arg13
  let v523 : BitVec 32 := Scalar.addi v522 c0_i32_247
  let v525 : Index := Scalar.indexCast v523
  let c1_i32_249 : BitVec 32 := 1#32
  let v526 : Index := Scalar.indexCast c1_i32_249
  let c32_250 : Index := 32#32
  ![1, v525.toNat, 1, 32]
def k0_off36 (k0_t3 : Fin k0_t3_loop.trips) (c0_i32_252 : BitVec 32) : Fin 4 → Nat :=
  let c1_i32_253 : BitVec 32 := 1#32
  let v533 : Index := Scalar.indexCast c1_i32_253
  let c3_i32_251 : BitVec 32 := 3#32
  let c0_i32_141 : BitVec 32 := 0#32
  let c1_i32_143 : BitVec 32 := 1#32
  let arg13 : BitVec 32 := Scf.iv c0_i32_141 c1_i32_143 k0_t3
  let v531 : BitVec 32 := Scalar.muli c3_i32_251 arg13
  let v532 : BitVec 32 := Scalar.addi v531 c0_i32_252
  let v534 : Index := Scalar.indexCast v532
  let c1_i32_254 : BitVec 32 := 1#32
  let v535 : Index := Scalar.indexCast c1_i32_254
  let c48_255 : Index := 48#32
  ![1, v534.toNat, 1, 48]
def k0_off37 (k0_t3 : Fin k0_t3_loop.trips) (c0_i32_257 : BitVec 32) : Fin 4 → Nat :=
  let c1_i32_258 : BitVec 32 := 1#32
  let v542 : Index := Scalar.indexCast c1_i32_258
  let c3_i32_256 : BitVec 32 := 3#32
  let c0_i32_141 : BitVec 32 := 0#32
  let c1_i32_143 : BitVec 32 := 1#32
  let arg13 : BitVec 32 := Scf.iv c0_i32_141 c1_i32_143 k0_t3
  let v540 : BitVec 32 := Scalar.muli c3_i32_256 arg13
  let v541 : BitVec 32 := Scalar.addi v540 c0_i32_257
  let v543 : Index := Scalar.indexCast v541
  let c1_i32_259 : BitVec 32 := 1#32
  let v544 : Index := Scalar.indexCast c1_i32_259
  let c64_260 : Index := 64#32
  ![1, v543.toNat, 1, 64]
def k0_off38 (k0_t3 : Fin k0_t3_loop.trips) (c0_i32_262 : BitVec 32) : Fin 4 → Nat :=
  let c1_i32_263 : BitVec 32 := 1#32
  let v551 : Index := Scalar.indexCast c1_i32_263
  let c3_i32_261 : BitVec 32 := 3#32
  let c0_i32_141 : BitVec 32 := 0#32
  let c1_i32_143 : BitVec 32 := 1#32
  let arg13 : BitVec 32 := Scf.iv c0_i32_141 c1_i32_143 k0_t3
  let v549 : BitVec 32 := Scalar.muli c3_i32_261 arg13
  let v550 : BitVec 32 := Scalar.addi v549 c0_i32_262
  let v552 : Index := Scalar.indexCast v550
  let c1_i32_264 : BitVec 32 := 1#32
  let v553 : Index := Scalar.indexCast c1_i32_264
  let c80_265 : Index := 80#32
  ![1, v552.toNat, 1, 80]
def k0_off39 (k0_t3 : Fin k0_t3_loop.trips) (c0_i32_267 : BitVec 32) : Fin 4 → Nat :=
  let c1_i32_268 : BitVec 32 := 1#32
  let v560 : Index := Scalar.indexCast c1_i32_268
  let c3_i32_266 : BitVec 32 := 3#32
  let c0_i32_141 : BitVec 32 := 0#32
  let c1_i32_143 : BitVec 32 := 1#32
  let arg13 : BitVec 32 := Scf.iv c0_i32_141 c1_i32_143 k0_t3
  let v558 : BitVec 32 := Scalar.muli c3_i32_266 arg13
  let v559 : BitVec 32 := Scalar.addi v558 c0_i32_267
  let v561 : Index := Scalar.indexCast v559
  let c1_i32_269 : BitVec 32 := 1#32
  let v562 : Index := Scalar.indexCast c1_i32_269
  let c96_270 : Index := 96#32
  ![1, v561.toNat, 1, 96]
def k0_off40 (k0_t3 : Fin k0_t3_loop.trips) (c0_i32_272 : BitVec 32) : Fin 4 → Nat :=
  let c1_i32_273 : BitVec 32 := 1#32
  let v569 : Index := Scalar.indexCast c1_i32_273
  let c3_i32_271 : BitVec 32 := 3#32
  let c0_i32_141 : BitVec 32 := 0#32
  let c1_i32_143 : BitVec 32 := 1#32
  let arg13 : BitVec 32 := Scf.iv c0_i32_141 c1_i32_143 k0_t3
  let v567 : BitVec 32 := Scalar.muli c3_i32_271 arg13
  let v568 : BitVec 32 := Scalar.addi v567 c0_i32_272
  let v570 : Index := Scalar.indexCast v568
  let c1_i32_274 : BitVec 32 := 1#32
  let v571 : Index := Scalar.indexCast c1_i32_274
  let c112_275 : Index := 112#32
  ![1, v570.toNat, 1, 112]
def k0_off41 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_21 : BitVec 32 := 2#32
  let c0_i32_17 : BitVec 32 := 0#32
  let c1_i32_19 : BitVec 32 := 1#32
  let arg12 : BitVec 32 := Scf.iv c0_i32_17 c1_i32_19 k0_t1
  let v16 : BitVec 32 := Scalar.muli c2_i32_21 arg12
  let c1_i32_84 : BitVec 32 := 1#32
  let v221 : BitVec 32 := Scalar.addi v16 c1_i32_84
  let v421 : BitVec 32 := Scalar.addi v2 v221
  let c0_i32_195_r3 : BitVec 32 := 0#32
  ![v421.toNat, 0]
def k0_cond2 (k0_t1 : Fin k0_t1_loop.trips) : BitVec 1 :=
  let c2_i32_21 : BitVec 32 := 2#32
  let c0_i32_17 : BitVec 32 := 0#32
  let c1_i32_19 : BitVec 32 := 1#32
  let arg12 : BitVec 32 := Scf.iv c0_i32_17 c1_i32_19 k0_t1
  let v16 : BitVec 32 := Scalar.muli c2_i32_21 arg12
  let c3_i32 : BitVec 32 := 3#32
  let v422 : BitVec 32 := Scalar.addi v16 c3_i32
  let c64_i32_193 : BitVec 32 := 64#32
  let v423 : BitVec 1 := Scalar.cmpi .slt v422 c64_i32_193
  let v424 : BitVec 32 := Scalar.extui v423
  let c0_i32_194 : BitVec 32 := 0#32
  let v425 : BitVec 1 := Scalar.cmpi .ne v424 c0_i32_194
  v425

def k0_off42 (k0_t1 : Fin k0_t1_loop.trips) : Fin 2 → Nat :=
  let c2_i32_21 : BitVec 32 := 2#32
  let c0_i32_17 : BitVec 32 := 0#32
  let c1_i32_19 : BitVec 32 := 1#32
  let arg12 : BitVec 32 := Scf.iv c0_i32_17 c1_i32_19 k0_t1
  let v16 : BitVec 32 := Scalar.muli c2_i32_21 arg12
  let c3_i32_195 : BitVec 32 := 3#32
  let v426 : BitVec 32 := Scalar.addi v16 c3_i32_195
  let c0_i32_200 : BitVec 32 := 0#32
  ![v426.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x32 : Shape := ⟨2, ![2048, 32]⟩
abbrev S49152x768 : Shape := ⟨2, ![49152, 768]⟩
abbrev S2048x32x1 : Shape := ⟨3, ![2048, 32, 1]⟩
abbrev S_ : Shape := ⟨0, ![]⟩
abbrev S1 : Shape := ⟨1, ![1]⟩
abbrev S1x1x1 : Shape := ⟨3, ![1, 1, 1]⟩
abbrev S2048x32x768 : Shape := ⟨3, ![2048, 32, 768]⟩
abbrev S2048x768 : Shape := ⟨2, ![2048, 768]⟩

abbrev nBuf : Space → Nat
  | .hbm => 31
  | .vmem => 0
  | .smem => 0
  | _ => 0

abbrev bufTy : (tb : Table) → Fin (tcTables nBuf tb) → BufTy
  | .hbm, ⟨0, _⟩ => ⟨S2048x32, .i32⟩
  | .hbm, ⟨1, _⟩ => ⟨S2048x32, .f32⟩
  | .hbm, ⟨2, _⟩ => ⟨S49152x768, .f32⟩
  | .hbm, ⟨3, _⟩ => ⟨S2048x32x1, .f32⟩
  | .hbm, ⟨4, _⟩ => ⟨S_, .i32⟩
  | .hbm, ⟨5, _⟩ => ⟨S2048x32, .i32⟩
  | .hbm, ⟨6, _⟩ => ⟨S2048x32, .i1⟩
  | .hbm, ⟨7, _⟩ => ⟨S_, .i32⟩
  | .hbm, ⟨8, _⟩ => ⟨S2048x32, .i32⟩
  | .hbm, ⟨9, _⟩ => ⟨S2048x32, .i32⟩
  | .hbm, ⟨10, _⟩ => ⟨S2048x32, .i32⟩
  | .hbm, ⟨11, _⟩ => ⟨S2048x32x1, .i32⟩
  | .hbm, ⟨12, _⟩ => ⟨S1, .i32⟩
  | .hbm, ⟨13, _⟩ => ⟨S_, .i32⟩
  | .hbm, ⟨14, _⟩ => ⟨S2048x32x1, .i32⟩
  | .hbm, ⟨15, _⟩ => ⟨S2048x32x1, .i1⟩
  | .hbm, ⟨16, _⟩ => ⟨S1x1x1, .i32⟩
  | .hbm, ⟨17, _⟩ => ⟨S2048x32x1, .i32⟩
  | .hbm, ⟨18, _⟩ => ⟨S2048x32x1, .i1⟩
  | .hbm, ⟨19, _⟩ => ⟨S2048x32x1, .i1⟩
  | .hbm, ⟨20, _⟩ => ⟨S_, .i1⟩
  | .hbm, ⟨21, _⟩ => ⟨S2048x32, .i1⟩
  | .hbm, ⟨22, _⟩ => ⟨S2048x32x768, .f32⟩
  | .hbm, ⟨23, _⟩ => ⟨S2048x32x768, .i1⟩
  | .hbm, ⟨24, _⟩ => ⟨S_, .f32⟩
  | .hbm, ⟨25, _⟩ => ⟨S2048x32x768, .f32⟩
  | .hbm, ⟨26, _⟩ => ⟨S2048x32x768, .f32⟩
  | .hbm, ⟨27, _⟩ => ⟨S2048x32x768, .f32⟩
  | .hbm, ⟨28, _⟩ => ⟨S2048x32x768, .f32⟩
  | .hbm, ⟨29, _⟩ => ⟨S_, .f32⟩
  | .hbm, ⟨30, _⟩ => ⟨S2048x768, .f32⟩
  | _, _ => ⟨S2048x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Stats.lean ====
abbrev S2048x768 : Shape := ⟨2, ![2048, 768]⟩
abbrev S768 : Shape := ⟨1, ![768]⟩
abbrev S1x768 : Shape := ⟨2, ![1, 768]⟩
abbrev S2048 : Shape := ⟨1, ![2048]⟩
abbrev S1x1 : Shape := ⟨2, ![1, 1]⟩
abbrev S256x768 : Shape := ⟨2, ![256, 768]⟩
abbrev S256 : Shape := ⟨1, ![256]⟩
abbrev S6x768 : Shape := ⟨2, ![6, 768]⟩
abbrev S1 : Shape := ⟨1, ![1]⟩

abbrev nBuf : Space → Nat
  | .hbm => 8
  | .vmem => 12
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S768, .f32⟩
  | .hbm, ⟨3, _⟩ => ⟨S1x768, .f32⟩
  | .hbm, ⟨4, _⟩ => ⟨S2048x768, .f32⟩
  | .hbm, ⟨5, _⟩ => ⟨S2048, .f32⟩
  | .hbm, ⟨6, _⟩ => ⟨S1x1, .f32⟩
  | .hbm, ⟨7, _⟩ => ⟨S1x1, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x768, .f32⟩
  | .local _ .vmem, ⟨5, _⟩ => ⟨S256x768, .f32⟩
  | .local _ .vmem, ⟨6, _⟩ => ⟨S256x768, .f32⟩
  | .local _ .vmem, ⟨7, _⟩ => ⟨S256, .f32⟩
  | .local _ .vmem, ⟨8, _⟩ => ⟨S256, .f32⟩
  | .local _ .vmem, ⟨9, _⟩ => ⟨S1x1, .f32⟩
  | .local _ .vmem, ⟨10, _⟩ => ⟨S1x1, .f32⟩
  | .local _ .vmem, ⟨11, _⟩ => ⟨S6x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v37 : BitVec 1 := Scalar.cmpi .eq arg0 c7_i32
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== StatsReferenceIdeal.lean ====
abbrev S2048x768 : Shape := ⟨2, ![2048, 768]⟩
abbrev S768 : Shape := ⟨1, ![768]⟩
abbrev S1x768 : Shape := ⟨2, ![1, 768]⟩
abbrev S_ : Shape := ⟨0, ![]⟩
abbrev S2048 : Shape := ⟨1, ![2048]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S768, .f32⟩
  | .hbm, ⟨3, _⟩ => ⟨S1x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S2048x768, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2048x768, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S768, .f32⟩
  | .hbm, ⟨30, _⟩ => ⟨S_, .f32⟩
  | .hbm, ⟨31, _⟩ => ⟨S768, .f32⟩
  | .hbm, ⟨32, _⟩ => ⟨S768, .f32⟩
  | .hbm, ⟨33, _⟩ => ⟨S1x768, .f32⟩
  | .hbm, ⟨34, _⟩ => ⟨S2048x768, .f32⟩
  | .hbm, ⟨35, _⟩ => ⟨S2048x768, .f32⟩
  | .hbm, ⟨36, _⟩ => ⟨S_, .f32⟩
  | .hbm, ⟨37, _⟩ => ⟨S768, .f32⟩
  | .hbm, ⟨38, _⟩ => ⟨S_, .f32⟩
  | .hbm, ⟨39, _⟩ => ⟨S768, .f32⟩
  | .hbm, ⟨40, _⟩ => ⟨S768, .f32⟩
  | .hbm, ⟨41, _⟩ => ⟨S1x768, .f32⟩
  | .hbm, ⟨42, _⟩ => ⟨S2048x768, .f32⟩
  | .hbm, ⟨43, _⟩ => ⟨S2048x768, .f32⟩
  | .hbm, ⟨44, _⟩ => ⟨S2048x768, .f32⟩
  | .hbm, ⟨45, _⟩ => ⟨S_, .f32⟩
  | .hbm, ⟨46, _⟩ => ⟨S768, .f32⟩
  | .hbm, ⟨47, _⟩ => ⟨S_, .f32⟩
  | .hbm, ⟨48, _⟩ => ⟨S768, .f32⟩
  | .hbm, ⟨49, _⟩ => ⟨S768, .f32⟩
  | .hbm, ⟨50, _⟩ => ⟨S768, .f32⟩
  | .hbm, ⟨51, _⟩ => ⟨S_, .i32⟩
  | .hbm, ⟨52, _⟩ => ⟨S_, .f32⟩
  | .hbm, ⟨53, _⟩ => ⟨S768, .f32⟩
  | .hbm, ⟨54, _⟩ => ⟨S1x768, .f32⟩
  | .hbm, ⟨55, _⟩ => ⟨S_, .f32⟩
  | .hbm, ⟨56, _⟩ => ⟨S1x768, .f32⟩
  | .hbm, ⟨57, _⟩ => ⟨S1x768, .f32⟩
  | .hbm, ⟨58, _⟩ => ⟨S2048x768, .f32⟩
  | .hbm, ⟨59, _⟩ => ⟨S2048x768, .f32⟩
  | .hbm, ⟨60, _⟩ => ⟨S2048x768, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S768, .f32⟩
  | .hbm, ⟨66, _⟩ => ⟨S768, .f32⟩
  | .hbm, ⟨67, _⟩ => ⟨S768, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S768, .f32⟩
  | .hbm, ⟨73, _⟩ => ⟨S768, .f32⟩
  | .hbm, ⟨74, _⟩ => ⟨S_, .i32⟩
  | .hbm, ⟨75, _⟩ => ⟨S_, .f32⟩
  | .hbm, ⟨76, _⟩ => ⟨S768, .f32⟩
  | .hbm, ⟨77, _⟩ => ⟨S1x768, .f32⟩
  | .hbm, ⟨78, _⟩ => ⟨S_, .f32⟩
  | .hbm, ⟨79, _⟩ => ⟨S1x768, .f32⟩
  | .hbm, ⟨80, _⟩ => ⟨S1x768, .f32⟩
  | .hbm, ⟨81, _⟩ => ⟨S2048x768, .f32⟩
  | .hbm, ⟨82, _⟩ => ⟨S2048x768, .f32⟩
  | .hbm, ⟨83, _⟩ => ⟨S2048x768, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S768, .f32⟩
  | .hbm, ⟨89, _⟩ => ⟨S768, .f32⟩
  | .hbm, ⟨90, _⟩ => ⟨S768, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S768, .f32⟩
  | .hbm, ⟨96, _⟩ => ⟨S768, .f32⟩
  | .hbm, ⟨97, _⟩ => ⟨S768, .f32⟩
  | .hbm, ⟨98, _⟩ => ⟨S768, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S1x1, .f32⟩
  | .hbm, ⟨104, _⟩ => ⟨S1x1, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v35 : Ref sig .tc := ⟨.hbm, 73, rfl⟩
abbrev main_c_12 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_cst_2 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_cst_3 : Ref sig .tc := ⟨.hbm, 91, rfl⟩
abbrev main_call1_v12 : Ref sig .tc := ⟨.hbm, 92, rfl⟩
abbrev main_call1_cst_4 : Ref sig .tc := ⟨.hbm, 93, rfl⟩
abbrev main_call1_call0_v0 : Ref sig .tc := ⟨.hbm, 94, rfl⟩
abbrev main_call1_call0_v1 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_13 : Ref sig .tc := ⟨.hbm, 99, rfl⟩
abbrev main_v39 : Ref sig .tc := ⟨.hbm, 100, rfl⟩
abbrev main_cst_14 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩

abbrev nD : Nat := 1
abbrev τ : Topo := Topo.v7x

variable {F : FTy → Type} [FloatOps F]
-- ==== Select.lean ====
abbrev S2048x768 : Shape := ⟨2, ![2048, 768]⟩
abbrev S2048x32 : Shape := ⟨2, ![2048, 32]⟩
abbrev S256x768 : Shape := ⟨2, ![256, 768]⟩
abbrev S256x32 : Shape := ⟨2, ![256, 32]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x768, .f32⟩
  | .hbm, ⟨1, _⟩ => ⟨S2048x768, .i32⟩
  | .hbm, ⟨2, _⟩ => ⟨S2048x32, .f32⟩
  | .hbm, ⟨3, _⟩ => ⟨S2048x32, .i32⟩
  | .local _ .vmem, ⟨0, _⟩ => ⟨S256x768, .f32⟩
  | .local _ .vmem, ⟨1, _⟩ => ⟨S256x768, .f32⟩
  | .local _ .vmem, ⟨2, _⟩ => ⟨S256x768, .i32⟩
  | .local _ .vmem, ⟨3, _⟩ => ⟨S256x768, .i32⟩
  | .local _ .vmem, ⟨4, _⟩ => ⟨S256x32, .f32⟩
  | .local _ .vmem, ⟨5, _⟩ => ⟨S256x32, .f32⟩
  | .local _ .vmem, ⟨6, _⟩ => ⟨S256x32, .i32⟩
  | .local _ .vmem, ⟨7, _⟩ => ⟨S256x32, .i32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SelectReferenceIdeal.lean ====
abbrev S2048x768 : Shape := ⟨2, ![2048, 768]⟩
abbrev S2048x32 : Shape := ⟨2, ![2048, 32]⟩
abbrev S_ : Shape := ⟨0, ![]⟩
abbrev S2048x32x1 : Shape := ⟨3, ![2048, 32, 1]⟩
abbrev S1 : Shape := ⟨1, ![1]⟩
abbrev S1x1x1 : Shape := ⟨3, ![1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .i32⟩
  | .hbm, ⟨2, _⟩ => ⟨S2048x32, .f32⟩
  | .hbm, ⟨3, _⟩ => ⟨S2048x32, .i32⟩
  | .hbm, ⟨4, _⟩ => ⟨S_, .i32⟩
  | .hbm, ⟨5, _⟩ => ⟨S2048x32, .i32⟩
  | .hbm, ⟨6, _⟩ => ⟨S2048x32, .i1⟩
  | .hbm, ⟨7, _⟩ => ⟨S_, .i32⟩
  | .hbm, ⟨8, _⟩ => ⟨S2048x32, .i32⟩
  | .hbm, ⟨9, _⟩ => ⟨S2048x32, .i32⟩
  | .hbm, ⟨10, _⟩ => ⟨S2048x32, .i32⟩
  | .hbm, ⟨11, _⟩ => ⟨S2048x32x1, .i32⟩
  | .hbm, ⟨12, _⟩ => ⟨S1, .i32⟩
  | .hbm, ⟨13, _⟩ => ⟨S_, .i32⟩
  | .hbm, ⟨14, _⟩ => ⟨S2048x32x1, .i32⟩
  | .hbm, ⟨15, _⟩ => ⟨S2048x32x1, .i1⟩
  | .hbm, ⟨16, _⟩ => ⟨S1x1x1, .i32⟩
  | .hbm, ⟨17, _⟩ => ⟨S2048x32x1, .i32⟩
  | .hbm, ⟨18, _⟩ => ⟨S2048x32x1, .i1⟩
  | .hbm, ⟨19, _⟩ => ⟨S2048x32x1, .i1⟩
  | .hbm, ⟨20, _⟩ => ⟨S_, .i1⟩
  | .hbm, ⟨21, _⟩ => ⟨S2048x32, .i1⟩
  | .hbm, ⟨22, _⟩ => ⟨S2048x32, .i32⟩
  | .hbm, ⟨23, _⟩ => ⟨S_, .i32⟩
  | .hbm, ⟨24, _⟩ => ⟨S2048x32, .i32⟩
  | .hbm, ⟨25, _⟩ => ⟨S2048x32, .i32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_v0 : Ref sig .tc := ⟨.hbm, 25, rfl⟩

abbrev nD : Nat := 1
abbrev τ : Topo := Topo.v7x

variable {F : FTy → Type} [FloatOps F]
-- ==== Encode.lean ====
abbrev S2048x768 : Shape := ⟨2, ![2048, 768]⟩
abbrev S1x768 : Shape := ⟨2, ![1, 768]⟩
abbrev S768x49152 : Shape := ⟨2, ![768, 49152]⟩
abbrev S768x2048 : Shape := ⟨2, ![768, 2048]⟩
abbrev S512x768 : Shape := ⟨2, ![512, 768]⟩
abbrev S512x128 : Shape := ⟨2, ![512, 128]⟩
abbrev S4x512x128 : Shape := ⟨3, ![4, 512, 128]⟩
abbrev S512x2048 : Shape := ⟨2, ![512, 2048]⟩
abbrev S1x512x128 : Shape := ⟨3, ![1, 512, 128]⟩

abbrev nBuf : Space → Nat
  | .hbm => 6
  | .vmem => 13
  | .smem => 0
  | _ => 0

abbrev bufTy : (tb : Table) → Fin (tcTables nBuf tb) → BufTy
  | .hbm, ⟨0, _⟩ => ⟨S2048x768, .f32⟩
  | .hbm, ⟨1, _⟩ => ⟨S1x768, .f32⟩
  | .hbm, ⟨2, _⟩ => ⟨S768x49152, .f32⟩
  | .hbm, ⟨3, _⟩ => ⟨S2048x768, .f32⟩
  | .hbm, ⟨4, _⟩ => ⟨S2048x768, .f32⟩
  | .hbm, ⟨5, _⟩ => ⟨S2048x768, .i32⟩
  | .local _ .vmem, ⟨0, _⟩ => ⟨S2048x768, .f32⟩
  | .local _ .vmem, ⟨1, _⟩ => ⟨S1x768, .f32⟩
  | .local _ .vmem, ⟨2, _⟩ => ⟨S768x2048, .f32⟩
  | .local _ .vmem, ⟨3, _⟩ => ⟨S768x2048, .f32⟩
  | .local _ .vmem, ⟨4, _⟩ => ⟨S512x768, .f32⟩
  | .local _ .vmem, ⟨5, _⟩ => ⟨S512x768, .f32⟩
  | .local _ .vmem, ⟨6, _⟩ => ⟨S512x128, .f32⟩
  | .local _ .vmem, ⟨7, _⟩ => ⟨S512x128, .f32⟩
  | .local _ .vmem, ⟨8, _⟩ => ⟨S512x128, .i32⟩
  | .local _ .vmem, ⟨9, _⟩ => ⟨S512x128, .i32⟩
  | .local _ .vmem, ⟨10, _⟩ => ⟨S768x2048, .bf16⟩
  | .local _ .vmem, ⟨11, _⟩ => ⟨S4x512x128, .f32⟩
  | .local _ .vmem, ⟨12, _⟩ => ⟨S4x512x128, .i32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![6, 4, 4], ![false, false, false]⟩

def k0_off1 (i : grid0.Coords) : Fin 2 → Nat :=
  let arg2 : BitVec 32 := BitVec.ofNat 32 (i 2).val
  let c512_i32 : BitVec 32 := 512#32
  let v3 : BitVec 32 := Scalar.muli arg2 c512_i32
  let v4 : Index := Scalar.indexCast v3
  let c0 : Index := 0#32
  ![v4.toNat, 0]
def k0_cond2 (i : grid0.Coords) : BitVec 1 :=
  let arg1 : BitVec 32 := BitVec.ofNat 32 (i 1).val
  let c0_i32_11 : BitVec 32 := 0#32
  let v106 : BitVec 1 := Scalar.cmpi .eq arg1 c0_i32_11
  let v107 : BitVec 32 := Scalar.extui v106
  let c0_i32_12 : BitVec 32 := 0#32
  let v108 : BitVec 1 := Scalar.cmpi .ne v107 c0_i32_12
  v108

def k0_off2 (i : grid0.Coords) : Fin 3 → Nat :=
  let arg2 : BitVec 32 := BitVec.ofNat 32 (i 2).val
  let v115 : Index := Scalar.indexCast arg2
  let c0_17 : Index := 0#32
  let c0_18 : Index := 0#32
  ![v115.toNat, 0, 0]
def k0_cond3 (i : grid0.Coords) : BitVec 1 :=
  let arg1 : BitVec 32 := BitVec.ofNat 32 (i 1).val
  let c0_i32_13 : BitVec 32 := 0#32
  let v109 : BitVec 1 := Scalar.cmpi .ne arg1 c0_i32_13
  let v110 : BitVec 32 := Scalar.extui v109
  let c0_i32_14 : BitVec 32 := 0#32
  let v111 : BitVec 1 := Scalar.cmpi .ne v110 c0_i32_14
  v111

def k0_off3 (i : grid0.Coords) : Fin 3 → Nat :=
  let arg2 : BitVec 32 := BitVec.ofNat 32 (i 2).val
  let v115 : Index := Scalar.indexCast arg2
  let c0_17 : Index := 0#32
  let c0_18 : Index := 0#32
  ![v115.toNat, 0, 0]
def k0_cond4 (i : grid0.Coords) : BitVec 1 :=
  let arg1 : BitVec 32 := BitVec.ofNat 32 (i 1).val
  let c3_i32_15 : BitVec 32 := 3#32
  let v112 : BitVec 1 := Scalar.cmpi .eq arg1 c3_i32_15
  let v113 : BitVec 32 := Scalar.extui v112
  let c0_i32_16 : BitVec 32 := 0#32
  let v114 : BitVec 1 := Scalar.cmpi .ne v113 c0_i32_16
  v114

def k0_off4 (i : grid0.Coords) : Fin 3 → Nat :=
  let arg2 : BitVec 32 := BitVec.ofNat 32 (i 2).val
  let v115 : Index := Scalar.indexCast arg2
  let c0_17 : Index := 0#32
  let c0_18 : Index := 0#32
  ![v115.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]
-- ==== EncodeReferenceIdeal.lean ====
abbrev S2048x768 : Shape := ⟨2, ![2048, 768]⟩
abbrev S1x768 : Shape := ⟨2, ![1, 768]⟩
abbrev S768x49152 : Shape := ⟨2, ![768, 49152]⟩
abbrev S_ : Shape := ⟨0, ![]⟩
abbrev S2048x49152 : Shape := ⟨2, ![2048, 49152]⟩
abbrev S2048x6x64x128 : Shape := ⟨4, ![2048, 6, 64, 128]⟩
abbrev S2048x6x128 : Shape := ⟨3, ![2048, 6, 128]⟩
abbrev S49152 : Shape := ⟨1, ![49152]⟩
abbrev S6x64x128 : Shape := ⟨3, ![6, 64, 128]⟩
abbrev S2048x6x1x128 : Shape := ⟨4, ![2048, 6, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S1x768, .f32⟩
  | .hbm, ⟨2, _⟩ => ⟨S768x49152, .f32⟩
  | .hbm, ⟨3, _⟩ => ⟨S_, .f32⟩
  | .hbm, ⟨4, _⟩ => ⟨S2048x768, .f32⟩
  | .hbm, ⟨5, _⟩ => ⟨S2048x768, .f32⟩
  | .hbm, ⟨6, _⟩ => ⟨S_, .f32⟩
  | .hbm, ⟨7, _⟩ => ⟨S2048x768, .f32⟩
  | .hbm, ⟨8, _⟩ => ⟨S2048x768, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S_, .f32⟩
  | .hbm, ⟨15, _⟩ => ⟨S2048x768, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S2048x49152, .f32⟩
  | .hbm, ⟨20, _⟩ => ⟨S2048x6x64x128, .f32⟩
  | .hbm, ⟨21, _⟩ => ⟨S_, .f32⟩
  | .hbm, ⟨22, _⟩ => ⟨S2048x6x128, .f32⟩
  | .hbm, ⟨23, _⟩ => ⟨S49152, .i32⟩
  | .hbm, ⟨24, _⟩ => ⟨S6x64x128, .i32⟩
  | .hbm, ⟨25, _⟩ => ⟨S2048x6x1x128, .f32⟩
  | .hbm, ⟨26, _⟩ => ⟨S2048x6x64x128, .f32⟩
  | .hbm, ⟨27, _⟩ => ⟨S2048x6x64x128, .i1⟩
  | .hbm, ⟨28, _⟩ => ⟨S_, .i32⟩
  | .hbm, ⟨29, _⟩ => ⟨S_, .i32⟩
  | .hbm, ⟨30, _⟩ => ⟨S2048x6x64x128, .i32⟩
  | .hbm, ⟨31, _⟩ => ⟨S2048x6x64x128, .i32⟩
  | .hbm, ⟨32, _⟩ => ⟨S2048x6x64x128, .i32⟩
  | .hbm, ⟨33, _⟩ => ⟨S_, .i32⟩
  | .hbm, ⟨34, _⟩ => ⟨S2048x6x128, .i32⟩
  | .hbm, ⟨35, _⟩ => ⟨S2048x768, .f32⟩
  | .hbm, ⟨36, _⟩ => ⟨S2048x768, .i32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== Proof.Base.lean ====
/-
  What the modules of this certificate share: the kernel's program as the launch sees it, the ghost state it runs
  under, the arrays of a tile's task by name, and the sum one token's row is built by.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Decode

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the pipelined program, and the SparseCore's configuration over them. -/
abbrev ΛP : Labels := Pipeline.Sig Λ₀ (Fin 0) fun p => (pcfgs (F := F) p).Adm
abbrev K : SparseCore.Cfg τ sig (ΛP (F := F)) 1 := sc (F := F)
/-- The program's definitions. -/
abbrev D [FloatOps F] : Defs nD τ sig (Elt F) (ΛP (F := F)) := Pipeline.defs pcfgs defs₀
/-- No loop variant is needed. -/
abbrev 𝒱₀ : Variants := Variants.none
/-- The same, lifted to the pipelined labels. -/
abbrev 𝒱 : Variants := 𝒱₀.lift
/-- The value a variant starts at. -/
abbrev v₀ : 𝒱.V := Sum.inl none

/-- The handshake cells are told apart and held where the launch wants them; no scratch of a tile is shared. -/
theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## The ghost state: the handshakes' rounds beside the transfers' counters -/

/-- The ghost state: rounds of the handshakes' semaphores, and the counters of the copies. -/
abbrev UH : Type := URounds (GSem nD τ sig) ℕ
abbrev UU : Type := UH × Counters

local notation "𝕄" => MT nD τ sig (HIx 1) (Elt F) ℕ UU ℕ

/-- The rounds' place in the ghost state. -/
abbrev EH : Emb UH (MT nD τ sig (HIx 1) (Elt F) ℕ UU ℕ) := embL

/-! ## The arrays of a task -/

/-- The expanded index list, the repeated weights, the reshaped table and the result. -/
abbrev idxM : Memref sig .scVector .hbm S2048x96 .i32 := Memref.whole main_v11_scv
/-- The repeated weights, the table and the result, in HBM as a tile sees them. -/
abbrev wtsM : Memref sig .scVector .hbm S1048576 .f32 := Memref.whole main_v2_scv
abbrev tabM : Memref sig .scVector .hbm S147456x2x128 .f32 := Memref.whole main_v12_scv
abbrev outM : Memref sig .scVector .hbm S2048x768 .f32 := Memref.whole main_v13_scv
/-- A tile's own: its lists of rows, its weights, the two slots of gathered rows, the row being built. -/
abbrev listM : Memref sig .scVector .vmem S64x96 .i32 := Memref.whole cc0_scratch0
/-- A tile's weights, its two row buffers and its accumulator. -/
abbrev wM : Memref sig .scVector .vmem S32768 .f32 := Memref.whole cc0_scratch1
abbrev rowsM : Memref sig .scVector .vmem S2x96x2x128 .f32 := Memref.whole cc0_scratch2
abbrev accM : Memref sig .scVector .vmem S768 .f32 := Memref.whole cc0_scratch3

/-- The SparseCore and the tile of a grid point. -/
abbrev cV (L : grid0.Coords) : Fin τ.nSC := (L 0).castLE hcore0
abbrev jV (L : grid0.Coords) : Fin τ.nSub := (L 1).castLE hsub0
/-- The tile at grid position `L` of device `d`. -/
abbrev tile (d : Dev nD) (L : grid0.Coords) : Thread nD τ := V d (cV L) (jV L)

/-- The slot of gathered rows numbered 0, and the one numbered 1. -/
abbrev slot0 : Rect S2x96x2x128 := Rect.unit (s := S2x96x2x128) ![0, 0, 0, 0] S1x96x2x128.size inb_S2x96x2x128_S1x96x2x128_0_0_0_0
/-- The second row buffer. -/
abbrev slot1 : Rect S2x96x2x128 := Rect.unit (s := S2x96x2x128) ![1, 0, 0, 0] S1x96x2x128.size inb_S2x96x2x128_S1x96x2x128_1_0_0_0

/-! ## One token's row, sixteen lanes at a time -/

variable [FloatOps F]

/-- The index of a shape whose coordinates are the numbers `v`, each wrapped into its axis. -/
def ixOf (s : Shape) (h : ∀ a, 0 < s.size a) (v : Fin s.rank → ℕ) : s.Idx := fun a => ⟨v a % s.size a, Nat.mod_lt _ (h a)⟩

omit [FloatOps F] in
/-- At an index's own coordinates it is the index. -/
theorem ixOf_eq {s : Shape} {h : ∀ a, 0 < s.size a} {v : Fin s.rank → ℕ} {i : s.Idx} (hv : ∀ a, v a = (i a).val) : ixOf s h v = i :=
  funext fun a => Fin.ext (by show v a % s.size a = (i a).val; rw [hv a]; exact Nat.mod_eq_of_lt (i a).isLt)

/-- Sixteen consecutive repeated weights from word `o` of the tile's. -/
def wAt (fw : FVec F S32768 .f32) (o : ℕ) : FVec F S16 .f32 := fun j => fw (ixOf S32768 (by decide) ![o + (j 0).val])

/-- Sixteen lanes from lane `l` of half `h` of row `r` of slot `s`. -/
def rAt (fr : FVec F S2x96x2x128 .f32) (s r h l : ℕ) : FVec F S1x1x1x16 .f32 := fun j => fr (ixOf S2x96x2x128 (by decide) ![s, r, h, l + (j 3).val])

/-- The rows of the table that list `t` names, as a slot of gathered rows holds them (the same for either slot). -/
def gath (ft : FVec F S147456x2x128 .f32) (fl : S64x96.Idx → BitVec 32) (t : ℕ) : FVec F S2x96x2x128 .f32 := fun j =>
  ft (ixOf S147456x2x128 (by decide) ![(fl (ixOf S64x96 (by decide) ![t, (j 1).val])).toNat, (j 2).val, (j 3).val])

/-- The sum over the first `n` selected features at lane group `c` (of 48), `W` the weights' vectors by feature and `R`
    the gathered rows' by row, half and lane: zero, then one product more at a time. -/
def accVec (W : ℕ → FVec F S16 .f32) (R : ℕ → ℕ → ℕ → FVec F S1x1x1x16 .f32) : ℕ → ℕ → FVec F S16 .f32
  | 0, _ => broadcast S16 (Scalar.ofBits (F := F) .f32 0#32)
  | n + 1, c => addf (accVec W R n c)
      (mulf (shapeCast S16 (W n) shapeCasts_S16_S16) (shapeCast S16 (R (3 * n + c / 16) (c / 8 % 2) (c % 8 * 16)) shapeCasts_S1x1x1x16_S16))

/-- Forty-eight lane groups as the loop carries them. -/
abbrev tup (f : ℕ → FVec F S16 .f32) :=
  (f 0, f 1, f 2, f 3, f 4, f 5, f 6, f 7, f 8, f 9, f 10, f 11, f 12, f 13, f 14, f 15, f 16, f 17, f 18, f 19, f 20, f 21, f 22, f 23,
    f 24, f 25, f 26, f 27, f 28, f 29, f 30, f 31, f 32, f 33, f 34, f 35, f 36, f 37, f 38, f 39, f 40, f 41, f 42, f 43, f 44, f 45, f 46, f 47)

end Cert.Proof.Decode
-- ==== Proof.Inner.lean ====
/-
  One trip of each of the two inner loops: a selected feature's gathered row, times its weight, added to the token's
  forty-eight lane groups.
-/
module

public import proofs.«01_k».proof.Proof.Base

@[expose] public section

noncomputable section

namespace Cert.Proof.Decode

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
/-- A load of sixteen weights reads them off the array. -/
theorem wM_readAt (fw : FVec F S32768 .f32) (o : ℕ) (inb : ∀ a, (![o] : Fin 1 → ℕ) a + S16.size a ≤ S32768.size a) :
    wM.view.readAt (Elt F) (Rect.unit (s := S32768) ![o] S16.size inb).toLoadRect fw = wAt fw o := by
  funext j
  show fw _ = fw _
  congr 1
  refine (ixOf_eq fun a => ?_).symm
  fin_cases a
  show o + (j 0).val = o + 1 * (j 0).val
  rw [one_mul]

omit [FloatOps F] in
/-- A load of sixteen lanes of a gathered row reads them off the array. -/
theorem rowsM_readAt (fr : FVec F S2x96x2x128 .f32) (s r h l : ℕ)
    (inb : ∀ a, (![s, r, h, l] : Fin 4 → ℕ) a + S1x1x1x16.size a ≤ S2x96x2x128.size a) :
    rowsM.view.readAt (Elt F) (Rect.unit (s := S2x96x2x128) ![s, r, h, l] S1x1x1x16.size inb).toLoadRect fr = rAt fr s r h l := by
  funext j
  show fr _ = fr _
  congr 1
  refine (ixOf_eq fun a => ?_).symm
  have h0 := (j 0).isLt
  have h1 := (j 1).isLt
  have h2 := (j 2).isLt
  change (j 0).val < 1 at h0
  change (j 1).val < 1 at h1
  change (j 2).val < 1 at h2
  fin_cases a
  · show s = s + 1 * (j 0).val; omega
  · show r = r + 1 * (j 1).val; omega
  · show h = h + 1 * (j 2).val; omega
  · show l + (j 3).val = l + 1 * (j 3).val; omega

/-- The two loops' bodies at the task's arrays. -/
abbrev trip0 (L : grid0.Coords) (p : Fin k0_t1_loop.trips) (v16 : BitVec 32) (z : Fin 21 → FVec F S16 .f32) (c : F .f32) :=
  k0_t2_body (F := F) L idxM (Memref.isWhole_whole _) wtsM (Memref.isWhole_whole _) tabM (Memref.isWhole_whole _) outM (Memref.isWhole_whole _)
    listM (Memref.isWhole_whole _) wM (Memref.isWhole_whole _) rowsM (Memref.isWhole_whole _) accM (Memref.isWhole_whole _)
    cc0_scratch4 cc0_scratch5 cc0_scoped0 cc0_scoped1 cc0_scoped2 cc0_scoped3 p v16
    (z 0) (z 1) (z 2) (z 3) (z 4) (z 5) (z 6) (z 7) (z 8) (z 9) (z 10) (z 11) (z 12) (z 13) (z 14) (z 15) (z 16) (z 17) (z 18) (z 19) (z 20) c

/-- One turn of the loop over pairs of tokens. -/
abbrev trip1 (L : grid0.Coords) (p : Fin k0_t1_loop.trips) (v16 : BitVec 32) (z : Fin 41 → FVec F S16 .f32) :=
  k0_t3_body (F := F) L idxM (Memref.isWhole_whole _) wtsM (Memref.isWhole_whole _) tabM (Memref.isWhole_whole _) outM (Memref.isWhole_whole _)
    listM (Memref.isWhole_whole _) wM (Memref.isWhole_whole _) rowsM (Memref.isWhole_whole _) accM (Memref.isWhole_whole _)
    cc0_scratch4 cc0_scratch5 cc0_scoped0 cc0_scoped1 cc0_scoped2 cc0_scoped3 p v16
    (z 0) (z 1) (z 2) (z 3) (z 4) (z 5) (z 6) (z 7) (z 8) (z 9) (z 10) (z 11) (z 12) (z 13) (z 14) (z 15) (z 16) (z 17) (z 18) (z 19) (z 20) (z 21) (z 22) (z 23) (z 24) (z 25) (z 26) (z 27) (z 28) (z 29) (z 30) (z 31) (z 32) (z 33) (z 34) (z 35) (z 36) (z 37) (z 38) (z 39) (z 40)

set_option maxHeartbeats 4000000 in
set_option maxRecDepth 16384 in
set_option sl_exec.closedLoads true in
/-- A trip over slot 0. -/
theorem trip0_spec (d : Dev nD) (L : grid0.Coords) (p : Fin k0_t1_loop.trips) (v16 : BitVec 32) (z : Fin 21 → FVec F S16 .f32) (c : F .f32)
    (fw : FVec F S32768 .f32) (fr : FVec F S2x96x2x128 .f32) (n : Fin k0_t2_loop.trips) :
    iprop((wM.view.loc (tile d L) ↦{fullShare} fw) ∗ (rowsM.view.loc (tile d L) ↦[rowsM.view.setOn slot0.set]{fullShare} fr) : sProp 𝕄)
      ⊢ wp frame (wpE (defs₀ (F := F)) 𝒱₀ (tile d L) none) Set.univ
          (trip0 L p v16 z c n (tup (accVec (fun k => wAt fw (1024 * p.val + 16 * k)) (rAt fr 0) n.val)))
          fun acc => iprop(⌜acc = tup (accVec (fun k => wAt fw (1024 * p.val + 16 * k)) (rAt fr 0) (n.val + 1))⌝
            ∗ (wM.view.loc (tile d L) ↦{fullShare} fw) ∗ (rowsM.view.loc (tile d L) ↦[rowsM.view.setOn slot0.set]{fullShare} fr)) := by
  have hw := wM_readAt fw
  have hr := rowsM_readAt fr
  have hn : n.val < 32 := Nat.lt_of_lt_of_le n.isLt k0_t2_abs.2.1
  iintro ⟨Hw, Hr⟩
  unfold trip0 k0_t2_body
  sl_exec
  sl_step
  isplitr
  · ipureintro
    rfl
  isplitl [Hw]; · iexact Hw
  iexact Hr

set_option maxHeartbeats 4000000 in
set_option maxRecDepth 16384 in
set_option sl_exec.closedLoads true in
/-- A trip over slot 1. -/
theorem trip1_spec (d : Dev nD) (L : grid0.Coords) (p : Fin k0_t1_loop.trips) (v16 : BitVec 32) (z : Fin 41 → FVec F S16 .f32)
    (fw : FVec F S32768 .f32) (fr : FVec F S2x96x2x128 .f32) (n : Fin k0_t3_loop.trips) :
    iprop((wM.view.loc (tile d L) ↦{fullShare} fw) ∗ (rowsM.view.loc (tile d L) ↦[rowsM.view.setOn slot1.set]{fullShare} fr) : sProp 𝕄)
      ⊢ wp frame (wpE (defs₀ (F := F)) 𝒱₀ (tile d L) none) Set.univ
          (trip1 L p v16 z n (tup (accVec (fun k => wAt fw (1024 * p.val + 16 * k + 512)) (rAt fr 1) n.val)))
          fun acc => iprop(⌜acc = tup (accVec (fun k => wAt fw (1024 * p.val + 16 * k + 512)) (rAt fr 1) (n.val + 1))⌝
            ∗ (wM.view.loc (tile d L) ↦{fullShare} fw) ∗ (rowsM.view.loc (tile d L) ↦[rowsM.view.setOn slot1.set]{fullShare} fr)) := by
  have hw := wM_readAt fw
  have hr := rowsM_readAt fr
  have hn : n.val < 32 := Nat.lt_of_lt_of_le n.isLt k0_t3_abs.2.1
  iintro ⟨Hw, Hr⟩
  unfold trip1 k0_t3_body
  sl_exec
  sl_step
  isplitr
  · ipureintro
    rfl
  isplitl [Hw]; · iexact Hw
  iexact Hr

/-- The two inner loops run over the 32 entries of a token, the outer over the 32 pairs of tokens. -/
theorem trips2 : k0_t2_loop.trips = 32 := by decide
/-- The loop over the features turns thirty-two times. -/
theorem trips3 : k0_t3_loop.trips = 32 := by decide
/-- The loop over pairs of tokens turns thirty-two times. -/
theorem trips1 : k0_t1_loop.trips = 32 := by decide

end Cert.Proof.Decode
-- ==== Proof.Gather.lean ====
/-
  The gather of one token's rows: what the stream needs, and what it leaves in its slot.
-/
module

public import proofs.«01_k».proof.Proof.Base

@[expose] public section

noncomputable section

namespace Cert.Proof.Decode

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A slot of gathered rows, as the streams address it, at the offset the program writes. -/
abbrev slotM (o : Fin 4 → ℕ) (inb : ∀ a, o a + S1x96x2x128.size a ≤ S2x96x2x128.size a) : Memref sig .scVector .vmem S96x2x128 .f32 :=
  (rowsM.slice (Rect.unit (s := S2x96x2x128) o S1x96x2x128.size inb) (fun _ => rfl)).squeeze S96x2x128 squeezes_S1x96x2x128_S96x2x128
/-- A list of the tile's, likewise. -/
abbrev listAt (o : Fin 2 → ℕ) (inb : ∀ a, o a + S1x96.size a ≤ S64x96.size a) : Memref sig .scVector .vmem S96 .i32 :=
  (listM.slice (Rect.unit (s := S64x96) o S1x96.size inb) (fun _ => rfl)).squeeze S96 squeezes_S1x96_S96
/-- The table as the streams address it: all of it. -/
abbrev tabAll : Memref sig .scVector .hbm S147456x2x128 .f32 :=
  tabM.slice (Rect.unit (s := S147456x2x128) ![0, 0, 0] S147456x2x128.size inb_S147456x2x128_S147456x2x128_0_0_0) (fun _ => rfl)

/-- The elements of list `t`. -/
def listSet (t : ℕ) : Finset S64x96.Idx := Finset.univ.filter fun j => (j 0).val = t

omit [FloatOps F] in
/-- The entries of one token's index list. -/
theorem set_listAt (t : ℕ) (o : Fin 2 → ℕ) (ho : o = ![t, 0]) (inb) : (listAt o inb).view.set = listSet t := by
  subst ho
  show ((listM.view.slice _).reshape S96 _).set = _
  rw [View.set_reshape, View.set_slice_whole]
  ext j
  have h1 := (j 1).isLt
  change (j 1).val < 96 at h1
  rw [Rect.mem_set_unit]
  simp only [listSet, Finset.mem_filter, Finset.mem_univ, true_and]
  constructor
  · intro h
    have h0 := h 0
    change t ≤ (j 0).val ∧ (j 0).val < t + 1 at h0
    omega
  · intro h a
    fin_cases a
    · show t ≤ (j 0).val ∧ (j 0).val < t + 1; omega
    · show 0 ≤ (j 1).val ∧ (j 1).val < 0 + 96; omega

omit [FloatOps F] in
/-- The entries of one row buffer. -/
theorem set_slotM (o : Fin 4 → ℕ) (inb) :
    (slotM o inb).view.set = rowsM.view.setOn (Rect.unit (s := S2x96x2x128) o S1x96x2x128.size inb).set := by
  show ((rowsM.view.slice _).reshape S96x2x128 _).set = _
  rw [View.set_reshape, View.set_slice]; rfl

omit [FloatOps F] in
/-- The whole table. -/
theorem set_tabAll : tabAll.view.set = Finset.univ := by
  show (tabM.view.slice _).set = _
  rw [View.set_slice_whole]
  ext j
  simp only [Rect.mem_set_unit, Finset.mem_univ, iff_true]
  intro a
  fin_cases a
  · exact ⟨Nat.zero_le _, lt_of_lt_of_eq (j 0).isLt (Nat.zero_add _).symm⟩
  · exact ⟨Nat.zero_le _, lt_of_lt_of_eq (j 1).isLt (Nat.zero_add _).symm⟩
  · exact ⟨Nat.zero_le _, lt_of_lt_of_eq (j 2).isLt (Nat.zero_add _).symm⟩

omit [FloatOps F] in
/-- Entry `x` of list `t` as the stream reads it. -/
theorem read_listAt (fl : S64x96.Idx → BitVec 32) (t : ℕ) (o : Fin 2 → ℕ) (ho : o = ![t, 0]) (inb) (x : S96.Idx) :
    (listAt o inb).view.read (Elt F) fl x = fl (ixOf S64x96 (by decide) ![t, (x 0).val]) := by
  subst ho
  have e : Shape.reshapeEquiv squeezes_S1x96_S96.numel_eq x = (fun | 0 => ⟨0, by decide⟩ | 1 => x 0 : S1x96.Idx) :=
    Shape.reshapeEquiv_eq_of_rowMajor _ (by
      rw [Shape.rowMajor_val_two, Shape.rowMajor_val_one]
      show 0 * 96 + (x 0).val = (x 0).val
      omega)
  show fl ((Rect.unit (s := S64x96) ![t, 0] S1x96.size inb).emb (Shape.reshapeEquiv squeezes_S1x96_S96.numel_eq x)) = _
  rw [e]
  congr 1
  refine (ixOf_eq fun a => ?_).symm
  fin_cases a
  · show t = t + 1 * 0; omega
  · show (x 0).val = 0 + 1 * (x 0).val; omega

/-- What a slot's stream is credited: one count for the whole of it. -/
abbrev slotCredit : ℕ := (slotM ![0, 0, 0, 0] inb_S2x96x2x128_S1x96x2x128_0_0_0_0).view.dmaCredit

omit [FloatOps F] in
/-- What the stream writes into its slot is the rows its list names. -/
theorem gath_of_write (ft : FVec F S147456x2x128 .f32) (fl : S64x96.Idx → BitVec 32) (fd : FVec F S2x96x2x128 .f32) (t : ℕ)
    (o : Fin 4 → ℕ) (inb) (o' : Fin 2 → ℕ) (ho : o' = ![t, 0]) (inb')
    (hin : ∀ x, ((listAt o' inb').view.read (Elt F) fl x).toNat < S147456x2x128.size gathers_S147456x2x128_S96x2x128.axis)
    (i : S2x96x2x128.Idx) (hi : i ∈ (slotM o inb).view.set) (ho4 : o 1 = 0 ∧ o 2 = 0 ∧ o 3 = 0) :
    (slotM o inb).view.write (Elt F) fd (SparseCore.gatherPayload gathers_S147456x2x128_S96x2x128 (tabAll.view.read (Elt F) ft)
      (SparseCore.rows ((listAt o' inb').view.read (Elt F) fl) rfl hin)) Finset.univ i = gath ft fl t i := by
  obtain ⟨x, -, rfl⟩ := Finset.mem_map.mp hi
  rw [View.write_emb_of_mem _ _ (Finset.mem_univ x)]
  have e : Shape.reshapeEquiv squeezes_S1x96x2x128_S96x2x128.numel_eq x = (fun | 0 => ⟨0, by decide⟩ | 1 => x 0 | 2 => x 1 | 3 => x 2 : S1x96x2x128.Idx) :=
    Shape.reshapeEquiv_eq_of_rowMajor _ (by
      rw [Shape.rowMajor_val_four, Shape.rowMajor_val_three]
      show ((0 * 96 + (x 0).val) * 2 + (x 1).val) * 128 + (x 2).val = ((x 0).val * 2 + (x 1).val) * 128 + (x 2).val
      omega)
  have hemb : (slotM o inb).view.emb x = (Rect.unit (s := S2x96x2x128) o S1x96x2x128.size inb).emb (fun | 0 => ⟨0, by decide⟩ | 1 => x 0 | 2 => x 1 | 3 => x 2 : S1x96x2x128.Idx) := by
    rw [← e]; rfl
  have hs : S96.rowMajor.symm ((x 0).cast rfl : Fin S96.numel) = (fun | 0 => x 0 : S96.Idx) := by
    rw [Equiv.symm_apply_eq]
    refine Fin.ext ?_
    rw [Shape.rowMajor_val_one]
    rfl
  show ft ((Rect.unit (s := S147456x2x128) ![0, 0, 0] S147456x2x128.size inb_S147456x2x128_S147456x2x128_0_0_0).emb _) = ft _
  congr 1
  refine (ixOf_eq fun a => ?_).symm
  rw [hemb]
  obtain ⟨h1, h2, h3⟩ := ho4
  fin_cases a
  · show (fl (ixOf S64x96 (by decide) ![t, o 1 + 1 * (x 0).val])).toNat
      = 0 + 1 * ((listAt o' inb').view.read (Elt F) fl (S96.rowMajor.symm ((x 0).cast rfl : Fin S96.numel))).toNat
    rw [hs, read_listAt fl t o' ho inb', h1]
    simp
  · show o 2 + 1 * (x 1).val = 0 + 1 * (x 1).val
    rw [h2]
  · show o 3 + 1 * (x 2).val = 0 + 1 * (x 2).val
    rw [h3]

/-- What a token's gather brings: its slot holding the rows its list names, with the shares of the table and of the list. -/
abbrev Lands (d : Dev nD) (L : grid0.Coords) (o : Fin 4 → ℕ) (inb : ∀ a, o a + S1x96x2x128.size a ≤ S2x96x2x128.size a) (t : ℕ) (q qo : PosShare TreeShare)
    (ft : FVec F S147456x2x128 .f32) (fl : S64x96.Idx → BitVec 32) : sProp 𝕄 :=
  iprop((rowsM.view.loc (tile d L) ↦[rowsM.view.setOn (Rect.unit (s := S2x96x2x128) o S1x96x2x128.size inb).set]{fullShare} (gath ft fl t : Buf (Elt F) _))
    ∗ (tabM.view.loc (tile d L) ↦{q} (ft : Buf (Elt F) _)) ∗ (listM.view.loc (tile d L) ↦[listSet t]{qo} (fl : Buf (Elt F) _)))

/-- A gather under way. -/
abbrev Coming (d : Dev nD) (L : grid0.Coords) (sem : DmaSem sig) (o : Fin 4 → ℕ) (inb : ∀ a, o a + S1x96x2x128.size a ≤ S2x96x2x128.size a) (t : ℕ)
    (q qo : PosShare TreeShare) (ft : FVec F S147456x2x128 .f32) (fl : S64x96.Idx → BitVec 32) : sProp 𝕄 :=
  Transfers.Flight countersEmb (tile d L) (.dma sem) (default : HIx 1) slotCredit (Lands d L o inb t q qo ft fl)

/-- ISSUING A TOKEN'S GATHER: the slot, a share of the table, a share of the token's list and the semaphore at zero go, and
    the gather is under way. -/
theorem wp_gather (d : Dev nD) (L : grid0.Coords) (sem : DmaSem sig) (t : ℕ) (o : Fin 4 → ℕ) (inb) (ho4 : o 1 = 0 ∧ o 2 = 0 ∧ o 3 = 0)
    (o' : Fin 2 → ℕ) (inb') (ho : o' = ![t, 0]) (q qo : PosShare TreeShare)
    (ft : FVec F S147456x2x128 .f32) (fl : S64x96.Idx → BitVec 32) (hfl : ∀ j, (fl j).toNat < 147456) (fd : FVec F S2x96x2x128 .f32)
    {α : Type} {Q : α → sProp 𝕄} {h1 h2 h3 h4 h5} {k : PUnit → Prog (TpuEff nD τ sig (Elt F) Λ₀ (tile d L).2) α} :
    iprop((tabM.view.loc (tile d L) ↦{q} (ft : Buf (Elt F) _))
        ∗ (rowsM.view.loc (tile d L) ↦[rowsM.view.setOn (Rect.unit (s := S2x96x2x128) o S1x96x2x128.size inb).set]{fullShare} (fd : Buf (Elt F) _))
        ∗ (listM.view.loc (tile d L) ↦[listSet t]{qo} (fl : Buf (Elt F) _)) ∗ semVal (tile d L, SemLoc.dma sem) 0)
      ⊢ iprop((Coming d L sem o inb t q qo ft fl -∗ wp frame (wpE (defs₀ (F := F)) 𝒱₀ (tile d L) none) Set.univ (k ⟨⟩) Q)
          -∗ wp frame (wpE (defs₀ (F := F)) 𝒱₀ (tile d L) none) Set.univ
              (SparseCore.enqueueIndirectGather h1 tabAll (slotM o inb) gathers_S147456x2x128_S96x2x128 (listAt o' inb') rfl sem h2 h3 h4 h5 >>= k) Q) := by
  have hin : ∀ x, ((listAt o' inb').view.read (Elt F) fl x).toNat < S147456x2x128.size gathers_S147456x2x128_S96x2x128.axis := by
    intro x
    rw [read_listAt fl t o' ho inb' x]
    exact hfl _
  iintro ⟨Ht, Hr, Hl, Hs⟩ Hk
  iapply (SparseCore.wp_indirectGatherLocal countersEmb 𝒱₀ (tile d L) none (src := tabAll) (dst := slotM o inb) (hg := gathers_S147456x2x128_S96x2x128)
    (offs := listAt o' inb') (hn := rfl) (q := q) (qo := qo) (fs := ft) (fd := fd) (fo := fl) (default : HIx 1) slotCredit
    (SparseCore.sum_rowCredit_eq_dmaCredit (slotM o inb) _ (fun _ => rfl)) (by decide) hin) $$ [Ht Hr Hl Hs]
  · rw [set_tabAll, set_slotM, set_listAt t o' ho]
    isplitl [Ht]; · iexact Ht
    isplitl [Hr]; · iexact Hr
    isplitl [Hl]; · iexact Hl
    iexact Hs
  · iintro HF
    iapply Hk
    iapply (Transfers.Flight_mono countersEmb (tile d L) (D' := Lands d L o inb t q qo ft fl) (by
      rw [set_tabAll, set_listAt t o' ho]
      rw [pointsTo_congr (fun i hi => gath_of_write ft fl fd t o inb o' ho inb' hin i hi ho4), set_slotM])) $$ HF

end Cert.Proof.Decode
-- ==== Proof.Body.lean ====
/-
  A trip of a tile's outer loop: two tokens, one from each slot.
-/
module

public import proofs.«01_k».proof.Proof.Inner
public import proofs.«01_k».proof.Proof.Gather

@[expose] public section

noncomputable section

namespace Cert.Proof.Decode

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Rows `a` to `b` of the result. -/
def rowsOf (a b : ℕ) : Finset S2048x768.Idx := Finset.univ.filter fun j => a ≤ (j 0).val ∧ (j 0).val < b

/-- The first row of a tile's block. -/
abbrev base (L : grid0.Coords) : ℕ := 128 * (L 1).val + 64 * (L 0).val

/-- A row of the result, as the copies out address it. -/
abbrev rowM (o : Fin 2 → ℕ) (inb : ∀ a, o a + S1x768.size a ≤ S2048x768.size a) : Memref sig .scVector .hbm S768 .f32 :=
  (outM.slice (Rect.unit (s := S2048x768) o S1x768.size inb) (fun _ => rfl)).squeeze S768 squeezes_S1x768_S768

omit [FloatOps F] in
/-- The entries of the result's row that a tile's copy writes. -/
theorem set_rowM (r : ℕ) (o : Fin 2 → ℕ) (ho : o = ![r, 0]) (inb) : (rowM o inb).view.set = rowsOf r (r + 1) := by
  subst ho
  show ((outM.view.slice _).reshape S768 _).set = _
  rw [View.set_reshape, View.set_slice_whole]
  ext j
  have h1 := (j 1).isLt
  change (j 1).val < 768 at h1
  rw [Rect.mem_set_unit]
  simp only [rowsOf, Finset.mem_filter, Finset.mem_univ, true_and]
  constructor
  · intro h
    have h0 := h 0
    change r ≤ (j 0).val ∧ (j 0).val < r + 1 at h0
    omega
  · intro h a
    fin_cases a
    · show r ≤ (j 0).val ∧ (j 0).val < r + 1; omega
    · show 0 ≤ (j 1).val ∧ (j 1).val < 0 + 768; omega

omit [FloatOps F] in
/-- The first of the rows still to come, taken off. -/
theorem take_row (d : Dev nD) (L : grid0.Coords) (r e : ℕ) (o : Fin 2 → ℕ) (ho : o = ![r, 0]) (inb) (hr : r < e) (f : FVec F S2048x768 .f32) :
    (outM.view.loc (tile d L) ↦[rowsOf r e]{fullShare} (f : Buf (Elt F) (outM.view.loc (tile d L))) : sProp 𝕄)
      ⊢ iprop(((rowM o inb).view.loc (tile d L) ↦[(rowM o inb).view.set]{fullShare} (f : Buf (Elt F) (outM.view.loc (tile d L))))
        ∗ (outM.view.loc (tile d L) ↦[rowsOf (r + 1) e]{fullShare} (f : Buf (Elt F) (outM.view.loc (tile d L))))) := by
  have hs : rowsOf r (r + 1) ⊆ rowsOf r e := fun j hj => by
    simp only [rowsOf, Finset.mem_filter, Finset.mem_univ, true_and] at hj ⊢; omega
  have hd : rowsOf r e \ rowsOf r (r + 1) = rowsOf (r + 1) e := by
    ext j; simp only [rowsOf, Finset.mem_sdiff, Finset.mem_filter, Finset.mem_univ, true_and]; omega
  have h := (pointsTo_split_subset (Ix := HIx 1) (Val := Elt F) (Name := ℕ) (U := UU) (Lvl := ℕ) (ℓ := outM.view.loc (tile d L)) (S := rowsOf r e) (I := rowsOf r (r + 1)) (q := fullShare) (f := f) hs).1
  rw [hd] at h
  rw [set_rowM r o ho]
  exact h

omit [FloatOps F] in
/-- A row done, put with the rows done. -/
theorem put_row (d : Dev nD) (L : grid0.Coords) (a r : ℕ) (o : Fin 2 → ℕ) (ho : o = ![r, 0]) (inb) (hr : a ≤ r) (f g : FVec F S2048x768 .f32)
    (hg : ∀ i ∈ (rowM o inb).view.set, g i = f i) :
    iprop(((rowM o inb).view.loc (tile d L) ↦[(rowM o inb).view.set]{fullShare} (g : Buf (Elt F) (outM.view.loc (tile d L))))
        ∗ (outM.view.loc (tile d L) ↦[rowsOf a r]{fullShare} (f : Buf (Elt F) (outM.view.loc (tile d L)))))
      ⊢ (outM.view.loc (tile d L) ↦[rowsOf a (r + 1)]{fullShare} (f : Buf (Elt F) (outM.view.loc (tile d L))) : sProp 𝕄) := by
  have hs : rowsOf r (r + 1) ⊆ rowsOf a (r + 1) := fun j hj => by
    simp only [rowsOf, Finset.mem_filter, Finset.mem_univ, true_and] at hj ⊢; omega
  have hd : rowsOf a (r + 1) \ rowsOf r (r + 1) = rowsOf a r := by
    ext j; simp only [rowsOf, Finset.mem_sdiff, Finset.mem_filter, Finset.mem_univ, true_and]; omega
  have h := (pointsTo_split_subset (Ix := HIx 1) (Val := Elt F) (Name := ℕ) (U := UU) (Lvl := ℕ) (ℓ := outM.view.loc (tile d L)) (S := rowsOf a (r + 1)) (I := rowsOf r (r + 1)) (q := fullShare) (f := f) hs).2
  have hc := pointsTo_congr (Ix := HIx 1) (Val := Elt F) (Name := ℕ) (U := UU) (Lvl := ℕ) (ℓ := outM.view.loc (tile d L)) (I := (rowM o inb).view.set) (q := fullShare) (f := g) (g := f) hg
  rw [set_rowM r o ho] at hc ⊢
  rw [hd] at h
  exact (Entails.of_eq (congrArg (fun X => iprop(X ∗ _)) hc)).trans h

omit [FloatOps F] in
/-- What a row holds after its copy: the row of the result it is told to be. -/
theorem row_val (r : ℕ) (o : Fin 2 → ℕ) (ho : o = ![r, 0]) (inb) (f res : FVec F S2048x768 .f32) (pay : FVec F S768 .f32)
    (h : ∀ x : S768.Idx, pay x = res (ixOf S2048x768 (by decide) ![r, (x 0).val])) :
    ∀ i ∈ (rowM o inb).view.set, (rowM o inb).view.writes (Elt F) f [⟨Rect.whole S768, pay⟩] i = res i := by
  subst ho
  intro i hi
  obtain ⟨x, -, rfl⟩ := Finset.mem_map.mp hi
  have e := View.read_writes_cons_emb (Val := Elt F) (rowM ![r, 0] inb).view f (Rect.whole S768) (pay : S768.Idx → Elt F .f32) [] x
  rw [View.read_apply, Rect.emb_whole_apply] at e
  refine ((cast_eq _ _).symm.trans e).trans ((h x).trans ?_)
  congr 1
  have he : Shape.reshapeEquiv squeezes_S1x768_S768.numel_eq x = (fun | 0 => ⟨0, by decide⟩ | 1 => x 0 : S1x768.Idx) :=
    Shape.reshapeEquiv_eq_of_rowMajor _ (by
      rw [Shape.rowMajor_val_two, Shape.rowMajor_val_one]
      show 0 * 768 + (x 0).val = (x 0).val
      omega)
  have hemb : (rowM ![r, 0] inb).view.emb x = (Rect.unit (s := S2048x768) ![r, 0] S1x768.size inb).emb (fun | 0 => ⟨0, by decide⟩ | 1 => x 0 : S1x768.Idx) := by
    rw [← he]; rfl
  rw [hemb]
  refine ixOf_eq fun a => ?_
  fin_cases a
  · show r = r + 1 * 0; omega
  · show (x 0).val = 0 + 1 * (x 0).val; omega

/-- The sixteen lanes a store of the summed row writes. -/
abbrev piece (f : ℕ → FVec F S16 .f32) (o : Fin 1 → ℕ) (inb : ∀ a, o a + S16.size a ≤ S768.size a) (c : ℕ) : View.Piece (Elt F) S768 .f32 :=
  ⟨Rect.unit (s := S768) o S16.size inb, shapeCast S16 (f c) shapeCasts_S16_S16⟩

/-- The forty-eight stores of a summed row, the last first. -/
abbrev pieces (f : ℕ → FVec F S16 .f32) : List (View.Piece (Elt F) S768 .f32) :=
  [piece f ![752] inb_S768_S16_752 47, piece f ![736] inb_S768_S16_736 46, piece f ![720] inb_S768_S16_720 45, piece f ![704] inb_S768_S16_704 44, piece f ![688] inb_S768_S16_688 43, piece f ![672] inb_S768_S16_672 42, piece f ![656] inb_S768_S16_656 41, piece f ![640] inb_S768_S16_640 40, piece f ![624] inb_S768_S16_624 39, piece f ![608] inb_S768_S16_608 38, piece f ![592] inb_S768_S16_592 37, piece f ![576] inb_S768_S16_576 36, piece f ![560] inb_S768_S16_560 35, piece f ![544] inb_S768_S16_544 34, piece f ![528] inb_S768_S16_528 33, piece f ![512] inb_S768_S16_512 32, piece f ![496] inb_S768_S16_496 31, piece f ![480] inb_S768_S16_480 30, piece f ![464] inb_S768_S16_464 29, piece f ![448] inb_S768_S16_448 28, piece f ![432] inb_S768_S16_432 27, piece f ![416] inb_S768_S16_416 26, piece f ![400] inb_S768_S16_400 25, piece f ![384] inb_S768_S16_384 24, piece f ![368] inb_S768_S16_368 23, piece f ![352] inb_S768_S16_352 22, piece f ![336] inb_S768_S16_336 21, piece f ![320] inb_S768_S16_320 20, piece f ![304] inb_S768_S16_304 19, piece f ![288] inb_S768_S16_288 18, piece f ![272] inb_S768_S16_272 17, piece f ![256] inb_S768_S16_256 16, piece f ![240] inb_S768_S16_240 15, piece f ![224] inb_S768_S16_224 14, piece f ![208] inb_S768_S16_208 13, piece f ![192] inb_S768_S16_192 12, piece f ![176] inb_S768_S16_176 11, piece f ![160] inb_S768_S16_160 10, piece f ![144] inb_S768_S16_144 9, piece f ![128] inb_S768_S16_128 8, piece f ![112] inb_S768_S16_112 7, piece f ![96] inb_S768_S16_96 6, piece f ![80] inb_S768_S16_80 5, piece f ![64] inb_S768_S16_64 4, piece f ![48] inb_S768_S16_48 3, piece f ![32] inb_S768_S16_32 2, piece f ![16] inb_S768_S16_16 1, piece f ![0] inb_S768_S16_0 0]

/-- The whole row, element by element. -/
def lanes (f : ℕ → FVec F S16 .f32) : FVec F S768 .f32 := fun x => f ((x 0).val / 16) (ixOf S16 (by decide) ![(x 0).val % 16])

/-- A store of sixteen lanes, read at a lane. -/
theorem piece_val (f : ℕ → FVec F S16 .f32) (o : Fin 1 → ℕ) (inb) (c : ℕ) (ho : o = ![16 * c]) (x : S16.Idx) :
    (piece f o inb c).2 x = lanes f ((piece f o inb c).1.emb x) := by
  subst ho
  have hx := (x 0).isLt
  change (x 0).val < 16 at hx
  have h0 : ((Rect.unit (s := S768) ![16 * c] S16.size inb).emb x 0).val = 16 * c + 1 * (x 0).val := rfl
  show shapeCast S16 (f c) shapeCasts_S16_S16 x = f _ _
  rw [show shapeCast S16 (f c) shapeCasts_S16_S16 x = f c x from congrArg (f c) (Shape.reshapeEquiv_eq_of_rowMajor _ rfl)]
  rw [h0, show (16 * c + 1 * (x 0).val) / 16 = c by omega, show (16 * c + 1 * (x 0).val) % 16 = (x 0).val by omega]
  congr 1
  refine (ixOf_eq fun a => ?_).symm
  fin_cases a
  rfl

set_option maxRecDepth 16384 in
/-- The summed row after its stores, as the copy out reads it. -/
theorem read_pieces (f : ℕ → FVec F S16 .f32) (fa : FVec F S768 .f32) (x : S768.Idx) :
    accM.view.read (Elt F) (accM.view.writes (Elt F) fa (pieces f)) x = lanes f x := by
  refine View.read_writes_apply_of_pieces _ _ (lanes f) _ ?_ x (View.cover_of_tiled (s := S768) (pieces f) ![16] rfl x)
  refine List.forall_mem_cons.mpr ⟨piece_val f _ _ 47 rfl, ?_⟩
  refine List.forall_mem_cons.mpr ⟨piece_val f _ _ 46 rfl, ?_⟩
  refine List.forall_mem_cons.mpr ⟨piece_val f _ _ 45 rfl, ?_⟩
  refine List.forall_mem_cons.mpr ⟨piece_val f _ _ 44 rfl, ?_⟩
  refine List.forall_mem_cons.mpr ⟨piece_val f _ _ 43 rfl, ?_⟩
  refine List.forall_mem_cons.mpr ⟨piece_val f _ _ 42 rfl, ?_⟩
  refine List.forall_mem_cons.mpr ⟨piece_val f _ _ 41 rfl, ?_⟩
  refine List.forall_mem_cons.mpr ⟨piece_val f _ _ 40 rfl, ?_⟩
  refine List.forall_mem_cons.mpr ⟨piece_val f _ _ 39 rfl, ?_⟩
  refine List.forall_mem_cons.mpr ⟨piece_val f _ _ 38 rfl, ?_⟩
  refine List.forall_mem_cons.mpr ⟨piece_val f _ _ 37 rfl, ?_⟩
  refine List.forall_mem_cons.mpr ⟨piece_val f _ _ 36 rfl, ?_⟩
  refine List.forall_mem_cons.mpr ⟨piece_val f _ _ 35 rfl, ?_⟩
  refine List.forall_mem_cons.mpr ⟨piece_val f _ _ 34 rfl, ?_⟩
  refine List.forall_mem_cons.mpr ⟨piece_val f _ _ 33 rfl, ?_⟩
  refine List.forall_mem_cons.mpr ⟨piece_val f _ _ 32 rfl, ?_⟩
  refine List.forall_mem_cons.mpr ⟨piece_val f _ _ 31 rfl, ?_⟩
  refine List.forall_mem_cons.mpr ⟨piece_val f _ _ 30 rfl, ?_⟩
  refine List.forall_mem_cons.mpr ⟨piece_val f _ _ 29 rfl, ?_⟩
  refine List.forall_mem_cons.mpr ⟨piece_val f _ _ 28 rfl, ?_⟩
  refine List.forall_mem_cons.mpr ⟨piece_val f _ _ 27 rfl, ?_⟩
  refine List.forall_mem_cons.mpr ⟨piece_val f _ _ 26 rfl, ?_⟩
  refine List.forall_mem_cons.mpr ⟨piece_val f _ _ 25 rfl, ?_⟩
  refine List.forall_mem_cons.mpr ⟨piece_val f _ _ 24 rfl, ?_⟩
  refine List.forall_mem_cons.mpr ⟨piece_val f _ _ 23 rfl, ?_⟩
  refine List.forall_mem_cons.mpr ⟨piece_val f _ _ 22 rfl, ?_⟩
  refine List.forall_mem_cons.mpr ⟨piece_val f _ _ 21 rfl, ?_⟩
  refine List.forall_mem_cons.mpr ⟨piece_val f _ _ 20 rfl, ?_⟩
  refine List.forall_mem_cons.mpr ⟨piece_val f _ _ 19 rfl, ?_⟩
  refine List.forall_mem_cons.mpr ⟨piece_val f _ _ 18 rfl, ?_⟩
  refine List.forall_mem_cons.mpr ⟨piece_val f _ _ 17 rfl, ?_⟩
  refine List.forall_mem_cons.mpr ⟨piece_val f _ _ 16 rfl, ?_⟩
  refine List.forall_mem_cons.mpr ⟨piece_val f _ _ 15 rfl, ?_⟩
  refine List.forall_mem_cons.mpr ⟨piece_val f _ _ 14 rfl, ?_⟩
  refine List.forall_mem_cons.mpr ⟨piece_val f _ _ 13 rfl, ?_⟩
  refine List.forall_mem_cons.mpr ⟨piece_val f _ _ 12 rfl, ?_⟩
  refine List.forall_mem_cons.mpr ⟨piece_val f _ _ 11 rfl, ?_⟩
  refine List.forall_mem_cons.mpr ⟨piece_val f _ _ 10 rfl, ?_⟩
  refine List.forall_mem_cons.mpr ⟨piece_val f _ _ 9 rfl, ?_⟩
  refine List.forall_mem_cons.mpr ⟨piece_val f _ _ 8 rfl, ?_⟩
  refine List.forall_mem_cons.mpr ⟨piece_val f _ _ 7 rfl, ?_⟩
  refine List.forall_mem_cons.mpr ⟨piece_val f _ _ 6 rfl, ?_⟩
  refine List.forall_mem_cons.mpr ⟨piece_val f _ _ 5 rfl, ?_⟩
  refine List.forall_mem_cons.mpr ⟨piece_val f _ _ 4 rfl, ?_⟩
  refine List.forall_mem_cons.mpr ⟨piece_val f _ _ 3 rfl, ?_⟩
  refine List.forall_mem_cons.mpr ⟨piece_val f _ _ 2 rfl, ?_⟩
  refine List.forall_mem_cons.mpr ⟨piece_val f _ _ 1 rfl, ?_⟩
  refine List.forall_mem_cons.mpr ⟨piece_val f _ _ 0 rfl, ?_⟩
  intro p hp
  exact absurd hp List.not_mem_nil

/-- The outer loop's body at the task's arrays. -/
abbrev trip (L : grid0.Coords) (v2 c : BitVec 32) :=
  k0_t1_body (F := F) L idxM (Memref.isWhole_whole _) wtsM (Memref.isWhole_whole _) tabM (Memref.isWhole_whole _) outM (Memref.isWhole_whole _)
    listM (Memref.isWhole_whole _) wM (Memref.isWhole_whole _) rowsM (Memref.isWhole_whole _) accM (Memref.isWhole_whole _)
    cc0_scratch4 cc0_scratch5 cc0_scoped0 cc0_scoped1 cc0_scoped2 cc0_scoped3 v2 c

/-- Each of the two row buffers lies in the scratch. -/
abbrev inb0 := inb_S2x96x2x128_S1x96x2x128_0_0_0_0
abbrev inb1 := inb_S2x96x2x128_S1x96x2x128_1_0_0_0

/-- What a slot's gather holds at trip `p`: under way for token `t`, or, past the last token, everything back. -/
def SlotAt (d : Dev nD) (L : grid0.Coords) (sem : DmaSem sig) (o : Fin 4 → ℕ) (inb : ∀ a, o a + S1x96x2x128.size a ≤ S2x96x2x128.size a) (t : ℕ)
    (q qo : PosShare TreeShare) (ft : FVec F S147456x2x128 .f32) (fl : S64x96.Idx → BitVec 32) : sProp 𝕄 :=
  if t < 64 then iprop(Coming d L sem o inb t q qo ft fl ∗ (listM.view.loc (tile d L) ↦[Finset.univ \ listSet t]{qo} (fl : Buf (Elt F) _)))
  else iprop((∃ fr, rowsM.view.loc (tile d L) ↦[rowsM.view.setOn (Rect.unit (s := S2x96x2x128) o S1x96x2x128.size inb).set]{fullShare} fr)
    ∗ (tabM.view.loc (tile d L) ↦{q} (ft : Buf (Elt F) _)) ∗ (listM.view.loc (tile d L) ↦{qo} (fl : Buf (Elt F) _)) ∗ semVal (tile d L, SemLoc.dma sem) 0)

/-- What the outer loop holds before trip `p`. -/
def Outer (d : Dev nD) (L : grid0.Coords) (O : CellTallies nD τ sig (HIx 1)) (W : Waits sig (HIx 1)) (q0 q1 l0 l1 : PosShare TreeShare)
    (ft : FVec F S147456x2x128 .f32) (fl : S64x96.Idx → BitVec 32) (fw : FVec F S32768 .f32) (res fo : FVec F S2048x768 .f32) (p : ℕ) : sProp 𝕄 :=
  iprop(SlotAt d L cc0_scratch4.sem ![0, 0, 0, 0] inb0 (2 * p) q0 l0 ft fl ∗ SlotAt d L cc0_scratch5.sem ![1, 0, 0, 0] inb1 (2 * p + 1) q1 l1 ft fl
    ∗ (wM.view.loc (tile d L) ↦{fullShare} (fw : Buf (Elt F) _)) ∗ (∃ fa, accM.view.loc (tile d L) ↦{fullShare} fa)
    ∗ semVal (tile d L, SemLoc.dma cc0_scoped2.sem) 0 ∗ semVal (tile d L, SemLoc.dma cc0_scoped3.sem) 0
    ∗ (outM.view.loc (tile d L) ↦[rowsOf (base L) (base L + 2 * p)]{fullShare} (res : Buf (Elt F) _))
    ∗ (outM.view.loc (tile d L) ↦[rowsOf (base L + 2 * p) (base L + 64)]{fullShare} (fo : Buf (Elt F) _))
    ∗ ∃ W', ⌜∀ x ∈ W', x ∈ W ∨ x.2 = none⌝ ∗ owes (tile d L) O W')

/-- The next token's gather, issued while there is a token: either way the slot is as the next trip wants it. -/
theorem wp_next (d : Dev nD) (L : grid0.Coords) (sem : DmaSem sig) (t : ℕ) (o : Fin 4 → ℕ) (inb) (ho4 : o 1 = 0 ∧ o 2 = 0 ∧ o 3 = 0)
    {C : Prop} [Decidable C] (hC : C ↔ t < 64) (o' : Fin 2 → ℕ) (inb' : C → ∀ a, o' a + S1x96.size a ≤ S64x96.size a) (ho : o' = ![t, 0]) (q qo : PosShare TreeShare)
    (ft : FVec F S147456x2x128 .f32) (fl : S64x96.Idx → BitVec 32) (hfl : ∀ j, (fl j).toNat < 147456) (fd : FVec F S2x96x2x128 .f32)
    {α : Type} {Q : α → sProp 𝕄} {h1 h2 h3 h4 h5} {J : Prog (TpuEff nD τ sig (Elt F) Λ₀ (tile d L).2) α} :
    iprop((tabM.view.loc (tile d L) ↦{q} (ft : Buf (Elt F) _))
        ∗ (rowsM.view.loc (tile d L) ↦[rowsM.view.setOn (Rect.unit (s := S2x96x2x128) o S1x96x2x128.size inb).set]{fullShare} (fd : Buf (Elt F) _))
        ∗ (listM.view.loc (tile d L) ↦{qo} (fl : Buf (Elt F) _)) ∗ semVal (tile d L, SemLoc.dma sem) 0)
      ⊢ iprop((SlotAt d L sem o inb t q qo ft fl -∗ wp frame (wpE (defs₀ (F := F)) 𝒱₀ (tile d L) none) Set.univ J Q)
          -∗ wp frame (wpE (defs₀ (F := F)) 𝒱₀ (tile d L) none) Set.univ
              (if h : C then SparseCore.enqueueIndirectGather h1 tabAll (slotM o inb) gathers_S147456x2x128_S96x2x128 (listAt o' (inb' h)) rfl sem h2 h3 h4 h5 >>= fun _ => J
                else J) Q) := by
  iintro ⟨Ht, Hr, Hl, Hs⟩ Hk
  unfold SlotAt
  by_cases h : C
  · rw [dif_pos h, if_pos (hC.mp h)]
    ihave Hl' := (pointsTo_split_subset (ℓ := listM.view.loc (tile d L)) (q := qo) (f := fl) (S := Finset.univ) (Finset.subset_univ (listSet t))).1 $$ Hl
    icases Hl' with ⟨Hl, Hx⟩
    iapply (wp_gather d L sem t o inb ho4 o' (inb' h) ho q qo ft fl hfl fd (k := fun _ => J)) $$ [Ht Hr Hl Hs]
    · isplitl [Ht]; · iexact Ht
      isplitl [Hr]; · iexact Hr
      isplitl [Hl]; · iexact Hl
      iexact Hs
    iintro Hf
    iapply Hk
    isplitl [Hf]; · iexact Hf
    iexact Hx
  · rw [dif_neg h, if_neg (fun e => h (hC.mpr e))]
    iapply Hk
    isplitl [Hr]; · iexists fd; iexact Hr
    isplitl [Ht]; · iexact Ht
    isplitl [Hl]; · iexact Hl
    iexact Hs

/-- The first prefetch happens in every turn but the last. -/
theorem more1 : ∀ p : Fin k0_t1_loop.trips, (k0_cond1 p = 1#1 ↔ 2 * (p.val + 1) < 64) := by decide
/-- The second prefetch happens in every turn but the last. -/
theorem more2 : ∀ p : Fin k0_t1_loop.trips, (k0_cond2 p = 1#1 ↔ 2 * (p.val + 1) + 1 < 64) := by decide

set_option maxHeartbeats 4000000 in
set_option maxRecDepth 16384 in
/-- A TRIP: the two slots' gathers land, each token's sum is formed and copied out, and the next two gathers are issued. -/
theorem trip_spec (d : Dev nD) (L : grid0.Coords) (O : CellTallies nD τ sig (HIx 1)) (W : Waits sig (HIx 1)) (q0 q1 l0 l1 : PosShare TreeShare)
    (ft : FVec F S147456x2x128 .f32) (fl : S64x96.Idx → BitVec 32) (hfl : ∀ j, (fl j).toNat < 147456) (fw : FVec F S32768 .f32) (res fo : FVec F S2048x768 .f32)
    (hres : ∀ t < 64, ∀ x : S768.Idx, lanes (accVec (fun k => wAt fw (512 * t + 16 * k)) (rAt (gath ft fl t) 0) 32) x
      = res (ixOf S2048x768 (by decide) ![base L + t, (x 0).val]))
    (v2 c : BitVec 32) (p : Fin k0_t1_loop.trips) :
    iprop((□ Transfers.MayWaits (tile d L) (default : HIx 1) O) ∗ Outer d L O W q0 q1 l0 l1 ft fl fw res fo p.val)
      ⊢ wp frame (wpE (defs₀ (F := F)) 𝒱₀ (tile d L) none) Set.univ (trip L v2 c p ⟨⟩)
          fun _ => Outer d L O W q0 q1 l0 l1 ft fl fw res fo (p.val + 1) := by
  have hp : p.val < 32 := lt_of_lt_of_eq p.isLt trips1
  unfold Outer SlotAt
  rw [if_pos (show 2 * p.val < 64 by omega), if_pos (show 2 * p.val + 1 < 64 by omega)]
  iintro ⟨#Hmw, ⟨Hf0, Hx0⟩, ⟨Hf1, Hx1⟩, Hw, ⟨%fa, Ha⟩, Hs2, Hs3, Hdone, Htodo, ⟨%W', %hW', HO⟩⟩
  unfold trip k0_t1_body
  sl_exec
  iapply (Transfers.wp_waitLocalO countersEmb 𝒱₀ (tile d L) none (default : HIx 1) rfl) $$ [Hf0 HO]
  · isplitl [Hf0]; · iexact Hf0
    isplitl [HO]; · iexact HO
    iapply (Transfers.MayWaits.elim (SemLoc.dma cc0_scratch4.sem)) $$ Hmw
  iintro ⟨⟨Hr0, Ht0, Hl0⟩, Hs0, HO⟩
  sl_exec
  sl_for (fun n acc => iprop(⌜acc = tup (accVec (fun k => wAt fw (1024 * p.val + 16 * k)) (rAt (gath ft fl (2 * p.val)) 0) n)⌝
    ∗ (wM.view.loc (tile d L) ↦{fullShare} fw) ∗ (rowsM.view.loc (tile d L) ↦[rowsM.view.setOn slot0.set]{fullShare} (gath ft fl (2 * p.val) : Buf (Elt F) _)))) $$ [Hw Hr0]
  · intro n acc
    istart
    iintro ⟨%hacc, Hw, Hr⟩
    subst hacc
    iapply (trip0_spec d L p _ (fun _ => broadcast S16 (Scalar.ofBits .f32 0#32)) _ fw (gath ft fl (2 * p.val)) n) $$ [Hw Hr]
    isplitl [Hw]; · iexact Hw
    iexact Hr
  · isplitr
    · ipureintro; rfl
    isplitl [Hw]; · iexact Hw
    iexact Hr0
  iintro %acc ⟨%hacc, Hw, Hr0⟩
  subst hacc
  rw [show Scf.trips k0_t2_loop.lb k0_t2_loop.ub k0_t2_loop.st = 32 from trips2]
  ihave Hrow := (take_row (F := F) d L (base L + 2 * p.val) (base L + 64) (k0_off21 L p) (by rw [k0_off21_eq]) (k0_off21_inb L p) (by omega) fo) $$ Htodo
  icases Hrow with ⟨Hrow, Htodo⟩
  sl_exec
  have hpay : ∀ x : S768.Idx, trip_spec.sl.dma96 d L ft fl fw p fa x = res (ixOf S2048x768 (by decide) ![base L + 2 * p.val, (x 0).val]) := by
    intro x
    refine Eq.trans ?_ (hres (2 * p.val) (by omega) x)
    refine (read_pieces (accVec (fun k => wAt fw (1024 * p.val + 16 * k)) (rAt (gath ft fl (2 * p.val)) 0) 32) fa x).trans ?_
    rw [show 512 * (2 * p.val) = 1024 * p.val by omega]
  ihave Hdone := (put_row (F := F) d L (base L) (base L + 2 * p.val) (k0_off21 L p) (by rw [k0_off21_eq]) (k0_off21_inb L p) (by omega) res _
    (row_val (base L + 2 * p.val) _ (by rw [k0_off21_eq]) _ fo res _ hpay)) $$ [Hrow Hdone]
  · isplitl [Hrow]; · iexact Hrow
    iexact Hdone
  ihave Hl0 := (pointsTo_split_subset (ℓ := listM.view.loc (tile d L)) (q := l0) (f := fl) (S := Finset.univ) (Finset.subset_univ (listSet (2 * p.val)))).2 $$ [Hl0 Hx0]
  · isplitl [Hl0] <;> iassumption
  iapply (wp_next d L cc0_scratch4.sem (2 * (p.val + 1)) _ inb0 ⟨rfl, rfl, rfl⟩ (more1 p) (k0_off22 p) (k0_off22_inb p) (by rw [k0_off22_eq, show 2 * (p.val + 1) = 2 * p.val + 2 by omega]) q0 l0 ft fl hfl (gath ft fl (2 * p.val))) $$ [Ht0 Hr0 Hl0 Hs0]
  · isplitl [Ht0]; · iexact Ht0
    isplitl [Hr0]; · iexact Hr0
    isplitl [Hl0]; · iexact Hl0
    iexact Hs0
  iintro Hslot0
  sl_exec
  iapply (Transfers.wp_waitLocalO countersEmb 𝒱₀ (tile d L) none (default : HIx 1) rfl) $$ [Hf1 HO]
  · isplitl [Hf1]; · iexact Hf1
    isplitl [HO]; · iexact HO
    iapply (Transfers.MayWaits.elim (SemLoc.dma cc0_scratch5.sem)) $$ Hmw
  iintro ⟨⟨Hr1, Ht1, Hl1⟩, Hs1, HO⟩
  sl_exec
  sl_for (fun n acc => iprop(⌜acc = tup (accVec (fun k => wAt fw (1024 * p.val + 16 * k + 512)) (rAt (gath ft fl (2 * p.val + 1)) 1) n)⌝
    ∗ (wM.view.loc (tile d L) ↦{fullShare} fw) ∗ (rowsM.view.loc (tile d L) ↦[rowsM.view.setOn slot1.set]{fullShare} (gath ft fl (2 * p.val + 1) : Buf (Elt F) _)))) $$ [Hw Hr1]
  · intro n acc
    istart
    iintro ⟨%hacc, Hw, Hr⟩
    subst hacc
    iapply (trip1_spec d L p _ (fun _ => broadcast S16 (Scalar.ofBits .f32 0#32)) fw (gath ft fl (2 * p.val + 1)) n) $$ [Hw Hr]
    isplitl [Hw]; · iexact Hw
    iexact Hr
  · isplitr
    · ipureintro; rfl
    isplitl [Hw]; · iexact Hw
    iexact Hr1
  iintro %acc ⟨%hacc, Hw, Hr1⟩
  subst hacc
  rw [show Scf.trips k0_t3_loop.lb k0_t3_loop.ub k0_t3_loop.st = 32 from trips3]
  ihave Hrow := (take_row (F := F) d L (base L + 2 * p.val + 1) (base L + 64) (k0_off41 L p) (by rw [k0_off41_eq]) (k0_off41_inb L p) (by omega) fo) $$ Htodo
  icases Hrow with ⟨Hrow, Htodo⟩
  sl_exec
  have hpay1 : ∀ x : S768.Idx, trip_spec.sl.dma96_1 ft fl fw p x = res (ixOf S2048x768 (by decide) ![base L + 2 * p.val + 1, (x 0).val]) := by
    intro x
    refine Eq.trans ?_ (hres (2 * p.val + 1) (by omega) x)
    refine (read_pieces (accVec (fun k => wAt fw (1024 * p.val + 16 * k + 512)) (rAt (gath ft fl (2 * p.val + 1)) 1) 32) _ x).trans ?_
    rw [show (fun k => wAt fw (1024 * p.val + 16 * k + 512)) = fun k => wAt fw (512 * (2 * p.val + 1) + 16 * k) from
      funext fun k => by rw [show 1024 * p.val + 16 * k + 512 = 512 * (2 * p.val + 1) + 16 * k by omega]]
    rfl
  ihave Hdone := (put_row (F := F) d L (base L) (base L + 2 * p.val + 1) (k0_off41 L p) (by rw [k0_off41_eq]) (k0_off41_inb L p) (by omega) res _
    (row_val (base L + 2 * p.val + 1) _ (by rw [k0_off41_eq]) _ fo res _ hpay1)) $$ [Hrow Hdone]
  · isplitl [Hrow]; · iexact Hrow
    iexact Hdone
  ihave Hl1 := (pointsTo_split_subset (ℓ := listM.view.loc (tile d L)) (q := l1) (f := fl) (S := Finset.univ) (Finset.subset_univ (listSet (2 * p.val + 1)))).2 $$ [Hl1 Hx1]
  · isplitl [Hl1] <;> iassumption
  iapply (wp_next d L cc0_scratch5.sem (2 * (p.val + 1) + 1) _ inb1 ⟨rfl, rfl, rfl⟩ (more2 p) (k0_off42 p) (k0_off42_inb p)
    (by rw [k0_off42_eq, show 2 * (p.val + 1) + 1 = 2 * p.val + 3 by omega]) q1 l1 ft fl hfl (gath ft fl (2 * p.val + 1))) $$ [Ht1 Hr1 Hl1 Hs1]
  · isplitl [Ht1]; · iexact Ht1
    isplitl [Hr1]; · iexact Hr1
    isplitl [Hl1]; · iexact Hl1
    iexact Hs1
  iintro Hslot1
  sl_step
  unfold SlotAt
  isplitl [Hslot0]; · iexact Hslot0
  isplitl [Hslot1]; · iexact Hslot1
  isplitl [Hw]; · iexact Hw
  isplitl [Ha]; · iexists _; iexact Ha
  isplitl [Hs2]; · iexact Hs2
  isplitl [Hs3]; · iexact Hs3
  rw [show base L + 2 * (p.val + 1) = base L + 2 * p.val + 1 + 1 by omega]
  isplitl [Hdone]; · iexact Hdone
  isplitl [Htodo]; · iexact Htodo
  iexists _
  isplitr
  swap; · iexact HO
  ipureintro
  intro x hx
  simp only [Finset.mem_insert] at hx
  rcases hx with hx | hx | hx | hx | hx
  · exact .inr (hx ▸ rfl)
  · exact .inr (hx ▸ rfl)
  · exact .inr (hx ▸ rfl)
  · exact .inr (hx ▸ rfl)
  · exact hW' x hx

end Cert.Proof.Decode
-- ==== Proof.Tile.lean ====
/-
  A tile's task: its two fetches, its first two gathers, its thirty-two trips.
-/
module

public import proofs.«01_k».proof.Proof.Body

@[expose] public section

noncomputable section

namespace Cert.Proof.Decode

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a tile finds of its own -/

/-- A tile's own semaphore. -/
abbrev cell (d : Dev nD) (L : grid0.Coords) (s : DmaSem sig) : GSem nD τ sig := (tile d L, SemLoc.dma s)

omit [FloatOps F] in
/-- A tile's scoped semaphore is among those it holds. -/
theorem cell_mem (d : Dev nD) (L : grid0.Coords) (s : DmaSem sig) (h : (SemLoc.dma s : SemLoc sig).isScoped .scVector = true) :
    cell d L s ∈ ownCells (tile d L) := mem_ownCells.mpr ⟨rfl, h⟩

omit [FloatOps F] in
/-- Different semaphores are different cells. -/
theorem cell_ne (d : Dev nD) (L : grid0.Coords) {s s' : DmaSem sig} (h : s ≠ s') : cell d L s ≠ cell d L s' :=
  fun e => h (SemLoc.dma.inj (Prod.mk.inj e).2)

omit [FloatOps F] in
/-- The tile's semaphores at zero are the six it uses and the rest. -/
theorem sems_split (d : Dev nD) (L : grid0.Coords) : (ownSems0 (tile d L) : sProp 𝕄)
    = iprop(semVal (cell d L cc0_scratch4.sem) 0 ∗ semVal (cell d L cc0_scratch5.sem) 0 ∗ semVal (cell d L cc0_scoped0.sem) 0 ∗ semVal (cell d L cc0_scoped1.sem) 0 ∗ semVal (cell d L cc0_scoped2.sem) 0 ∗ semVal (cell d L cc0_scoped3.sem) 0
      ∗ bigSep (((((((ownCells (tile d L)).erase (cell d L cc0_scratch4.sem)).erase (cell d L cc0_scratch5.sem)).erase (cell d L cc0_scoped0.sem)).erase (cell d L cc0_scoped1.sem)).erase (cell d L cc0_scoped2.sem)).erase (cell d L cc0_scoped3.sem)) fun g => semVal g 0) := by
  unfold SparseCore.Cfg.ownSems0
  rw [SparseCore.bigSep_erase' (cell_mem d L cc0_scratch4.sem (by decide)),
    SparseCore.bigSep_erase' (Finset.mem_erase.mpr ⟨cell_ne d L (by decide), cell_mem d L cc0_scratch5.sem (by decide)⟩),
    SparseCore.bigSep_erase' (Finset.mem_erase.mpr ⟨cell_ne d L (by decide), Finset.mem_erase.mpr ⟨cell_ne d L (by decide), cell_mem d L cc0_scoped0.sem (by decide)⟩⟩),
    SparseCore.bigSep_erase' (Finset.mem_erase.mpr ⟨cell_ne d L (by decide), Finset.mem_erase.mpr ⟨cell_ne d L (by decide), Finset.mem_erase.mpr ⟨cell_ne d L (by decide), cell_mem d L cc0_scoped1.sem (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped2.sem (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L cc0_scoped3.sem (by decide)⟩⟩⟩⟩⟩)]

omit [FloatOps F] in
/-- Different buffers are different places. -/
theorem buf_ne (L : grid0.Coords) {b b' : Ref sig .scVector} (h : b ≠ b') :
    (Proc.scVector (cV L) (jV L)).devRef b ≠ (Proc.scVector (cV L) (jV L)).devRef b' := fun e => h (Proc.devRef_injective _ e)

omit [FloatOps F] in
/-- The tile's own buffers are its four scratches and the rest. -/
theorem bufs_split (d : Dev nD) (L : grid0.Coords) : (ownBufs (tile d L) : sProp 𝕄)
    = iprop((∃ f : Buf (Elt F) _, listM.view.loc (tile d L) ↦{fullShare} f) ∗ (∃ f : Buf (Elt F) _, wM.view.loc (tile d L) ↦{fullShare} f) ∗ (∃ f : Buf (Elt F) _, rowsM.view.loc (tile d L) ↦{fullShare} f) ∗ (∃ f : Buf (Elt F) _, accM.view.loc (tile d L) ↦{fullShare} f)
      ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨buf_ne L (by decide), SparseCore.Cfg.mem_ownRefs_of_owner (p := Proc.scVector (cV L) (jV L)) (b := (Proc.scVector (cV L) (jV L)).devRef cc0_scratch1) rfl⟩),
    SparseCore.bigSep_erase' (Finset.mem_erase.mpr ⟨buf_ne L (by decide), Finset.mem_erase.mpr ⟨buf_ne L (by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨buf_ne L (by decide), Finset.mem_erase.mpr ⟨buf_ne L (by decide), Finset.mem_erase.mpr ⟨buf_ne L (by decide), SparseCore.Cfg.mem_ownRefs_of_owner (p := Proc.scVector (cV L) (jV L)) (b := (Proc.scVector (cV L) (jV L)).devRef cc0_scratch3) rfl⟩⟩⟩)]

/-! ## What a tile makes of the arrays -/

/-- A tile's lists and weights: rows `b` to `b + 64` of the expanded indices, and their repeated weights. -/
def cutL (fi : S2048x96.Idx → BitVec 32) (b : ℕ) : S64x96.Idx → BitVec 32 := fun j => fi (ixOf S2048x96 (by decide) ![b + (j 0).val, (j 1).val])
/-- The weights of the sixty-four tokens from `b`. -/
def cutW (fw : FVec F S1048576 .f32) (b : ℕ) : FVec F S32768 .f32 := fun j => fw (ixOf S1048576 (by decide) ![512 * b + (j 0).val])

/-- The decoded rows: at row `r`, the weighted sum of the table's rows its list names. -/
def decV (fi : S2048x96.Idx → BitVec 32) (fw : FVec F S1048576 .f32) (ft : FVec F S147456x2x128 .f32) : FVec F S2048x768 .f32 := fun j =>
  lanes (accVec (fun k => wAt (cutW fw ((j 0).val / 64 * 64)) (512 * ((j 0).val % 64) + 16 * k))
    (rAt (gath ft (cutL fi ((j 0).val / 64 * 64)) ((j 0).val % 64)) 0) 32) (ixOf S768 (by decide) ![(j 1).val])

/-- A tile's tokens are among the tokens. -/
theorem base_lt (L : grid0.Coords) : base L + 64 ≤ 2048 := by
  have h0 := (L 0).isLt
  have h1 := (L 1).isLt
  change (L 0).val < 2 at h0
  change (L 1).val < 16 at h1
  show 128 * (L 1).val + 64 * (L 0).val + 64 ≤ 2048
  omega

/-- A token's decoded row, from the tile's own lists and weights. -/
theorem decV_tile (fi : S2048x96.Idx → BitVec 32) (fw : FVec F S1048576 .f32) (ft : FVec F S147456x2x128 .f32) (L : grid0.Coords) (t : ℕ) (ht : t < 64) (x : S768.Idx) :
    lanes (accVec (fun k => wAt (cutW fw (base L)) (512 * t + 16 * k)) (rAt (gath ft (cutL fi (base L)) t) 0) 32) x
      = decV fi fw ft (ixOf S2048x768 (by decide) ![base L + t, (x 0).val]) := by
  have hb := base_lt L
  have h0 : ((ixOf S2048x768 (by decide) ![base L + t, (x 0).val]) 0).val = base L + t := Nat.mod_eq_of_lt (show base L + t < 2048 by omega)
  have hx := (x 0).isLt
  change (x 0).val < 768 at hx
  have h1 : ((ixOf S2048x768 (by decide) ![base L + t, (x 0).val]) 1).val = (x 0).val := Nat.mod_eq_of_lt (show (x 0).val < 768 from hx)
  unfold decV
  rw [h0, h1, show (base L + t) / 64 * 64 = base L by unfold base; omega, show (base L + t) % 64 = t by unfold base; omega]
  congr 1
  refine (ixOf_eq fun a => ?_).symm
  fin_cases a
  rfl

/-- The fetched lists and weights are the tile's. -/
theorem read_lists (fi : S2048x96.Idx → BitVec 32) (L : grid0.Coords) (inb) :
    (idxM.slice (Rect.unit (s := S2048x96) (k0_off1 L) S64x96.size inb) (fun _ => rfl)).view.read (Elt F) fi = cutL fi (base L) := by
  funext j
  show fi _ = fi _
  congr 1
  refine (ixOf_eq fun a => ?_).symm
  fin_cases a
  · show base L + (j 0).val = k0_off1 L 0 + 1 * (j 0).val
    have e : k0_off1 L 0 = base L := congrFun (k0_off1_eq L) 0
    omega
  · show (j 1).val = k0_off1 L 1 + 1 * (j 1).val
    have e : k0_off1 L 1 = 0 := congrFun (k0_off1_eq L) 1
    omega

/-- What the copy of the weights brings. -/
theorem read_weights (fw : FVec F S1048576 .f32) (L : grid0.Coords) (inb) :
    (wtsM.slice (Rect.unit (s := S1048576) (k0_off2 L) S32768.size inb) (fun _ => rfl)).view.read (Elt F) fw = cutW fw (base L) := by
  funext j
  show fw _ = fw _
  congr 1
  refine (ixOf_eq fun a => ?_).symm
  fin_cases a
  show 512 * base L + (j 0).val = k0_off2 L 0 + 1 * (j 0).val
  have e : k0_off2 L 0 = 65536 * (L 1).val + 32768 * (L 0).val := congrFun (k0_off2_eq L) 0
  unfold base
  omega

/-! ## The two slots -/

omit [FloatOps F] in
/-- The row scratch is its two slots. -/
theorem slots_compl : (Finset.univ : Finset S2x96x2x128.Idx) \ rowsM.view.setOn slot0.set = rowsM.view.setOn slot1.set := by
  have e : ∀ M : Finset S2x96x2x128.Idx, rowsM.view.setOn M = M := fun M => Finset.map_refl
  rw [e, e]
  ext j
  have h0 := (j 0).isLt
  have h1 := (j 1).isLt
  have h2 := (j 2).isLt
  have h3 := (j 3).isLt
  change (j 0).val < 2 at h0
  change (j 1).val < 96 at h1
  change (j 2).val < 2 at h2
  change (j 3).val < 128 at h3
  rw [Finset.mem_sdiff, Rect.mem_set_unit, Rect.mem_set_unit]
  constructor
  · rintro ⟨-, h⟩ a
    have h' : (j 0).val = 1 := by
      by_contra hc
      refine h fun a => ?_
      fin_cases a
      · show 0 ≤ (j 0).val ∧ (j 0).val < 0 + 1; omega
      · show 0 ≤ (j 1).val ∧ (j 1).val < 0 + 96; omega
      · show 0 ≤ (j 2).val ∧ (j 2).val < 0 + 2; omega
      · show 0 ≤ (j 3).val ∧ (j 3).val < 0 + 128; omega
    fin_cases a
    · show 1 ≤ (j 0).val ∧ (j 0).val < 1 + 1; omega
    · show 0 ≤ (j 1).val ∧ (j 1).val < 0 + 96; omega
    · show 0 ≤ (j 2).val ∧ (j 2).val < 0 + 2; omega
    · show 0 ≤ (j 3).val ∧ (j 3).val < 0 + 128; omega
  · intro h
    refine ⟨Finset.mem_univ _, fun h' => ?_⟩
    have a := h 0
    have b := h' 0
    change 1 ≤ (j 0).val ∧ (j 0).val < 1 + 1 at a
    change 0 ≤ (j 0).val ∧ (j 0).val < 0 + 1 at b
    omega

omit [FloatOps F] in
/-- The row scratch is dealt to its slots. -/
theorem slots_split (d : Dev nD) (L : grid0.Coords) (f : FVec F S2x96x2x128 .f32) :
    (rowsM.view.loc (tile d L) ↦{fullShare} (f : Buf (Elt F) _) : sProp 𝕄)
      ⊢ iprop((rowsM.view.loc (tile d L) ↦[rowsM.view.setOn slot0.set]{fullShare} (f : Buf (Elt F) _))
        ∗ (rowsM.view.loc (tile d L) ↦[rowsM.view.setOn slot1.set]{fullShare} (f : Buf (Elt F) _))) := by
  have h := (pointsTo_split_subset (Ix := HIx 1) (Val := Elt F) (Name := ℕ) (U := UU) (Lvl := ℕ) (ℓ := rowsM.view.loc (tile d L)) (S := Finset.univ)
    (I := rowsM.view.setOn slot0.set) (q := fullShare) (f := f) (Finset.subset_univ _)).1
  rw [slots_compl] at h
  exact h

omit [FloatOps F] in
/-- The slots, whatever each holds, are the row scratch. -/
theorem slots_join (d : Dev nD) (L : grid0.Coords) (f g : FVec F S2x96x2x128 .f32) :
    iprop((rowsM.view.loc (tile d L) ↦[rowsM.view.setOn slot0.set]{fullShare} (f : Buf (Elt F) _))
        ∗ (rowsM.view.loc (tile d L) ↦[rowsM.view.setOn slot1.set]{fullShare} (g : Buf (Elt F) _)))
      ⊢ (∃ h : Buf (Elt F) _, rowsM.view.loc (tile d L) ↦{fullShare} h : sProp 𝕄) := by
  have h := pointsTo_join_subset (Ix := HIx 1) (Val := Elt F) (Name := ℕ) (U := UU) (Lvl := ℕ) (ℓ := rowsM.view.loc (tile d L)) (S := Finset.univ)
    (I := rowsM.view.setOn slot0.set) (q := fullShare) (g := f) (f := g) (Finset.subset_univ _)
  rw [slots_compl] at h
  iintro H
  iexists _
  iapply h
  iexact H

omit [FloatOps F] in
/-- No rows are no entries. -/
theorem rowsOf_none (a : ℕ) : rowsOf a (a + 0) = ∅ := by
  ext j
  simp only [rowsOf, Finset.mem_filter, Finset.mem_univ, true_and, Finset.notMem_empty, iff_false]
  omega

/-! ## The task -/

/-- The task at its arrays. -/
abbrev task (L : grid0.Coords) :=
  cc0__decode (F := F) L idxM (Memref.isWhole_whole _) wtsM (Memref.isWhole_whole _) tabM (Memref.isWhole_whole _) outM (Memref.isWhole_whole _)
    listM (Memref.isWhole_whole _) wM (Memref.isWhole_whole _) rowsM (Memref.isWhole_whole _) accM (Memref.isWhole_whole _)
    cc0_scratch4 cc0_scratch5 cc0_scoped0 cc0_scoped1 cc0_scoped2 cc0_scoped3

set_option maxHeartbeats 4000000 in
set_option maxRecDepth 16384 in
/-- THE TASK OF A TILE leaves its sixty-four rows at the decoded values. -/
theorem tile_body (d : Dev nD) (L : grid0.Coords) (q : PosShare TreeShare) (fi : S2048x96.Idx → BitVec 32) (fw : FVec F S1048576 .f32) (ft : FVec F S147456x2x128 .f32)
    (fo : FVec F S2048x768 .f32) (hfi : ∀ j, (fi j).toNat < 147456) (O : CellTallies nD τ sig (HIx 1)) (W : Waits sig (HIx 1)) (hO : ∀ g, O g none = 0) :
    iprop((levAts (K (F := F)).L (K (F := F)).lev : sProp 𝕄) ∗ emp
        ∗ (((idxM.view.loc (tile d L) ↦{q} (fi : Buf (Elt F) _)) ∗ (wtsM.view.loc (tile d L) ↦{q} (fw : Buf (Elt F) _))
          ∗ (tabM.view.loc (tile d L) ↦{q} (ft : Buf (Elt F) _))) ∗ (outM.view.loc (tile d L) ↦[rowsOf (base L) (base L + 64)]{fullShare} (fo : Buf (Elt F) _)))
        ∗ scopedBufs (tile d L) ∗ scopedSems0 (tile d L) ∗ owes (tile d L) O W)
      ⊢ wp frame (wpE (defs₀ (F := F)) 𝒱₀ (tile d L) none) Set.univ (task L)
          fun _ => iprop((((idxM.view.loc (tile d L) ↦{q} (fi : Buf (Elt F) _)) ∗ (wtsM.view.loc (tile d L) ↦{q} (fw : Buf (Elt F) _))
              ∗ (tabM.view.loc (tile d L) ↦{q} (ft : Buf (Elt F) _))) ∗ (outM.view.loc (tile d L) ↦[rowsOf (base L) (base L + 64)]{fullShare} (decV fi fw ft : Buf (Elt F) _)))
            ∗ scopedBufs (tile d L) ∗ scopedSems0 (tile d L) ∗ ∃ W', ⌜∀ p ∈ W', p ∈ W ∨ p.2 = none⌝ ∗ owes (tile d L) O W') := by
  unfold task
  simp only [cc0__decode_eq_skeleton]
  unfold cc0__decode_skel
  rw [(K (F := F)).scopedBufs_V facts d (cV L) (jV L), SparseCore.Cfg.scopedSems0_V (Val := Elt F) d (cV L) (jV L), sems_split, bufs_split]
  iintro ⟨#Hlv, -, ⟨⟨Hi, Hw, Ht⟩, Ho⟩, ⟨⟨%fl₀, Hl⟩, ⟨%fw₀, Hww⟩, ⟨%fr₀, Hr⟩, ⟨%fa₀, Ha⟩, Hbufs⟩, ⟨Hs4, Hs5, Hs0, Hs1, Hs2, Hs3, Hsems⟩, HO⟩
  ihave #Hmw := (show (levAts (K (F := F)).L (K (F := F)).lev : sProp 𝕄) ⊢ Transfers.MayWaits (tile d L) (default : HIx 1) O from
    (K (F := F)).mayWaits_none (thr := tile d L) hO) $$ Hlv
  -- the two fetches, each of a window of an array held whole
  ihave Hi := (pointsTo_split_subset (ℓ := idxM.view.loc (tile d L)) (q := q) (f := fi) (S := Finset.univ)
    (Finset.subset_univ (idxM.slice (Rect.unit (s := S2048x96) (k0_off1 L) S64x96.size (k0_off1_inb L)) (fun _ => rfl)).view.set)).1 $$ Hi
  icases Hi with ⟨Hi, Hi'⟩
  ihave Hw := (pointsTo_split_subset (ℓ := wtsM.view.loc (tile d L)) (q := q) (f := fw) (S := Finset.univ)
    (Finset.subset_univ (wtsM.slice (Rect.unit (s := S1048576) (k0_off2 L) S32768.size (k0_off2_inb L)) (fun _ => rfl)).view.set)).1 $$ Hw
  icases Hw with ⟨Hw, Hw'⟩
  ihave Hi := (show (idxM.view.loc (tile d L) ↦[(idxM.slice (Rect.unit (s := S2048x96) (k0_off1 L) S64x96.size (k0_off1_inb L)) (fun _ => rfl)).view.set]{q} (fi : Buf (Elt F) _) : sProp 𝕄)
    ⊢ ((idxM.slice (Rect.unit (s := S2048x96) (k0_off1 L) S64x96.size (k0_off1_inb L)) (fun _ => rfl)).view.loc (tile d L) ↦[(idxM.slice (Rect.unit (s := S2048x96) (k0_off1 L) S64x96.size (k0_off1_inb L)) (fun _ => rfl)).view.set]{q} (fi : Buf (Elt F) _)) from .rfl) $$ Hi
  ihave Hw := (show (wtsM.view.loc (tile d L) ↦[(wtsM.slice (Rect.unit (s := S1048576) (k0_off2 L) S32768.size (k0_off2_inb L)) (fun _ => rfl)).view.set]{q} (fw : Buf (Elt F) _) : sProp 𝕄)
    ⊢ ((wtsM.slice (Rect.unit (s := S1048576) (k0_off2 L) S32768.size (k0_off2_inb L)) (fun _ => rfl)).view.loc (tile d L) ↦[(wtsM.slice (Rect.unit (s := S1048576) (k0_off2 L) S32768.size (k0_off2_inb L)) (fun _ => rfl)).view.set]{q} (fw : Buf (Elt F) _)) from .rfl) $$ Hw
  sl_exec
  have el : View.write (Elt F) listM.view fl₀ (tile_body.sl.dma0 L fi) Finset.univ = cutL fi (base L) := by
    rw [View.write_whole_univ]; exact read_lists fi L _
  have ew : View.write (Elt F) wM.view fw₀ (tile_body.sl.dma0_1 L fw) Finset.univ = cutW fw (base L) := by
    rw [View.write_whole_univ]; exact read_weights fw L _
  ihave Hl := (Entails.of_eq (congrArg (fun g => (listM.view.loc (tile d L) ↦{fullShare} g : sProp 𝕄)) el)) $$ Hl
  ihave Hww := (Entails.of_eq (congrArg (fun g => (wM.view.loc (tile d L) ↦{fullShare} g : sProp 𝕄)) ew)) $$ Hww
  have hfl : ∀ j, (cutL fi (base L) j).toNat < 147456 := fun j => hfi _
  -- a share of the table and of the lists, and a slot, for each of the two gathers
  ihave Ht := (pointsTo_share (ℓ := tabM.view.loc (tile d L)) (I := Finset.univ) (f := ft) (PosShare.mem_left_op_right q)).1 $$ Ht
  icases Ht with ⟨Ht0, Ht1⟩
  ihave Hl := (pointsTo_share (ℓ := listM.view.loc (tile d L)) (I := Finset.univ) (f := cutL fi (base L)) (PosShare.mem_left_op_right fullShare)).1 $$ Hl
  icases Hl with ⟨Hl0, Hl1⟩
  ihave Hl0 := (pointsTo_split_subset (ℓ := listM.view.loc (tile d L)) (q := fullShare.left) (f := cutL fi (base L)) (S := Finset.univ) (Finset.subset_univ (listSet 0))).1 $$ Hl0
  icases Hl0 with ⟨Hl0, Hx0⟩
  ihave Hl1 := (pointsTo_split_subset (ℓ := listM.view.loc (tile d L)) (q := fullShare.right) (f := cutL fi (base L)) (S := Finset.univ) (Finset.subset_univ (listSet 1))).1 $$ Hl1
  icases Hl1 with ⟨Hl1, Hx1⟩
  ihave Hr := (slots_split (F := F) d L fr₀) $$ Hr
  icases Hr with ⟨Hr0, Hr1⟩
  iapply (wp_gather d L cc0_scratch4.sem 0 ![0, 0, 0, 0] inb_S2x96x2x128_S1x96x2x128_0_0_0_0 ⟨rfl, rfl, rfl⟩ ![0, 0] inb_S64x96_S1x96_0_0 rfl
    q.left fullShare.left ft (cutL fi (base L)) hfl fr₀) $$ [Ht0 Hr0 Hl0 Hs4]
  · isplitl [Ht0]; · iexact Ht0
    isplitl [Hr0]; · iexact Hr0
    isplitl [Hl0]; · iexact Hl0
    iexact Hs4
  iintro Hf0
  sl_exec
  iapply (wp_gather d L cc0_scratch5.sem 1 ![1, 0, 0, 0] inb_S2x96x2x128_S1x96x2x128_1_0_0_0 ⟨rfl, rfl, rfl⟩ ![1, 0] inb_S64x96_S1x96_1_0 rfl
    q.right fullShare.right ft (cutL fi (base L)) hfl fr₀) $$ [Ht1 Hr1 Hl1 Hs5]
  · isplitl [Ht1]; · iexact Ht1
    isplitl [Hr1]; · iexact Hr1
    isplitl [Hl1]; · iexact Hl1
    iexact Hs5
  iintro Hf1
  sl_exec
  sl_for (fun n _ => iprop((□ Transfers.MayWaits (tile d L) (default : HIx 1) O)
    ∗ Outer d L O W q.left q.right fullShare.left fullShare.right ft (cutL fi (base L)) (cutW fw (base L)) (decV fi fw ft) fo n))
    $$ [Hf0 Hf1 Hx0 Hx1 Hww Ha Hs2 Hs3 Ho HO]
  · intro n acc
    istart
    iintro ⟨#Hm, H⟩
    iapply (wp_wand_r)
    isplitl [H]
    · iapply (trip_spec d L O W q.left q.right fullShare.left fullShare.right ft (cutL fi (base L)) hfl (cutW fw (base L)) (decV fi fw ft) fo
        (fun t ht x => decV_tile fi fw ft L t ht x) _ _ n)
      isplitr; · iexact Hm
      iexact H
    iintro %_ H
    isplitr; · iexact Hm
    iexact H
  · isplitr; · iexact Hmw
    unfold Outer SlotAt
    rw [if_pos (show 2 * 0 < 64 by decide), if_pos (show 2 * 0 + 1 < 64 by decide)]
    isplitl [Hf0 Hx0]
    · isplitl [Hf0]; · iexact Hf0
      iexact Hx0
    isplitl [Hf1 Hx1]
    · isplitl [Hf1]; · iexact Hf1
      iexact Hx1
    isplitl [Hww]; · iexact Hww
    isplitl [Ha]; · iexists _; iexact Ha
    isplitl [Hs2]; · iexact Hs2
    isplitl [Hs3]; · iexact Hs3
    isplitr
    · rw [show 2 * 0 = 0 from rfl, rowsOf_none, pointsTo_empty]; iempintro
    isplitl [Ho]; · iexact Ho
    iexists _
    isplitr
    swap; · iexact HO
    ipureintro
    intro x hx
    rcases Finset.mem_insert.mp hx with hx | hx; · exact .inr (hx ▸ rfl)
    rcases Finset.mem_insert.mp hx with hx | hx; · exact .inr (hx ▸ rfl)
    exact .inl hx
  iintro %acc ⟨-, H⟩
  sl_exec
  sl_step
  rw [show Scf.trips k0_t1_loop.lb k0_t1_loop.ub k0_t1_loop.st = 32 from trips1]
  unfold Outer SlotAt
  rw [if_neg (show ¬ 2 * 32 < 64 by decide), if_neg (show ¬ 2 * 32 + 1 < 64 by decide)]
  icases H with ⟨⟨⟨%f0, Hr0⟩, Ht0, Hl0, Hs4⟩, ⟨⟨%f1, Hr1⟩, Ht1, Hl1, Hs5⟩, Hww, ⟨%fa, Ha⟩, Hs2, Hs3, Ho, -, HW⟩
  ihave Ht := (pointsTo_share (ℓ := tabM.view.loc (tile d L)) (I := Finset.univ) (f := ft) (PosShare.mem_left_op_right q)).2 $$ [Ht0 Ht1]
  · isplitl [Ht0]; · iexact Ht0
    iexact Ht1
  ihave Hl := (pointsTo_share (ℓ := listM.view.loc (tile d L)) (I := Finset.univ) (f := cutL fi (base L)) (PosShare.mem_left_op_right fullShare)).2 $$ [Hl0 Hl1]
  · isplitl [Hl0]; · iexact Hl0
    iexact Hl1
  ihave Hr := (slots_join (F := F) d L f0 f1) $$ [Hr0 Hr1]
  · isplitl [Hr0]; · iexact Hr0
    iexact Hr1
  isplitl [Hi' Hw' Ht Ho]
  · isplitl [Hi' Hw' Ht]
    · isplitl [Hi']; · iexact Hi'
      isplitl [Hw']; · iexact Hw'
      iexact Ht
    iexact Ho
  isplitl [Hl Hww Hr Ha Hbufs]
  · isplitl [Hl]; · iexists _; iexact Hl
    isplitl [Hww]; · iexists _; iexact Hww
    isplitl [Hr]; · iexact Hr
    isplitl [Ha]; · iexists _; iexact Ha
    iexact Hbufs
  isplitl [Hs4 Hs5 Hs0 Hs1 Hs2 Hs3 Hsems]
  · isplitl [Hs4]; · iexact Hs4
    isplitl [Hs5]; · iexact Hs5
    isplitl [Hs0]; · iexact Hs0
    isplitl [Hs1]; · iexact Hs1
    isplitl [Hs2]; · iexact Hs2
    isplitl [Hs3]; · iexact Hs3
    iexact Hsems
  iexact HW

end Cert.Proof.Decode
-- ==== Proof.Launch.lean ====
/-
  The launch: what the host's operations make of the arguments, what the call hands to each SparseCore and each tile,
  and the whole program's run, which leaves the decoded rows.
-/
module

public import proofs.«01_k».proof.Proof.Tile
public import Idealize.ShloMosaic.Lib.Pipeline.Frame

@[expose] public section

noncomputable section

namespace Cert.Proof.Decode

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)
open Idealize.ShloMosaic.Pipeline (ucRefs)

variable {F : FTy → Type} [FloatOps F]

local notation "𝕄" => MT nD τ sig (HIx 1) (Elt F) ℕ UU ℕ

/-! ## The host's operations -/

/-- The operations on the host before the call, in order. -/
def hostOps : List (HloOp τ sig (Elt F)) := [
  (StableHlo.unary main_arg1 main_v0 (broadcastInDim S2048x32x1 ![0, 1] bcast_S2048x32_S2048x32x1_0_1 : (⟨S2048x32, .f32⟩ : BufTy).Contents (Elt F) → (⟨S2048x32x1, .f32⟩ : BufTy).Contents (Elt F))),
  (StableHlo.unary main_v0 main_v1 (broadcastInDim S2048x32x16 ![0, 1, 2] bcast_S2048x32x1_S2048x32x16_0_1_2 : (⟨S2048x32x1, .f32⟩ : BufTy).Contents (Elt F) → (⟨S2048x32x16, .f32⟩ : BufTy).Contents (Elt F))),
  (StableHlo.reshape main_v1 main_v2 (rfl : (.f32 : EltTy) = .f32) shapeCasts_S2048x32x16_S1048576),
  (StableHlo.unary main_arg0 main_v3 (broadcastInDim S2048x32x1 ![0, 1] bcast_S2048x32_S2048x32x1_0_1 : (⟨S2048x32, .i32⟩ : BufTy).Contents (Elt F) → (⟨S2048x32x1, .i32⟩ : BufTy).Contents (Elt F))),
  (StableHlo.nullary main_c (constantI S_ 32 3#32)),
  (StableHlo.unary main_c main_v4 (broadcastInDim S2048x32x1 ![] bcast_S_S2048x32x1 : (⟨S_, .i32⟩ : BufTy).Contents (Elt F) → (⟨S2048x32x1, .i32⟩ : BufTy).Contents (Elt F))),
  (StableHlo.binary main_v3 main_v4 main_v5 (muli : (⟨S2048x32x1, .i32⟩ : BufTy).Contents (Elt F) → (⟨S2048x32x1, .i32⟩ : BufTy).Contents (Elt F) → (⟨S2048x32x1, .i32⟩ : BufTy).Contents (Elt F))),
  (StableHlo.nullary main_v6 (iotaInDim S3 32 0)),
  (StableHlo.unary main_v6 main_v7 (broadcastInDim S1x1x3 ![2] bcast_S3_S1x1x3_2 : (⟨S3, .i32⟩ : BufTy).Contents (Elt F) → (⟨S1x1x3, .i32⟩ : BufTy).Contents (Elt F))),
  (StableHlo.unary main_v5 main_v8 (broadcastInDim S2048x32x3 ![0, 1, 2] bcast_S2048x32x1_S2048x32x3_0_1_2 : (⟨S2048x32x1, .i32⟩ : BufTy).Contents (Elt F) → (⟨S2048x32x3, .i32⟩ : BufTy).Contents (Elt F))),
  (StableHlo.unary main_v7 main_v9 (broadcastInDim S2048x32x3 ![0, 1, 2] bcast_S1x1x3_S2048x32x3_0_1_2 : (⟨S1x1x3, .i32⟩ : BufTy).Contents (Elt F) → (⟨S2048x32x3, .i32⟩ : BufTy).Contents (Elt F))),
  (StableHlo.binary main_v8 main_v9 main_v10 (addi : (⟨S2048x32x3, .i32⟩ : BufTy).Contents (Elt F) → (⟨S2048x32x3, .i32⟩ : BufTy).Contents (Elt F) → (⟨S2048x32x3, .i32⟩ : BufTy).Contents (Elt F))),
  (StableHlo.reshape main_v10 main_v11 (rfl : (.i32 : EltTy) = .i32) shapeCasts_S2048x32x3_S2048x96),
  (StableHlo.reshape main_arg2 main_v12 (rfl : (.f32 : EltTy) = .f32) shapeCasts_S49152x768_S147456x2x128)]

/-- The device's arrays at the launch, and as the host's operations leave them. -/
def V0 (m : (ℓ : Loc nD τ sig) → Buf (Elt F) ℓ) (d : Dev nD) : Valuation τ sig (Elt F) := fun b => m (d, b)
/-- The arrays when the host operations before the call are done. -/
def V1 (m : (ℓ : Loc nD τ sig) → Buf (Elt F) ℓ) (d : Dev nD) : Valuation τ sig (Elt F) := after hostOps (V0 m d)

/-- The arrays of the call, as buffers of the device. -/
abbrev idx' : DevRef τ sig := Proc.devRef .tc (main_v11 : Ref sig .tc)
/-- The arrays of the call, as the TensorCore names them. -/
abbrev wts' : DevRef τ sig := Proc.devRef .tc (main_v2 : Ref sig .tc)
abbrev tab' : DevRef τ sig := Proc.devRef .tc (main_v12 : Ref sig .tc)
abbrev out' : DevRef τ sig := Proc.devRef .tc (main_v13 : Ref sig .tc)

/-- What the call's arrays hold when it starts. -/
def fiV (m : (ℓ : Loc nD τ sig) → Buf (Elt F) ℓ) (d : Dev nD) : S2048x96.Idx → BitVec 32 := V1 m d idx'
def fwV (m : (ℓ : Loc nD τ sig) → Buf (Elt F) ℓ) (d : Dev nD) : FVec F S1048576 .f32 := V1 m d wts'
def ftV (m : (ℓ : Loc nD τ sig) → Buf (Elt F) ℓ) (d : Dev nD) : FVec F S147456x2x128 .f32 := V1 m d tab'
def foV (m : (ℓ : Loc nD τ sig) → Buf (Elt F) ℓ) (d : Dev nD) : FVec F S2048x768 .f32 := V1 m d out'
/-- The decoded rows, of the launch's arguments. -/
def resV (m : (ℓ : Loc nD τ sig) → Buf (Elt F) ℓ) (d : Dev nD) : FVec F S2048x768 .f32 := decV (fiV m d) (fwV m d) (ftV m d)

/-- What the run asks of the launch: every expanded index names a row of the reshaped table. -/
def PreOK (m : (ℓ : Loc nD τ sig) → Buf (Elt F) ℓ) : Prop := ∀ (d : Dev nD) (j : S2048x96.Idx), (fiV m d j).toNat < 147456

variable (m : (ℓ : Loc nD τ sig) → Buf (Elt F) ℓ) (ρ : Dev nD → PrngReg)

/-! ## The shares and the rows of a SparseCore and of a tile -/

omit [FloatOps F] in
/-- The call runs on two SparseCores. -/
theorem nCore_zero : (K (F := F)).nCore 0 = 2 := rfl
omit [FloatOps F] in
/-- The call runs on sixteen tiles of each. -/
theorem nSub_zero : (K (F := F)).nSub 0 = 16 := rfl

/-- The read share of a SparseCore, and of a tile. -/
def cq (c : Fin 2) : PosShare TreeShare := Transfers.dealOf fullShare Finset.univ c
def tq (c : Fin 2) (i : Fin 16) : PosShare TreeShare := Transfers.dealOf (cq c) Finset.univ i

/-- The rows of the result that a tile writes, and those that a SparseCore's tiles write. -/
def tileRows (c : Fin 2) (i : Fin 16) : Finset S2048x768.Idx := rowsOf (128 * i.val + 64 * c.val) (128 * i.val + 64 * c.val + 64)
def coreRows (c : Fin 2) : Finset S2048x768.Idx := Finset.univ.biUnion (tileRows c)

/-- An entry is in a tile's rows when its row is in the tile's span of sixty-four. -/
theorem mem_tileRows (c : Fin 2) (i : Fin 16) (j : S2048x768.Idx) :
    j ∈ tileRows c i ↔ 128 * i.val + 64 * c.val ≤ (j 0).val ∧ (j 0).val < 128 * i.val + 64 * c.val + 64 := by
  simp only [tileRows, rowsOf, Finset.mem_filter, Finset.mem_univ, true_and]

/-- An entry is in a SparseCore's rows when its span of sixty-four has the SparseCore's parity. -/
theorem mem_coreRows (c : Fin 2) (j : S2048x768.Idx) : j ∈ coreRows c ↔ (j 0).val / 64 % 2 = c.val := by
  have hj := (j 0).isLt
  change (j 0).val < 2048 at hj
  have hc := c.isLt
  simp only [coreRows, Finset.mem_biUnion, Finset.mem_univ, true_and, mem_tileRows]
  constructor
  · rintro ⟨i, h1, h2⟩
    omega
  · intro h
    exact ⟨⟨(j 0).val / 128, by omega⟩, by show 128 * ((j 0).val / 128) + 64 * c.val ≤ (j 0).val; omega,
      by show (j 0).val < 128 * ((j 0).val / 128) + 64 * c.val + 64; omega⟩

/-- Two tiles of a SparseCore have no row in common; nor have the SparseCores; and they have every row between them. -/
theorem tileRows_disjoint (c : Fin 2) : ∀ i ∈ (Finset.univ : Finset (Fin 16)), ∀ j ∈ (Finset.univ : Finset (Fin 16)), i ≠ j → Disjoint (tileRows c i) (tileRows c j) := by
  intro i _ j _ h
  rw [Finset.disjoint_left]
  intro x hx hy
  rw [mem_tileRows] at hx hy
  exact h (Fin.ext (by omega))
/-- The SparseCores' rows are apart. -/
theorem coreRows_disjoint : ∀ i ∈ (Finset.univ : Finset (Fin 2)), ∀ j ∈ (Finset.univ : Finset (Fin 2)), i ≠ j → Disjoint (coreRows i) (coreRows j) := by
  intro i _ j _ h
  rw [Finset.disjoint_left]
  intro x hx hy
  rw [mem_coreRows] at hx hy
  exact h (Fin.ext (by omega))
/-- The SparseCores' rows are all the rows. -/
theorem coreRows_cover : (Finset.univ : Finset (Fin 2)).biUnion coreRows = Finset.univ := by
  ext j
  simp only [Finset.mem_biUnion, Finset.mem_univ, true_and, mem_coreRows, iff_true]
  exact ⟨⟨(j 0).val / 64 % 2, by omega⟩, rfl⟩

/-! ## What the handshakes carry -/

/-- At a share, the three arrays the call reads. -/
abbrev readPts (d : Dev nD) (q : PosShare TreeShare) : sProp 𝕄 :=
  iprop(((d, idx') ↦{q} (fiV m d : Buf (Elt F) (d, idx'))) ∗ ((d, wts') ↦{q} (fwV m d : Buf (Elt F) (d, wts'))) ∗ ((d, tab') ↦{q} (ftV m d : Buf (Elt F) (d, tab'))))
/-- Rows of the result. -/
abbrev outPts (d : Dev nD) (I : Finset S2048x768.Idx) (f : FVec F S2048x768 .f32) : sProp 𝕄 :=
  iprop((d, out') ↦[I]{fullShare} (f : Buf (Elt F) (d, out')))

/-- Each SparseCore, and each of its tiles, is handed a share of the three arrays and its own rows of the result, and
    brings them back with its rows decoded. -/
def P : (K (F := F)).Pay (nD := nD) (Val := Elt F) (Name := ℕ) (U := UU) where
  st := fun q d c => match q with | 0 => iprop(readPts m d (cq (Fin.cast nCore_zero c)) ∗ outPts d (coreRows (Fin.cast nCore_zero c)) (foV m d))
  dn := fun q d c => match q with | 0 => iprop(readPts m d (cq (Fin.cast nCore_zero c)) ∗ outPts d (coreRows (Fin.cast nCore_zero c)) (resV m d))
  go := fun q d c i => match q with
    | 0 => iprop(readPts m d (tq (Fin.cast nCore_zero c) (Fin.cast nSub_zero i)) ∗ outPts d (tileRows (Fin.cast nCore_zero c) (Fin.cast nSub_zero i)) (foV m d))
  td := fun q d c i => match q with
    | 0 => iprop(readPts m d (tq (Fin.cast nCore_zero c) (Fin.cast nSub_zero i)) ∗ outPts d (tileRows (Fin.cast nCore_zero c) (Fin.cast nSub_zero i)) (resV m d))
  x := fun _ _ => iprop(emp)

/-- What the handshakes carry may be stored. -/
instance P_storable : (P (F := F) m).IsStorable where
  st q d c := match q with
    | 0 => (inferInstance : BI.Storable (upEmb : UEmb _ 𝕄) iprop(readPts m d (cq (Fin.cast nCore_zero c)) ∗ outPts d (coreRows (Fin.cast nCore_zero c)) (foV m d)))
  dn q d c := match q with
    | 0 => (inferInstance : BI.Storable (upEmb : UEmb _ 𝕄) iprop(readPts m d (cq (Fin.cast nCore_zero c)) ∗ outPts d (coreRows (Fin.cast nCore_zero c)) (resV m d)))
  go q d c i := match q with
    | 0 => (inferInstance : BI.Storable (upEmb : UEmb _ 𝕄)
      iprop(readPts m d (tq (Fin.cast nCore_zero c) (Fin.cast nSub_zero i)) ∗ outPts d (tileRows (Fin.cast nCore_zero c) (Fin.cast nSub_zero i)) (foV m d)))
  td q d c i := match q with
    | 0 => (inferInstance : BI.Storable (upEmb : UEmb _ 𝕄)
      iprop(readPts m d (tq (Fin.cast nCore_zero c) (Fin.cast nSub_zero i)) ∗ outPts d (tileRows (Fin.cast nCore_zero c) (Fin.cast nSub_zero i)) (resV m d)))

/-! ## A tile's obligation -/

/-- The grid point of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

/-- A tile's table entry is the task at its place. -/
theorem defs₀_vector (c : Fin τ.nSC) (s : Fin τ.nSub) :
    defs₀ (F := F) (.scVector c s) 0 () = SparseCore.onTile hcore0 hsub0 (fun c s => task (coordsV c s)) ⟨⟩ c s := rfl

omit [FloatOps F] in
/-- A tile's end, with its remaining duties and nothing more to carry. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets its obligation. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coordsV ⟨_, hci.1⟩ ⟨_, hci.2⟩) (tq (Fin.cast nCore_zero c) (Fin.cast nSub_zero i)) (fiV m d) (fwV m d) (ftV m d) (foV m d) (hpre d) O W hO
  exact h.trans (wp_mono frame _ _ fun _ => obl_post)

/-! ## A SparseCore's share and rows are its tiles' -/

omit [FloatOps F] in
/-- A share of the three arrays is dealt to the members of a family. -/
theorem read_deal {n : ℕ} [NeZero n] (d : Dev nD) (q : PosShare TreeShare) (fi : S2048x96.Idx → BitVec 32) (fw : FVec F S1048576 .f32) (ft : FVec F S147456x2x128 .f32) :
    (iprop(((d, idx') ↦{q} (fi : Buf (Elt F) (d, idx'))) ∗ ((d, wts') ↦{q} (fw : Buf (Elt F) (d, wts'))) ∗ ((d, tab') ↦{q} (ft : Buf (Elt F) (d, tab')))) : sProp 𝕄)
      = bigSep (Finset.univ : Finset (Fin n)) fun i => iprop(((d, idx') ↦{Transfers.dealOf q Finset.univ i} (fi : Buf (Elt F) (d, idx')))
          ∗ ((d, wts') ↦{Transfers.dealOf q Finset.univ i} (fw : Buf (Elt F) (d, wts'))) ∗ ((d, tab') ↦{Transfers.dealOf q Finset.univ i} (ft : Buf (Elt F) (d, tab')))) := by
  have hne : (Finset.univ : Finset (Fin n)).Nonempty := ⟨0, Finset.mem_univ _⟩
  rw [bigSep_sep', bigSep_sep', ← Transfers.pointsTo_deal _ hne, ← Transfers.pointsTo_deal _ hne, ← Transfers.pointsTo_deal _ hne]

omit [FloatOps F] in
/-- A SparseCore's part of the result, dealt among its tiles. -/
theorem out_tiles (d : Dev nD) (c : Fin 2) (f : FVec F S2048x768 .f32) :
    (outPts d (coreRows c) f : sProp 𝕄) = bigSep Finset.univ fun i : Fin 16 => outPts d (tileRows c i) f :=
  pointsTo_biUnion (ℓ := (d, out')) Finset.univ (tileRows c) (tileRows_disjoint c)

omit [FloatOps F] in
/-- The result, dealt among the SparseCores. -/
theorem out_cores (d : Dev nD) (f : FVec F S2048x768 .f32) :
    (outPts d Finset.univ f : sProp 𝕄) = bigSep Finset.univ fun c : Fin 2 => outPts d (coreRows c) f := by
  rw [← coreRows_cover]
  exact pointsTo_biUnion (ℓ := (d, out')) Finset.univ coreRows coreRows_disjoint

omit [FloatOps F] in
/-- A product over a SparseCore's tiles, indexed by the call's own tasks. -/
theorem bigSep_tasks (Φ : Fin 16 → sProp 𝕄) :
    (bigSep Finset.univ fun i : Fin ((K (F := F)).nSub 0) => Φ (Fin.cast nSub_zero i)) = bigSep Finset.univ Φ := rfl
omit [FloatOps F] in
/-- A product over the SparseCores, indexed by the call's own cores. -/
theorem bigSep_cores (Φ : Fin 2 → sProp 𝕄) :
    (bigSep Finset.univ fun i : Fin ((K (F := F)).nCore 0) => Φ (Fin.cast nCore_zero i)) = bigSep Finset.univ Φ := rfl

/-- A SparseCore's share and rows are its tiles' shares and rows. -/
theorem tiles_eq (d : Dev nD) (c : Fin 2) (f : FVec F S2048x768 .f32) :
    (iprop(readPts m d (cq c) ∗ outPts d (coreRows c) f) : sProp 𝕄) = bigSep Finset.univ fun i : Fin 16 => iprop(readPts m d (tq c i) ∗ outPts d (tileRows c i) f) := by
  rw [out_tiles, show (readPts m d (cq c) : sProp 𝕄) = bigSep Finset.univ fun i : Fin 16 => readPts m d (tq c i) from read_deal (n := 16) d (cq c) _ _ _]
  exact (bigSep_sep' _ _ _).symm

/-- What a SparseCore is handed it hands to its tiles, and what they bring back it brings back. -/
theorem vecSplit : (K (F := F)).VecSplit' (P m) 0 := by
  intro d c
  show iprop(readPts m d (cq (Fin.cast nCore_zero c)) ∗ outPts d (coreRows (Fin.cast nCore_zero c)) (foV m d)) ⊢ |={Set.univ}=> iprop(
      (bigSep Finset.univ fun i : Fin ((K (F := F)).nSub 0) =>
        iprop(readPts m d (tq (Fin.cast nCore_zero c) (Fin.cast nSub_zero i)) ∗ outPts d (tileRows (Fin.cast nCore_zero c) (Fin.cast nSub_zero i)) (foV m d)))
      ∗ ((bigSep Finset.univ fun i : Fin ((K (F := F)).nSub 0) =>
        iprop(readPts m d (tq (Fin.cast nCore_zero c) (Fin.cast nSub_zero i)) ∗ outPts d (tileRows (Fin.cast nCore_zero c) (Fin.cast nSub_zero i)) (resV m d)))
          -∗ iprop(readPts m d (cq (Fin.cast nCore_zero c)) ∗ outPts d (coreRows (Fin.cast nCore_zero c)) (resV m d))))
  generalize Fin.cast nCore_zero c = c'
  rw [bigSep_tasks (F := F) (fun i => iprop(readPts m d (tq c' i) ∗ outPts d (tileRows c' i) (foV m d))),
    bigSep_tasks (F := F) (fun i => iprop(readPts m d (tq c' i) ∗ outPts d (tileRows c' i) (resV m d))), ← tiles_eq, ← tiles_eq]
  iintro H; imodintro
  isplitl [H]; · iexact H
  iintro H
  iexact H

/-- The three arrays and the result, whole, are what the SparseCores are handed; and what they bring back. -/
theorem cores_eq (d : Dev nD) (f : FVec F S2048x768 .f32) :
    (bigSep Finset.univ fun c : Fin ((K (F := F)).nCore 0) => iprop(readPts m d (cq (Fin.cast nCore_zero c)) ∗ outPts d (coreRows (Fin.cast nCore_zero c)) f) : sProp 𝕄)
      = iprop(readPts m d fullShare ∗ outPts d Finset.univ f) := by
  rw [bigSep_cores (F := F) (fun c => iprop(readPts m d (cq c) ∗ outPts d (coreRows c) f)), bigSep_sep', out_cores,
    show (readPts m d fullShare : sProp 𝕄) = bigSep Finset.univ fun i : Fin 2 => readPts m d (cq i) from read_deal (n := 2) d fullShare _ _ _]

/-! ## The launch element of the ghost state -/

omit [FloatOps F] in
/-- A product of nothing is nothing. -/
theorem bigSep_nothing {I : Type} (s : Finset I) : (bigSep s fun _ => iprop(emp)) = (iprop(emp) : sProp 𝕄) := bigSep_emp_const s

/-- The ghost state at the launch. -/
def u₀ : UU := (initOf (K (F := F)).hsCells (K (F := F)).hsToks, 1)

/-- The handshakes' rounds are dealt; the tasks want no more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The program on the TensorCore -/

/-- The arrays after the call: the result's rows decoded. -/
def V2 (d : Dev nD) : Valuation τ sig (Elt F) := Function.update (V1 m d) out' (resV m d : out'.ty.Contents (Elt F))

/-- The four arrays of the call. -/
abbrev callRefs : Finset (DevRef τ sig) := {idx', wts', tab', out'}

/-- They are among the TensorCore's arrays. -/
theorem callRefs_sub : callRefs ⊆ ucRefs τ sig := by decide

/-- Holding the four is holding each. -/
theorem held_callRefs (d : Dev nD) (W : Valuation τ sig (Elt F)) :
    (held (T d) callRefs W : sProp 𝕄) = iprop(((d, idx') ↦{fullShare} W idx') ∗ ((d, wts') ↦{fullShare} W wts') ∗ ((d, tab') ↦{fullShare} W tab') ∗ ((d, out') ↦{fullShare} W out')) := by
  unfold held callRefs
  rw [SparseCore.bigSep_insert' (by decide), SparseCore.bigSep_insert' (by decide), SparseCore.bigSep_insert' (by decide), bigSep_singleton]

/-- The host operations touch the TensorCore's arrays only. -/
theorem ops_sub : ∀ op ∈ hostOps (F := F), op.bufs ⊆ ucRefs τ sig := by
  intro op h
  refine Pipeline.sub_ucRefs op ?_
  unfold hostOps at h
  repeat (cases h with | head => simp only [StableHlo.unary_bufs_sub, StableHlo.binary_bufs_sub, StableHlo.nullary_bufs_sub, StableHlo.reshape_bufs_sub] | tail _ h => ?_)
  exact nomatch h

/-- The host operations make no new array. -/
theorem ops_fresh : ∀ op ∈ hostOps (F := F), op.fresh = ∅ := by
  intro op h
  unfold hostOps at h
  repeat (cases h with | head => rfl | tail _ h => ?_)
  exact nomatch h

/-- The program is the host operations and then the call. -/
theorem main_eq (d : Dev nD) : main (F := F) d = StableHlo.seq hostOps >>= fun _ => ((K (F := F)).run d 0 >>= fun _ => pure ⟨⟩) := by
  rw [StableHlo.seq_bind_seqK]
  rfl

/-- What the program leaves of the arrays. -/
abbrev FIN (d : Dev nD) : sProp 𝕄 := held (T d) (ucRefs τ sig) (V2 m d)

/-- The program: the host's operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (T d) (ucRefs τ sig) (V0 m d) from Pipeline.unscopedBufs_held d (V0 m d)]
  iintro ⟨#Hctx, Hst, ⟨Hb, Hheld, Hts, -⟩, -⟩
  iapply (StableHlo.wp_seq 𝒱 none Set.univ d (ucRefs τ sig) _ hostOps ops_sub ops_fresh (V0 m d)) $$ [Hb Hheld]
  · isplitl [Hb] <;> iassumption
  iintro ⟨Hb, Hheld⟩
  ihave Hheld := (show (held (T d) (ucRefs τ sig) (after hostOps (V0 m d)) : sProp 𝕄) ⊢ held (T d) (ucRefs τ sig) (V1 m d) from .rfl) $$ Hheld
  ihave Hheld := (Entails.of_eq ((StableHlo.held_sub_split (c := T d) callRefs_sub (V1 m d)).trans (by rw [held_callRefs]))) $$ Hheld
  icases Hheld with ⟨⟨Hi, Hw, Ht, Ho⟩, Hrest⟩
  simp only [wp_bind, wp_pure]
  iapply ((K (F := F)).wp_run (D (F := F)) 𝒱 (EH := EH) (P := P m) κ d 0) $$ [Hst Hi Hw Ht Ho Hrest Hb Hts]
  isplitr; · iexact Hctx
  isplitl [Hst]; · iexact Hst
  isplitl [Hi Hw Ht Ho]
  · iapply (Entails.of_eq (cores_eq m d (foV m d)).symm)
    isplitl [Hi Hw Ht]
    · isplitl [Hi]; · iexact Hi
      isplitl [Hw]; · iexact Hw
      iexact Ht
    iexact Ho
  iintro ⟨Hst, Hdn⟩
  ihave Hdn := (show (bigSep Finset.univ fun c : Fin ((K (F := F)).nCore 0) => (P m).dn 0 d c) ⊢ iprop(readPts m d fullShare ∗ outPts d Finset.univ (resV m d)) from
    Entails.of_eq (cores_eq m d (resV m d))) $$ Hdn
  icases Hdn with ⟨⟨Hi, Hw, Ht⟩, Ho⟩
  imodintro
  isplitl [Hst]; · iexact Hst
  isplitr [Hb Hts]
  · unfold FIN
    rw [StableHlo.held_sub_split (c := T d) callRefs_sub (V2 m d), held_callRefs]
    isplitl [Hi Hw Ht Ho]
    · rw [show V2 m d idx' = V1 m d idx' from Function.update_of_ne (by decide) _ _, show V2 m d wts' = V1 m d wts' from Function.update_of_ne (by decide) _ _,
        show V2 m d tab' = V1 m d tab' from Function.update_of_ne (by decide) _ _, show V2 m d out' = resV m d from Function.update_self _ _ _]
      isplitl [Hi]; · iexact Hi
      isplitl [Hw]; · iexact Hw
      isplitl [Ht]; · iexact Ht
      iexact Ho
    rw [StableHlo.held_congr (c := T d) (S := ucRefs τ sig \ callRefs) (V := V2 m d) (V' := V1 m d)
      (fun b hb => Function.update_of_ne (fun e : b = out' => (Finset.mem_sdiff.mp hb).2 (by rw [e]; decide)) _ _)]
    iexact Hrest
  isplitl [Hb] <;> iassumption

/-- What a final state's memory must hold. -/
def fq (d : Dev nD) (s' : Phys nD τ sig (Elt F)) : Prop := ∀ b ∈ ucRefs τ sig, s'.mem.mem (d, b) = V2 m d b

/-- The final ownership says what the memory holds. -/
theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (c := d) (qs := fun _ => fullShare) (F := V2 m d) (ucRefs τ sig))
  isplitl [HSI]; · iexact HSI
  iexact H

/-! ## The program's run -/

/-- What is said of a final state. -/
def QC : PUnit × MemSt nD τ sig (Elt F) → Prop := fun r => (∀ d : Dev nD, ∀ b ∈ ucRefs τ sig, r.2.mem (d, b) = V2 m d b) ∧ r.2.sem = fun _ => 0

/-- THE RUN: every fair execution ends, with the host's arrays as its operations leave them, the result decoded and
    every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Decode
-- ==== Proof.Value.lean ====
/-
  What the program computes, entry by entry: the host's arrays read at an index, and a decoded row as the sum over the
  selected features of the weight times the feature's row.
-/
module

public import proofs.«01_k».proof.Proof.Launch
public import Idealize.ShloMosaic.Lib.Pointwise
public import Idealize.ShloMosaic.Lib.StableHlo.Run

@[expose] public section

noncomputable section

namespace Cert.Proof.Decode

open Cert.KernelIdeal Cert.KernelIdeal.Gen

open Idealize.ShloMosaic
open Idealize.ShloMosaic.SparseCore (S V T)
open Idealize.ShloMosaic.StableHlo (after)

variable {F : FTy → Type} [FloatOps F]

section Host
variable (m : (ℓ : Loc nD τ sig) → Buf (Elt F) ℓ) (d : Dev nD)

/-- The program's three arguments: the indices, the weights and the table. -/
abbrev argI : IVec S2048x32 32 := m (d, Proc.devRef .tc (main_arg0 : Ref sig .tc))
abbrev argW : FVec F S2048x32 .f32 := m (d, Proc.devRef .tc (main_arg1 : Ref sig .tc))
abbrev argT : FVec F S49152x768 .f32 := m (d, Proc.devRef .tc (main_arg2 : Ref sig .tc))

/-- The expanded index list, as the host's operations build it. -/
theorem fiV_eq : fiV m d = shapeCast S2048x96 (addi
      (broadcastInDim S2048x32x3 ![0, 1, 2] bcast_S2048x32x1_S2048x32x3_0_1_2 (muli (broadcastInDim S2048x32x1 ![0, 1] bcast_S2048x32_S2048x32x1_0_1 (argI m d))
        (broadcastInDim S2048x32x1 ![] bcast_S_S2048x32x1 (constantI S_ 32 3#32))))
      (broadcastInDim S2048x32x3 ![0, 1, 2] bcast_S1x1x3_S2048x32x3_0_1_2 (broadcastInDim S1x1x3 ![2] bcast_S3_S1x1x3_2 (iotaInDim S3 32 0))))
    shapeCasts_S2048x32x3_S2048x96 := by
  unfold fiV V1 hostOps
  after_results
  all_goals rfl

/-- The repeated weights, as the host's operations build them. -/
theorem fwV_eq : fwV m d = shapeCast S1048576 (broadcastInDim S2048x32x16 ![0, 1, 2] bcast_S2048x32x1_S2048x32x16_0_1_2
      (broadcastInDim S2048x32x1 ![0, 1] bcast_S2048x32_S2048x32x1_0_1 (argW m d))) shapeCasts_S2048x32x16_S1048576 := by
  unfold fwV V1 hostOps
  after_results
  all_goals rfl

/-- The table in rows of two halves of 128, as the host's reshape leaves it. -/
theorem ftV_eq : ftV m d = shapeCast S147456x2x128 (argT m d) shapeCasts_S49152x768_S147456x2x128 := by
  unfold ftV V1 hostOps
  after_results
  all_goals rfl

/-- The arguments are not written. -/
theorem V2_arg0 : V2 m d (Proc.devRef .tc (main_arg0 : Ref sig .tc)) = argI m d := by
  unfold V2
  rw [Function.update_of_ne (by decide)]
  unfold V1 hostOps
  after_results
  all_goals rfl
/-- The call leaves the weights. -/
theorem V2_arg1 : V2 m d (Proc.devRef .tc (main_arg1 : Ref sig .tc)) = argW m d := by
  unfold V2
  rw [Function.update_of_ne (by decide)]
  unfold V1 hostOps
  after_results
  all_goals rfl
/-- The call leaves the table. -/
theorem V2_arg2 : V2 m d (Proc.devRef .tc (main_arg2 : Ref sig .tc)) = argT m d := by
  unfold V2
  rw [Function.update_of_ne (by decide)]
  unfold V1 hostOps
  after_results
  all_goals rfl

/-- Entry `3 k + j` of token `b`'s expanded list is three times the token's `k`-th index, plus `j`. -/
theorem fiV_at (b : Fin 2048) (e : Fin 96) :
    fiV m d (ix2 b e) = argI m d (ix2 b ⟨e.val / 3, by omega⟩) * 3#32 + BitVec.ofNat 32 (e.val % 3) := by
  rw [fiV_eq]
  have hr : Shape.reshapeEquiv (s' := S2048x96) (s := S2048x32x3) shapeCasts_S2048x32x3_S2048x96 (ix2 b e) = ix3 b ⟨e.val / 3, by omega⟩ ⟨e.val % 3, by omega⟩ :=
    Shape.reshapeEquiv_eq_of_vals _ _ _ _ _ (rowMajor_val3 _ 96 3 rfl rfl) (rowMajor_val2 _ 96 rfl)
      (by show b.val * 96 + e.val / 3 * 3 + e.val % 3 = b.val * 96 + e.val; omega)
  rw [Pointwise.shapeCast_apply, hr]
  simp only [pointwise]
  rfl

/-- Word `n` of the repeated weights is the weight of token `n / 512` and place `n / 16 mod 32`. -/
theorem fwV_at (n : Fin 1048576) :
    fwV m d (ix1 n) = argW m d (ix2 ⟨n.val / 512, by omega⟩ ⟨n.val / 16 % 32, by omega⟩) := by
  rw [fwV_eq]
  have hr : Shape.reshapeEquiv (s' := S1048576) (s := S2048x32x16) shapeCasts_S2048x32x16_S1048576 (ix1 n)
      = ix3 ⟨n.val / 512, by omega⟩ ⟨n.val / 16 % 32, by omega⟩ ⟨n.val % 16, by omega⟩ :=
    Shape.reshapeEquiv_eq_of_vals _ _ _ _ _ (rowMajor_val3 _ 512 16 rfl rfl) (rowMajor_val1 _)
      (by show n.val / 512 * 512 + n.val / 16 % 32 * 16 + n.val % 16 = n.val; omega)
  rw [Pointwise.shapeCast_apply, hr]
  simp only [pointwise]
  rfl

/-- Lane `l` of half `h` of row `r` of the reshaped table is column `256 (r mod 3) + 128 h + l` of the table's row `r / 3`. -/
theorem ftV_at (r : Fin 147456) (h : Fin 2) (l : Fin 128) :
    ftV m d (ix3 r h l) = argT m d (ix2 ⟨r.val / 3, by omega⟩ ⟨r.val % 3 * 256 + h.val * 128 + l.val, by omega⟩) := by
  rw [ftV_eq]
  have hr : Shape.reshapeEquiv (s' := S147456x2x128) (s := S49152x768) shapeCasts_S49152x768_S147456x2x128 (ix3 r h l)
      = ix2 ⟨r.val / 3, by omega⟩ ⟨r.val % 3 * 256 + h.val * 128 + l.val, by omega⟩ :=
    Shape.reshapeEquiv_eq_of_vals _ _ _ _ _ (rowMajor_val2 _ 768 rfl) (rowMajor_val3 _ 256 128 rfl rfl)
      (by show r.val / 3 * 768 + (r.val % 3 * 256 + h.val * 128 + l.val) = r.val * 256 + h.val * 128 + l.val; omega)
  rw [Pointwise.shapeCast_apply, hr]

/-- Indices that name rows of the table. -/
def InTable (i : IVec S2048x32 32) : Prop := ∀ j, (i j).toNat < 49152

/-- An entry of the expanded list as a number, when the indices name rows of the table. -/
theorem fiV_toNat (hi : InTable (argI m d)) (b : Fin 2048) (e : Fin 96) :
    (fiV m d (ix2 b e)).toNat = 3 * (argI m d (ix2 b ⟨e.val / 3, by omega⟩)).toNat + e.val % 3 := by
  have h := hi (ix2 b ⟨e.val / 3, by omega⟩)
  rw [fiV_at, BitVec.toNat_add, BitVec.toNat_mul, BitVec.toNat_ofNat, BitVec.toNat_ofNat]
  omega

/-- Indices that name rows of the table expand to indices that name rows of the reshaped table. -/
theorem preOK_of (hi : ∀ d, InTable (argI m d)) : PreOK m := by
  intro d j
  obtain ⟨b, e, rfl⟩ : ∃ (b : Fin 2048) (e : Fin 96), j = ix2 b e := ⟨j 0, j 1, eq_ix2 j⟩
  have h := hi d (ix2 b ⟨e.val / 3, by omega⟩)
  rw [fiV_toNat m d (hi d)]
  omega

end Host

/-! ## A decoded row at an index, over the extended reals -/

/-- The vector sum at a lane is the sum of the lane's products. -/
theorem accVec_at (W : ℕ → FVec Ideal S16 .f32) (R : ℕ → ℕ → ℕ → FVec Ideal S1x1x1x16 .f32) (n c : ℕ) (x : Fin 16) :
    accVec W R n c (ix1 x) = ∑ k ∈ Finset.range n, W k (ix1 x) * R (3 * k + c / 16) (c / 8 % 2) (c % 8 * 16) (ix4 0 0 0 x) := by
  induction n with
  | zero => rw [Finset.sum_range_zero]; exact Ideal.ofBits_zero .f32
  | succ n ih =>
    rw [Finset.sum_range_succ, ← ih]
    have e1 : shapeCast S16 (W n) shapeCasts_S16_S16 (ix1 x) = W n (ix1 x) := by rw [shapeCast_id]
    have e2 : shapeCast S16 (R (3 * n + c / 16) (c / 8 % 2) (c % 8 * 16)) shapeCasts_S1x1x1x16_S16 (ix1 x) = R (3 * n + c / 16) (c / 8 % 2) (c % 8 * 16) (ix4 0 0 0 x) := by
      simp only [pointwise]
    rw [← e1, ← e2]
    rfl

variable (m : (ℓ : Loc nD τ sig) → Buf (Elt Ideal) ℓ) (d : Dev nD)

/-- The row a feature's index names, in the table. -/
def rowAt (i : IVec S2048x32 32) (b : Fin 2048) (k : Fin 32) : Fin 49152 := ⟨(i (ix2 b k)).toNat % 49152, Nat.mod_lt _ (by decide)⟩

/-- An entry of the decoded rows is the sum, over the token's selected features, of the weight times the entry of the
    feature's row. -/
theorem resV_at (hi : InTable (argI m d)) (b : Fin 2048) (c : Fin 768) :
    resV m d (ix2 b c) = ∑ k : Fin 32, argW m d (ix2 b k) * argT m d (ix2 (rowAt (argI m d) b k) c) := by
  have hx : (ixOf S16 (by decide) ![c.val % 16] : S16.Idx) = ix1 ⟨c.val % 16, by omega⟩ :=
    ixOf_eq fun a => match a with | ⟨0, _⟩ => rfl
  have hc : ((ixOf S768 (by decide) ![c.val] : S768.Idx) 0).val = c.val := Nat.mod_eq_of_lt c.isLt
  show lanes (accVec (fun k => wAt (cutW (fwV m d) (b.val / 64 * 64)) (512 * (b.val % 64) + 16 * k))
    (rAt (gath (ftV m d) (cutL (fiV m d) (b.val / 64 * 64)) (b.val % 64)) 0) 32) (ixOf S768 (by decide) ![c.val]) = _
  unfold lanes
  rw [hc, hx, accVec_at, Finset.sum_range]
  refine Finset.sum_congr rfl fun k _ => ?_
  have hk := k.isLt
  have hb := b.isLt
  have hcl := c.isLt
  congr 1
  · unfold wAt cutW
    have h1 : (ixOf S32768 (by decide) ![512 * (b.val % 64) + 16 * k.val + ((ix1 (⟨c.val % 16, by omega⟩ : Fin 16) : S16.Idx) 0).val] : S32768.Idx)
        = ix1 ⟨512 * (b.val % 64) + 16 * k.val + c.val % 16, by omega⟩ := ixOf_eq fun a => match a with | ⟨0, _⟩ => rfl
    rw [h1]
    have h2 : (ixOf S1048576 (by decide) ![512 * (b.val / 64 * 64) + ((ix1 (⟨512 * (b.val % 64) + 16 * k.val + c.val % 16, by omega⟩ : Fin 32768) : S32768.Idx) 0).val] : S1048576.Idx)
        = ix1 ⟨512 * b.val + 16 * k.val + c.val % 16, by omega⟩ := ixOf_eq fun a => match a with
          | ⟨0, _⟩ => by show 512 * (b.val / 64 * 64) + (512 * (b.val % 64) + 16 * k.val + c.val % 16) = 512 * b.val + 16 * k.val + c.val % 16; omega
    rw [h2, fwV_at]
    congr 2
    · exact Fin.ext (by show (512 * b.val + 16 * k.val + c.val % 16) / 512 = b.val; omega)
    · exact Fin.ext (by show (512 * b.val + 16 * k.val + c.val % 16) / 16 % 32 = k.val; omega)
  · unfold rAt gath cutL
    have h1 : (ixOf S2x96x2x128 (by decide) ![0, 3 * k.val + c.val / 16 / 16, c.val / 16 / 8 % 2, c.val / 16 % 8 * 16 + ((ix4 0 0 0 (⟨c.val % 16, by omega⟩ : Fin 16) : S1x1x1x16.Idx) 3).val] : S2x96x2x128.Idx)
        = ix4 0 ⟨3 * k.val + c.val / 256, by omega⟩ ⟨c.val / 128 % 2, by omega⟩ ⟨c.val % 128, by omega⟩ := ixOf_eq fun a => match a with
          | ⟨0, _⟩ => rfl
          | ⟨1, _⟩ => by show 3 * k.val + c.val / 16 / 16 = 3 * k.val + c.val / 256; omega
          | ⟨2, _⟩ => by show c.val / 16 / 8 % 2 = c.val / 128 % 2; omega
          | ⟨3, _⟩ => by show c.val / 16 % 8 * 16 + c.val % 16 = c.val % 128; omega
    rw [h1]
    have h2 : (ixOf S64x96 (by decide) ![b.val % 64, ((ix4 (0 : Fin 2) (⟨3 * k.val + c.val / 256, by omega⟩ : Fin 96) (⟨c.val / 128 % 2, by omega⟩ : Fin 2) (⟨c.val % 128, by omega⟩ : Fin 128) : S2x96x2x128.Idx) 1).val] : S64x96.Idx)
        = ix2 ⟨b.val % 64, by omega⟩ ⟨3 * k.val + c.val / 256, by omega⟩ := ixOf_eq fun a => match a with | ⟨0, _⟩ => rfl | ⟨1, _⟩ => rfl
    rw [h2]
    have h3 : (ixOf S2048x96 (by decide) ![b.val / 64 * 64 + ((ix2 (⟨b.val % 64, by omega⟩ : Fin 64) (⟨3 * k.val + c.val / 256, by omega⟩ : Fin 96) : S64x96.Idx) 0).val,
          ((ix2 (⟨b.val % 64, by omega⟩ : Fin 64) (⟨3 * k.val + c.val / 256, by omega⟩ : Fin 96) : S64x96.Idx) 1).val] : S2048x96.Idx)
        = ix2 b ⟨3 * k.val + c.val / 256, by omega⟩ := ixOf_eq fun a => match a with
          | ⟨0, _⟩ => by show b.val / 64 * 64 + b.val % 64 = b.val; omega
          | ⟨1, _⟩ => rfl
    rw [h3]
    have hkk : (⟨(3 * k.val + c.val / 256) / 3, by omega⟩ : Fin 32) = k := Fin.ext (by show (3 * k.val + c.val / 256) / 3 = k.val; omega)
    have hn : (fiV m d (ix2 b ⟨3 * k.val + c.val / 256, by omega⟩)).toNat = 3 * (argI m d (ix2 b k)).toNat + c.val / 256 := by
      rw [fiV_toNat m d hi]
      show 3 * (argI m d (ix2 b ⟨(3 * k.val + c.val / 256) / 3, _⟩)).toNat + (3 * k.val + c.val / 256) % 3 = _
      rw [hkk]
      omega
    have hin := hi (ix2 b k)
    have h4 : (ixOf S147456x2x128 (by decide) ![(fiV m d (ix2 b ⟨3 * k.val + c.val / 256, by omega⟩)).toNat,
          ((ix4 (0 : Fin 2) (⟨3 * k.val + c.val / 256, by omega⟩ : Fin 96) (⟨c.val / 128 % 2, by omega⟩ : Fin 2) (⟨c.val % 128, by omega⟩ : Fin 128) : S2x96x2x128.Idx) 2).val,
          ((ix4 (0 : Fin 2) (⟨3 * k.val + c.val / 256, by omega⟩ : Fin 96) (⟨c.val / 128 % 2, by omega⟩ : Fin 2) (⟨c.val % 128, by omega⟩ : Fin 128) : S2x96x2x128.Idx) 3).val] : S147456x2x128.Idx)
        = ix3 ⟨3 * (argI m d (ix2 b k)).toNat + c.val / 256, by omega⟩ ⟨c.val / 128 % 2, by omega⟩ ⟨c.val % 128, by omega⟩ := ixOf_eq fun a => match a with
          | ⟨0, _⟩ => hn
          | ⟨1, _⟩ => rfl
          | ⟨2, _⟩ => rfl
    rw [h4, ftV_at]
    congr 2
    · exact Fin.ext (by show (3 * (argI m d (ix2 b k)).toNat + c.val / 256) / 3 = (argI m d (ix2 b k)).toNat % 49152; omega)
    · exact Fin.ext (by show (3 * (argI m d (ix2 b k)).toNat + c.val / 256) % 3 * 256 + c.val / 128 % 2 * 128 + c.val % 128 = c.val; omega)

end Cert.Proof.Decode
-- ==== Proof.Ref.lean ====
/-
  The precondition read as "every index names a row of the table", and the reference's value entry by entry.
-/
module

public import proofs.«01_k».proof.Proof.Gen.ReferenceIdeal.Run
public import proofs.«01_k».proof.Proof.Gen.Pre_idx_in_table
public import Idealize.ShloMosaic.Lib.Pointwise
public import Idealize.ShloMosaic.Lib.StableHlo.Predicate

@[expose] public section

noncomputable section

namespace Cert.Proof.Ref

open Cert.ReferenceIdeal Cert.ReferenceIdeal.Gen
open Idealize.ShloMosaic

/-! ## A conjunction of bits -/

/-- Of two bits, the conjunction is one exactly when both are. -/
theorem andi_eq_one (a b : BitVec 1) : IntOp.andi a b = 1#1 ↔ a = 1#1 ∧ b = 1#1 := by
  revert a b; decide

/-- A running conjunction that ends at one was fed nothing but ones, and started at one. -/
theorem foldl_andi {ι : Type} (x : ι → BitVec 1) (l : List ι) (r : BitVec 1) :
    l.foldl (fun r n => IntOp.andi r (x n)) r = 1#1 ↔ r = 1#1 ∧ ∀ n ∈ l, x n = 1#1 := by
  induction l generalizing r with
  | nil => simp
  | cons a l ih =>
    rw [List.foldl_cons, ih, andi_eq_one]
    simp [and_assoc]

/-! ## The indices -/

/-- A word between zero and the table's height, read signed, is a row's number. -/
theorem word_of_bits (a : BitVec 32) (h : IntOp.andi (IntOp.cmpi .sge a 0#32) (IntOp.cmpi .slt a 49152#32) = 1#1) : a.toNat < 49152 := by
  rw [andi_eq_one] at h
  obtain ⟨h0, h1⟩ := h
  simp only [IntOp.cmpi, StableHlo.Predicate.ofBool_eq_one_iff, BitVec.sle_eq_decide, BitVec.slt_eq_decide, decide_eq_true_eq, BitVec.toInt_eq_toNat_cond, BitVec.toNat_ofNat,
    Nat.reducePow, Nat.reduceMod] at h0 h1
  have := a.isLt
  split at h1 <;> omega

/-- The precondition says that every index names a row of the table. -/
theorem inTable_of_pre {F : FTy → Type} [FloatOps F] (i : IVec S2048x32 32) (w : FVec F S2048x32 .f32) (t : FVec F S49152x768 .f32)
    (h : Cert.Pre_idx_in_table.fn i w t = fun _ => 1#1) (j : S2048x32.Idx) : (i j).toNat < 49152 := by
  have h0 := congrFun h ix0
  unfold Cert.Pre_idx_in_table.fn Host.reduce at h0
  have h1 := ((foldl_andi _ _ _).mp h0).2 (S2048x32.rowMajor j)
    (List.mem_filter.mpr ⟨List.mem_finRange _, decide_eq_true (funext fun a => a.elim0)⟩)
  rw [Equiv.symm_apply_apply] at h1
  exact word_of_bits _ h1

/-! ## The reference's value -/

/-- A row's number is not negative and is at most the last row's, read signed. -/
theorem bits_of_word (a : BitVec 32) (h : a.toNat < 49152) :
    IntOp.cmpi .slt a 0#32 = 0#1 ∧ IntOp.andi (IntOp.cmpi .sge a 0#32) (IntOp.cmpi .sle a 49151#32) = 1#1 ∧ a.toInt.toNat = a.toNat := by
  have hi : a.toInt = a.toNat := by rw [BitVec.toInt_eq_toNat_cond]; split <;> omega
  have hz : (0#32 : BitVec 32).toInt = 0 := by decide
  have ht : (49151#32 : BitVec 32).toInt = 49151 := by decide
  refine ⟨?_, (andi_eq_one _ _).mpr ⟨?_, ?_⟩, by omega⟩ <;>
    simp only [IntOp.cmpi, BitVec.slt_eq_decide, BitVec.sle_eq_decide, hi, hz, ht, StableHlo.Predicate.ofBool_eq_one_iff, decide_eq_true_eq]
  · rw [decide_eq_false (by omega)]; rfl
  · omega
  · omega

/-- The gather of whole rows, read at an index: the row that the start index names, clamped into the table. -/
theorem gather_at {F : FTy → Type} (t : FVec F S49152x768 .f32) (s : IVec S2048x32x1 32) (b : Fin 2048) (k : Fin 32) (c : Fin 768) :
    Host.gather gather_S49152x768_S2048x32x1_S2048x32x768_2_0_n_n_0_2_1768 t s (ix3 b k c)
      = t (ix2 ⟨min (s (ix3 b k 0)).toInt.toNat 49151, by omega⟩ c) := by
  unfold Host.gather
  congr 1
  funext a
  refine Fin.ext ?_
  match a with
  | ⟨0, _⟩ =>
    show GatherDims.start _ _ s 0 + GatherDims.batchCoord _ _ 0 + GatherDims.offCoord _ _ 0 = min (s (ix3 b k 0)).toInt.toNat 49151
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S49152x768_S2048x32x1_S2048x32x768_2_0_n_n_0_2_1768.startIndexMap from List.mem_singleton.mpr rfl)]
    rw [show gather_S49152x768_S2048x32x1_S2048x32x768_2_0_n_n_0_2_1768.siIdx (ix3 b k c) ⟨List.idxOf (0 : Fin 2) gather_S49152x768_S2048x32x1_S2048x32x768_2_0_n_n_0_2_1768.startIndexMap,
        List.idxOf_lt_length_iff.2 (List.mem_singleton.mpr rfl)⟩ = ix3 b k 0 from
      funext fun a => Fin.ext (match a with | ⟨0, _⟩ => rfl | ⟨1, _⟩ => rfl | ⟨2, _⟩ => rfl)]
    rfl
  | ⟨1, _⟩ =>
    show GatherDims.start _ _ s 1 + GatherDims.batchCoord _ _ 1 + GatherDims.offCoord _ _ 1 = c.val
    rw [GatherDims.batchCoord_eq_zero _ _ _ List.not_mem_nil]
    unfold GatherDims.start
    rw [dif_neg (by decide)]
    simp only [Nat.add_zero, Nat.zero_add]
    rfl

/-- The indices the reference takes rows at: a negative one counts from the table's end. -/
abbrev wrapped (i : IVec S2048x32 32) : IVec S2048x32 32 :=
  select (cmpi .slt i (broadcastInDim S2048x32 ![] bcast_S_S2048x32 (constantI S_ 32 0#32))) (addi i (broadcastInDim S2048x32 ![] bcast_S_S2048x32 (constantI S_ 32 49152#32))) i

/-- The start of each row, as the reference's gather takes it. -/
abbrev starts (i : IVec S2048x32 32) : IVec S2048x32x1 32 := broadcastInDim S2048x32x1 ![0, 1] bcast_S2048x32_S2048x32x1_0_1 (wrapped i)

/-- Which indices are in the table, as the reference asks it. -/
abbrev inside (i : IVec S2048x32 32) : IVec S2048x32x1 1 :=
  andi (cmpi .sge (starts i) (broadcastInDim S2048x32x1 ![] bcast_S_S2048x32x1 (constantI S_ 32 0#32)))
    (cmpi .sle (starts i) (broadcastInDim S2048x32x1 ![0, 1, 2] bcast_S1x1x1_S2048x32x1_0_1_2 (broadcastInDim S1x1x1 ![2] bcast_S1_S1x1x1_2 (constantI S1 32 49151#32))))

/-- The rows that the reference takes, one at each index. -/
abbrev taken {F : FTy → Type} [FloatOps F] (i : IVec S2048x32 32) (t : FVec F S49152x768 .f32) : FVec F S2048x32x768 .f32 :=
  select (broadcastInDim S2048x32x768 ![0, 1] bcast_S2048x32_S2048x32x768_0_1 (Host.reduce IntOp.andi (inside i) (constantI S_ 1 1#1) reducesTo_S2048x32x1_S2048x32_d2 h_S_))
    (Host.gather gather_S49152x768_S2048x32x1_S2048x32x768_2_0_n_n_0_2_1768 t (starts i)) (broadcastInDim S2048x32x768 ![] bcast_S_S2048x32x768 (constant S_ .f32 0x7FC00000#32))

/-- The reference's result. -/
abbrev out {F : FTy → Type} [FloatOps F] (i : IVec S2048x32 32) (w : FVec F S2048x32 .f32) (t : FVec F S49152x768 .f32) : FVec F S2048x768 .f32 :=
  Host.reduceAdd (mulf (broadcastInDim S2048x32x768 ![0, 1, 2] bcast_S2048x32x1_S2048x32x768_0_1_2 (broadcastInDim S2048x32x1 ![0, 1] bcast_S2048x32_S2048x32x1_0_1 w)) (taken i t))
    (constant S_ .f32 0x00000000#32) reducesTo_S2048x32x768_S2048x768_d1 h_S_

section
variable (i : IVec S2048x32 32) (hi : ∀ j, (i j).toNat < 49152)
include hi

/-- An index that names a row of the table is taken as it is. -/
theorem wrapped_eq : wrapped i = i := by
  funext j
  show Scalar.select (IntOp.cmpi .slt (i j) 0#32) (IntOp.addi (i j) 49152#32) (i j) = i j
  rw [(bits_of_word _ (hi j)).1]
  rfl

/-- Every index is found in the table. -/
theorem inside_one (j : S2048x32x1.Idx) : inside i j = 1#1 := by
  unfold inside starts
  rw [wrapped_eq i hi]
  exact (bits_of_word _ (hi _)).2.1

/-- The row taken at an index is the table's row of that number. -/
theorem taken_at {F : FTy → Type} [FloatOps F] (t : FVec F S49152x768 .f32) (b : Fin 2048) (k : Fin 32) (c : Fin 768) :
    taken i t (ix3 b k c) = t (ix2 ⟨(i (ix2 b k)).toNat % 49152, Nat.mod_lt _ (by decide)⟩ c) := by
  have h1 : Host.reduce IntOp.andi (inside i) (constantI S_ 1 1#1) reducesTo_S2048x32x1_S2048x32_d2 h_S_ = fun _ => 1#1 := by
    funext j
    unfold Host.reduce
    exact (foldl_andi _ _ _).mpr ⟨rfl, fun n _ => inside_one i hi _⟩
  have h2 : starts i (ix3 b k 0) = i (ix2 b k) := by
    unfold starts
    rw [wrapped_eq i hi]
    simp only [pointwise]
    rfl
  have h := hi (ix2 b k)
  unfold taken
  rw [h1]
  show Host.gather gather_S49152x768_S2048x32x1_S2048x32x768_2_0_n_n_0_2_1768 t (starts i) (ix3 b k c) = _
  rw [gather_at]
  congr 2
  refine Fin.ext ?_
  show min (starts i (ix3 b k 0)).toInt.toNat 49151 = (i (ix2 b k)).toNat % 49152
  rw [h2, (bits_of_word _ h).2.2]
  omega

/-- An entry of the reference's result is the sum, over the token's features, of the weight times the entry of the
    feature's row. -/
theorem out_at (w : FVec Ideal S2048x32 .f32) (t : FVec Ideal S49152x768 .f32) (b : Fin 2048) (c : Fin 768) :
    out i w t (ix2 b c) = ∑ k : Fin 32, w (ix2 b k) * t (ix2 ⟨(i (ix2 b k)).toNat % 49152, Nat.mod_lt _ (by decide)⟩ c) := by
  unfold out
  rw [Host.reduceAdd_apply]
  refine (Ideal.hostReduceAdd_r3_a1 (n0 := 2048) (n1 := 32) (n2 := 768) _ _ _ _).trans ?_
  rw [show ((constant (F := Ideal) S_ .f32 0x00000000#32) (Shape.Idx.first h_S_) : EReal) = 0 from Ideal.ofBits_zero .f32, zero_add]
  refine Finset.sum_congr rfl fun k _ => ?_
  rw [← taken_at i hi t b k c]
  show broadcastInDim S2048x32x768 ![0, 1, 2] bcast_S2048x32x1_S2048x32x768_0_1_2 (broadcastInDim S2048x32x1 ![0, 1] bcast_S2048x32_S2048x32x1_0_1 w) (ix3 b k c) * taken i t (ix3 b k c) = _
  congr 1
  simp only [pointwise]
  rfl

end

end Cert.Proof.Ref
-- ==== Proof.StatsBlock.lean ====
module

public import proofs.«01_k».proof.Proof.Gen.StatsIdeal.Value
public import Idealize.ShloMosaic.Lib.Pointwise
public import Idealize.ShloMosaic.Lib.Tactic

/-! What one grid point of the statistics kernel leaves in its windows and in its running sums. -/

@[expose] public section

noncomputable section

namespace Cert.Proof.Stats

open Cert.StatsIdeal Cert.StatsIdeal.Gen Cert.StatsIdeal.Value Idealize.ShloMosaic Idealize.ShloMosaic.TcCoe
open Idealize.SL.Sem

variable {F : FTy → Type} [FloatOps F]
variable (m : (ℓ : Loc nD τ sig) → Buf (Elt F) ℓ)

/-- A block's origin is zero in both coordinates. -/
theorem hz : (![0, 0] : Fin 2 → Nat) = fun _ => 0 := funext fun a => by fin_cases a <;> rfl
/-- A row block's origin is zero. -/
theorem hz1 : (![0] : Fin 1 → Nat) = fun _ => 0 := funext fun a => by fin_cases a; rfl

/-- The five components a grid point leaves, over what the point before left. -/
abbrev State (F : FTy → Type) [FloatOps F] : Type :=
  Vec F S256x768 .f32 × Vec F S256 .f32 × Vec F S1x1 .f32 × Vec F S1x1 .f32 × Vec F S6x768 .f32

/-- Every point writes the scaled decoded block back. -/
theorem st_y (c : Dev nD) (t : Fin cfg0.N) (acc : State F) :
    (stAt0 m c t.val t.isLt acc).1 = k0_pay6 (iblk m c 1 t) (iblk m c 2 t) := by
  have hN := lt_of_lt_of_eq t.isLt (show cfg0.N = 8 from N_0)
  by_cases h0 : t.val % 8 = 0
  · rw [stAt0_A m c t acc h0 (by omega) (by omega)]
    dsimp only
    unfold out0_A_3
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact cover0_A_3 ..
  by_cases h2 : t.val % 8 = 7
  · rw [stAt0_C m c t acc h0 (by omega) h2]
    dsimp only
    unfold out0_C_3
    rw [View.read_writes_eq_canon]
    · unfold kernelRun0_C
      dsimp only
      sl_unfold_words
      rw [View.canon_unit_zero hz]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact cover0_C_3 ..
  · rw [stAt0_B m c t acc h0 (by omega) h2]
    dsimp only
    unfold out0_B_3
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact cover0_B_3 ..

/-- Every point writes its rows' mean squared errors back. -/
theorem st_loss (c : Dev nD) (t : Fin cfg0.N) (acc : State F) :
    (stAt0 m c t.val t.isLt acc).2.1 = k0_pay8 (iblk m c 0 t) (iblk m c 1 t) (iblk m c 2 t) := by
  have hN := lt_of_lt_of_eq t.isLt (show cfg0.N = 8 from N_0)
  by_cases h0 : t.val % 8 = 0
  · rw [stAt0_A m c t acc h0 (by omega) (by omega)]
    dsimp only
    unfold out0_A_4
    rw [View.read_writes_eq_canon]
    · unfold kernelRun0_A
      dsimp only
      sl_unfold_words
      rw [View.canon_unit_zero hz1]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact cover0_A_4 ..
  by_cases h2 : t.val % 8 = 7
  · rw [stAt0_C m c t acc h0 (by omega) h2]
    dsimp only
    unfold out0_C_4
    rw [View.read_writes_eq_canon]
    · unfold kernelRun0_C
      dsimp only
      sl_unfold_words
      rw [View.canon_unit_zero hz1]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact cover0_C_4 ..
  · rw [stAt0_B m c t acc h0 (by omega) h2]
    dsimp only
    unfold out0_B_4
    rw [View.read_writes_eq_canon]
    · unfold kernelRun0_B
      dsimp only
      sl_unfold_words
      rw [View.canon_unit_zero hz1]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact cover0_B_4 ..

/-- The first point starts the running sums with its block's own. -/
theorem st_first (c : Dev nD) (t : Fin cfg0.N) (acc : State F) (h0 : t.val % 8 = 0) :
    (stAt0 m c t.val t.isLt acc).2.2.2.2 = k0_pay10 (iblk m c 0 t) (iblk m c 1 t) (iblk m c 2 t) := by
  have hN := lt_of_lt_of_eq t.isLt (show cfg0.N = 8 from N_0)
  · rw [stAt0_A m c t acc h0 (by omega) (by omega)]
    dsimp only
    unfold sout0_A_0
    rw [View.read_writes_eq_canon]
    · unfold kernelRun0_A
      dsimp only
      sl_unfold_words
      rw [View.canon_unit_zero hz]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact scover0_A_0 ..

/-- Every later point adds its block's sums to the running sums. -/
theorem st_next (c : Dev nD) (t : Fin cfg0.N) (acc : State F) (h0 : ¬t.val % 8 = 0) :
    (stAt0 m c t.val t.isLt acc).2.2.2.2
      = k0_pay1 (k0_pay9 (iblk m c 0 t) (iblk m c 1 t) (iblk m c 2 t)) acc.2.2.2.2 := by
  have hN := lt_of_lt_of_eq t.isLt (show cfg0.N = 8 from N_0)
  by_cases h2 : t.val % 8 = 7
  · rw [stAt0_C m c t acc h0 (by omega) h2]
    dsimp only
    unfold sout0_C_0
    rw [View.read_writes_eq_canon]
    · unfold kernelRun0_C
      dsimp only
      sl_unfold_words
      rw [View.canon_unit_zero hz]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact scover0_C_0 ..
  · rw [stAt0_B m c t acc h0 (by omega) h2]
    dsimp only
    unfold sout0_B_0
    rw [View.read_writes_eq_canon]
    · unfold kernelRun0_B
      dsimp only
      sl_unfold_words
      rw [View.canon_unit_zero hz]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact scover0_B_0 ..

/-- The last point writes the unexplained fraction of the sums it has just finished. -/
theorem st_fvu (c : Dev nD) (t : Fin cfg0.N) (acc : State F) (h0 : ¬t.val % 8 = 0) (h2 : t.val % 8 = 7) :
    (stAt0 m c t.val t.isLt acc).2.2.1 = k0_pay3 (stAt0 m c t.val t.isLt acc).2.2.2.2 := by
  rw [st_next m c t acc h0]
  · rw [stAt0_C m c t acc h0 (by omega) h2]
    dsimp only
    unfold out0_C_5
    rw [View.read_writes_eq_canon]
    · unfold kernelRun0_C
      dsimp only
      sl_unfold_words
      rw [View.canon_unit_zero hz]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact cover0_C_5 ..

/-- The last point writes the explained variance of the sums it has just finished. -/
theorem st_ve (c : Dev nD) (t : Fin cfg0.N) (acc : State F) (h0 : ¬t.val % 8 = 0) (h2 : t.val % 8 = 7) :
    (stAt0 m c t.val t.isLt acc).2.2.2.1 = k0_pay4 (stAt0 m c t.val t.isLt acc).2.2.2.2 := by
  rw [st_next m c t acc h0]
  · rw [stAt0_C m c t acc h0 (by omega) h2]
    dsimp only
    unfold out0_C_6
    rw [View.read_writes_eq_canon]
    · unfold kernelRun0_C
      dsimp only
      sl_unfold_words
      rw [View.canon_unit_zero hz]
      simp only [View.readAt_eq_ld, (hs0_0 t).read_unread, (hs0_1 t).read_unread, (hs0_2 t).read_unread,
        (Memref.isWhole_whole _).read_unread, View.ld_unit_zero (S := S256x768) hz, View.ld_unit_zero (S := S1x768) hz,
        View.ld_unit_zero (S := S6x768) hz, View.readCov_unit_zero (S := S6x768) _ hz]
    · intro y; exact cover0_C_6 ..

end Cert.Proof.Stats
-- ==== Proof.StatsAlg.lean ====
module

public import Idealize.ShloMosaic.Lib.Pointwise

/-! The arithmetic of the statistics: means of centred products against moments, over the extended reals. -/

@[expose] public section

noncomputable section

namespace Cert.Proof.StatsAlg

open Idealize.ShloMosaic

/-- The number of rows, as the programs' word. -/
theorem word_2048 : Ideal.ofBits .f32 0x45000000#32 = ((2048 : ℝ) : EReal) := by
  simp [Ideal.ofBits, Ideal.ieee, -EReal.coe_mul]; norm_num

/-- The number of entries, as the programs' word. -/
theorem word_all : Ideal.ofBits .f32 0x49C00000#32 = ((1572864 : ℝ) : EReal) := by
  simp [Ideal.ofBits, Ideal.ieee, -EReal.coe_mul]; norm_num

/-- Reals summed as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A mean of reals as an extended real. -/
theorem div_2048 (a : ℝ) : Ideal.div (a : EReal) (Ideal.ofBits .f32 0x45000000#32) = ((a / 2048 : ℝ) : EReal) := by
  rw [word_2048, Ideal.div_coe (by norm_num), ← EReal.coe_mul]
  congr 1
  ring

/-- The mean over the rows of the products of the two columns' distances from their means. -/
def centred (f g : Fin 2048 → EReal) : EReal :=
  Ideal.div (∑ i, (f i - Ideal.div (∑ i, f i) (Ideal.ofBits .f32 0x45000000#32))
    * (g i - Ideal.div (∑ i, g i) (Ideal.ofBits .f32 0x45000000#32))) (Ideal.ofBits .f32 0x45000000#32)

/-- The mean of a column's products less the product of two columns' means. -/
def cov (a b d : EReal) : EReal :=
  Ideal.div a (Ideal.ofBits .f32 0x45000000#32)
    - Ideal.div b (Ideal.ofBits .f32 0x45000000#32) * Ideal.div d (Ideal.ofBits .f32 0x45000000#32)

/-- Over the reals, the mean of the centred products is the mean of the products less the product of the means. -/
theorem centred_real (f g : Fin 2048 → ℝ) :
    (∑ i, (f i - (∑ i, f i) / 2048) * (g i - (∑ i, g i) / 2048)) / 2048
      = (∑ i, f i * g i) / 2048 - (∑ i, f i) / 2048 * ((∑ i, g i) / 2048) := by
  have h : ∑ i, (f i - (∑ i, f i) / 2048) * (g i - (∑ i, g i) / 2048)
      = ∑ i, f i * g i - (∑ i, f i) * (∑ i, g i) / 2048 := by
    generalize hF : ∑ i, f i = A
    generalize hG : ∑ i, g i = B
    have : ∀ i, (f i - A / 2048) * (g i - B / 2048) = f i * g i - f i * (B / 2048) - A / 2048 * g i + A / 2048 * (B / 2048) :=
      fun i => by ring
    simp only [this, Finset.sum_add_distrib, Finset.sum_sub_distrib, ← Finset.sum_mul, ← Finset.mul_sum, hF, hG,
      Finset.sum_const, Finset.card_univ, Fintype.card_fin, nsmul_eq_mul]
    push_cast
    ring
  rw [h]
  ring

/-- The same of columns of finite extended reals. -/
theorem centred_eq (f g : Fin 2048 → EReal) (F G : Fin 2048 → ℝ) (hf : ∀ i, f i = (F i : EReal)) (hg : ∀ i, g i = (G i : EReal)) :
    centred f g = cov (∑ i, f i * g i) (∑ i, f i) (∑ i, g i) := by
  obtain rfl : f = fun i => (F i : EReal) := funext hf
  obtain rfl : g = fun i => (G i : EReal) := funext hg
  unfold centred cov
  simp only [coe_sum, div_2048, ← EReal.coe_sub, ← EReal.coe_mul]
  rw [centred_real]

/-- A quotient of two means over the same number of entries is the quotient of the sums, at a zero and at the infinities too. -/
theorem div_div_all (s t : EReal) :
    Ideal.div (Ideal.div s (Ideal.ofBits .f32 0x49C00000#32)) (Ideal.div t (Ideal.ofBits .f32 0x49C00000#32)) = Ideal.div s t := by
  rw [word_all, Ideal.div_coe (by norm_num), Ideal.div_coe (by norm_num)]
  generalize hr : ((1 / 1572864 : ℝ)) = r
  have hr0 : 0 < r := by rw [← hr]; norm_num
  have hne : (r : EReal) ≠ 0 := by exact_mod_cast hr0.ne'
  have hpos : (0 : EReal) < (r : EReal) := by exact_mod_cast hr0
  unfold Ideal.div
  by_cases ht : t = 0
  · subst ht
    have hs : 0 < s * (r : EReal) ↔ 0 < s := by
      constructor
      · intro h
        by_contra hn
        exact absurd h (not_lt.mpr (mul_nonpos_of_nonpos_of_nonneg (not_lt.mp hn) hpos.le))
      · intro h; exact EReal.mul_pos h hpos
    simp only [zero_mul, if_true, hs]
  · rw [if_neg ht, if_neg (mul_ne_zero ht hne), EReal.mul_inv, mul_mul_mul_comm]
    rw [show (r : EReal) * (r : EReal)⁻¹ = 1 from ?_, mul_one]
    rw [← EReal.coe_inv, ← EReal.coe_mul, mul_inv_cancel₀ hr0.ne', EReal.coe_one]

/-- An extended real whose absolute value is below infinity is a real. -/
theorem real_of_abs (x : EReal) (h : max x (-x) < ⊤) : ∃ r : ℝ, x = (r : EReal) := by
  induction x using EReal.rec with
  | bot => simp at h
  | coe r => exact ⟨r, rfl⟩
  | top => simp at h

end Cert.Proof.StatsAlg
-- ==== Proof.StatsSums.lean ====
module

public import proofs.«01_k».proof.Proof.StatsBlock
public import proofs.«01_k».proof.Proof.StatsAlg

/-! The statistics kernel's windows and running sums, entry by entry, over the extended reals. -/

@[expose] public section

noncomputable section

namespace Cert.Proof.Stats

open Cert.StatsIdeal Cert.StatsIdeal.Gen Cert.StatsIdeal.Value Idealize.ShloMosaic Idealize.ShloMosaic.TcCoe
open Idealize.SL.Sem

variable (m : (ℓ : Loc nD τ sig) → Buf (Elt Ideal) ℓ)

/-- The normalised input, the decoded rows and the bias, as launched. -/
def argX (c : Dev nD) : S2048x768.Idx → EReal := m ((c.tc : Thread nD τ).loc main_arg0)
def argD (c : Dev nD) : S2048x768.Idx → EReal := m ((c.tc : Thread nD τ).loc main_arg1)
def argB (c : Dev nD) : S768.Idx → EReal := m ((c.tc : Thread nD τ).loc main_arg2)

/-- The biased decoded row at an entry. -/
def yAt (c : Dev nD) (i : Fin 2048) (j : Fin 768) : EReal := argD m c (ix2 i j) + argB m c (ix1 j)

/-- A point's row of the whole array. -/
def rowOf (t : Fin cfg0.N) (r : Fin 256) : Fin 2048 :=
  ⟨256 * t.val + r.val, by have := lt_of_lt_of_eq t.isLt (show cfg0.N = 8 from N_0); omega⟩

/-- Point `t` takes the input's block `t`. -/
theorem index0 : ∀ t : Fin cfg0.N, win0_0.index t 0 = t.val ∧ win0_0.index t 1 = 0 :=
  (by decide +kernel : ∀ t : Fin grid0.N, _)
/-- Point `t` takes the decoded rows' block `t`. -/
theorem index1 : ∀ t : Fin cfg0.N, win0_1.index t 0 = t.val ∧ win0_1.index t 1 = 0 :=
  (by decide +kernel : ∀ t : Fin grid0.N, _)
/-- Every point takes the whole bias. -/
theorem index2 : ∀ t : Fin cfg0.N, win0_2.index t 0 = 0 ∧ win0_2.index t 1 = 0 :=
  (by decide +kernel : ∀ t : Fin grid0.N, _)

/-- The input block a point reads. -/
theorem blk_x (c : Dev nD) (t : Fin cfg0.N) (r : Fin 256) (j : Fin 768) :
    iblk m c 0 t (ix2 r j) = argX m c (ix2 (rowOf t r) j) := by
  unfold iblk
  rw [View.read_apply]
  show V m c main_arg0 _ = _
  rw [V_main_arg0]
  show m _ _ = m _ _
  congr 1
  funext a
  apply Fin.ext
  match a with
  | ⟨0, _⟩ => show win0_0.index t 0 * 256 + 1 * r.val = 256 * t.val + r.val; rw [(index0 t).1]; omega
  | ⟨1, _⟩ => show win0_0.index t 1 * 768 + 1 * j.val = j.val; rw [(index0 t).2]; omega

/-- The decoded block a point reads. -/
theorem blk_d (c : Dev nD) (t : Fin cfg0.N) (r : Fin 256) (j : Fin 768) :
    iblk m c 1 t (ix2 r j) = argD m c (ix2 (rowOf t r) j) := by
  unfold iblk
  rw [View.read_apply]
  show V m c main_arg1 _ = _
  rw [V_main_arg1]
  show m _ _ = m _ _
  congr 1
  funext a
  apply Fin.ext
  match a with
  | ⟨0, _⟩ => show win0_1.index t 0 * 256 + 1 * r.val = 256 * t.val + r.val; rw [(index1 t).1]; omega
  | ⟨1, _⟩ => show win0_1.index t 1 * 768 + 1 * j.val = j.val; rw [(index1 t).2]; omega

/-- The bias a point reads. -/
theorem blk_b (c : Dev nD) (t : Fin cfg0.N) (j : Fin 768) :
    iblk m c 2 t (ix2 0 j) = argB m c (ix1 j) := by
  unfold iblk
  rw [View.read_apply]
  show V m c main_v0 _ = _
  unfold V
  after_results
  unfold argB
  refine congrArg (m _) ?_
  funext a
  apply Fin.ext
  match a with
  | ⟨0, _⟩ => show win0_2.index t 1 * 768 + 1 * j.val = j.val; rw [(index2 t).2]; omega

/-! ## One block's entries -/

variable (c : Dev nD) (t : Fin cfg0.N)

/-- A block's biased decoded rows. -/
theorem pay5_at (r : Fin 256) (j : Fin 768) :
    k0_pay5 (F := Ideal) (iblk m c 1 t) (iblk m c 2 t) (ix2 r j) = yAt m c (rowOf t r) j := by
  pointwise [k0_pay5]
  rw [blk_d, blk_b]
  rfl

/-- A block's scaled rows. -/
theorem pay6_at (r : Fin 256) (j : Fin 768) :
    k0_pay6 (F := Ideal) (iblk m c 1 t) (iblk m c 2 t) (ix2 r j)
      = Ideal.div (yAt m c (rowOf t r) j) (Ideal.ofBits .f32 0x41DDB3D7#32) := by
  pointwise [k0_pay6]
  rw [pay5_at]

/-- The squared error at an entry. -/
def sqErr (i : Fin 2048) (j : Fin 768) : EReal :=
  (argX m c (ix2 i j) - yAt m c i j) * (argX m c (ix2 i j) - yAt m c i j)

/-- A block's rows' mean squared errors. -/
theorem pay8_at (r : Fin 256) :
    k0_pay8 (F := Ideal) (iblk m c 0 t) (iblk m c 1 t) (iblk m c 2 t) (ix1 r)
      = Ideal.div (∑ j, sqErr m c (rowOf t r) j) (Ideal.ofBits .f32 0x44400000#32) := by
  pointwise [k0_pay8, k0_pay7]
  simp only [pay5_at, blk_x]
  rfl

/-- What the six running sums sum, of an entry `x` of the input and an entry `y` of the biased decoded rows. -/
def term (k : Fin 6) (x y : EReal) : EReal :=
  match k with
  | 0 => x
  | 1 => y
  | 2 => x * y
  | 3 => x * x
  | 4 => y * y
  | 5 => (x - y) * (x - y)

/-- A column's summand at a row. -/
def colTerm (k : Fin 6) (j : Fin 768) (i : Fin 2048) : EReal := term k (argX m c (ix2 i j)) (yAt m c i j)

/-- A block's six column sums. -/
theorem pay9_at (k : Fin 6) (j : Fin 768) :
    k0_pay9 (F := Ideal) (iblk m c 0 t) (iblk m c 1 t) (iblk m c 2 t) (ix2 k j)
      = ∑ r, colTerm m c k j (rowOf t r) := by
  fin_cases k <;> pointwise [k0_pay9, k0_pay7] <;> simp only [pay5_at, blk_x] <;> rfl

/-! ## The fold over the points -/

/-- The state after point `n`. -/
abbrev after (n : ℕ) (h : 0 + n < cfg0.N) : State Ideal :=
  Pipeline.accAt (fun n h => stAt0 m c n h junk0) (stAt0 m c) 0 n h

/-- Each point leaves its block's scaled rows. -/
theorem after_y (n : ℕ) (h : 0 + n < cfg0.N) :
    (after m c n h).1 = k0_pay6 (iblk m c 1 ⟨0 + n, h⟩) (iblk m c 2 ⟨0 + n, h⟩) := by
  cases n with
  | zero => exact st_y m c ⟨0 + 0, h⟩ _
  | succ n => exact st_y m c ⟨0 + (n + 1), h⟩ _

/-- Each point leaves its block's mean squared errors. -/
theorem after_loss (n : ℕ) (h : 0 + n < cfg0.N) :
    (after m c n h).2.1 = k0_pay8 (iblk m c 0 ⟨0 + n, h⟩) (iblk m c 1 ⟨0 + n, h⟩) (iblk m c 2 ⟨0 + n, h⟩) := by
  cases n with
  | zero => exact st_loss m c ⟨0 + 0, h⟩ _
  | succ n => exact st_loss m c ⟨0 + (n + 1), h⟩ _

/-- A column's summand at a row counted without a bound: nothing past the last row. -/
def colNat (k : Fin 6) (j : Fin 768) (i : ℕ) : EReal := if h : i < 2048 then colTerm m c k j ⟨i, h⟩ else 0

/-- One block's sum of a column, over the rows counted without a bound. -/
theorem block_sum (k : Fin 6) (j : Fin 768) :
    ∑ r, colTerm m c k j (rowOf t r) = ∑ r ∈ Finset.range 256, colNat m c k j (256 * t.val + r) := by
  have hN := lt_of_lt_of_eq t.isLt (show cfg0.N = 8 from N_0)
  rw [Finset.sum_range]
  refine Finset.sum_congr rfl fun r _ => ?_
  unfold colNat
  rw [dif_pos (by omega)]
  rfl

/-- The first point's six column sums, over rows counted without a bound. -/
theorem pay10_at (k : Fin 6) (j : Fin 768) :
    k0_pay10 (F := Ideal) (iblk m c 0 t) (iblk m c 1 t) (iblk m c 2 t) (ix2 k j)
      = ∑ r ∈ Finset.range 256, colNat m c k j (256 * t.val + r) := by
  pointwise [k0_pay10]
  rw [pay9_at, block_sum]

/-- The running sums after point `n` are the sums of the columns over the rows of the blocks so far. -/
theorem after_sums (k : Fin 6) (j : Fin 768) : ∀ (n : ℕ) (h : 0 + n < cfg0.N),
    (after m c n h).2.2.2.2 (ix2 k j) = ∑ i ∈ Finset.range (256 * (n + 1)), colNat m c k j i
  | 0, h => by
    refine (congrFun (st_first m c ⟨0, h⟩ junk0 rfl) (ix2 k j)).trans ((pay10_at m c ⟨0, h⟩ k j).trans ?_)
    show ∑ r ∈ Finset.range 256, colNat m c k j (256 * 0 + r) = _
    simp only [Nat.mul_zero, Nat.zero_add, Nat.mul_one]
  | n + 1, h => by
    have hN := lt_of_lt_of_eq h (show cfg0.N = 8 from N_0)
    show (stAt0 m c (0 + (n + 1)) h (after m c n (Nat.lt_of_succ_lt h))).2.2.2.2 (ix2 k j) = _
    rw [st_next m c ⟨0 + (n + 1), h⟩ _ (by dsimp only; omega)]
    pointwise [k0_pay1]
    rw [after_sums k j n (Nat.lt_of_succ_lt h), pay9_at, block_sum]
    show _ + ∑ r ∈ Finset.range 256, colNat m c k j (256 * (0 + (n + 1)) + r) = _
    rw [Nat.zero_add, show 256 * (n + 1 + 1) = 256 * (n + 1) + 256 by ring, Finset.sum_range_add]

/-- A column's whole sum. -/
def total (k : Fin 6) (j : Fin 768) : EReal := ∑ i, colTerm m c k j i

/-- There is an eighth point. -/
theorem seven : 0 + 7 < cfg0.N := lt_of_lt_of_eq (by decide) N_0.symm

/-- After the last point the running sums are the columns' whole sums. -/
theorem after_last (k : Fin 6) (j : Fin 768) : (after m c 7 seven).2.2.2.2 (ix2 k j) = total m c k j := by
  rw [after_sums]
  show ∑ i ∈ Finset.range 2048, _ = _
  rw [Finset.sum_range]
  refine Finset.sum_congr rfl fun i _ => ?_
  unfold colNat
  rw [dif_pos i.isLt]

/-! ## The four results -/

/-- The kernel's scaled rows. -/
theorem y_at (i : Fin 2048) (j : Fin 768) :
    G3 m c (ix2 i j) = Ideal.div (yAt m c i j) (Ideal.ofBits .f32 0x41DDB3D7#32) := by
  have hp : pt3Of (ix2 i j) = i.val / 256 := by
    show 1 * (i.val / 256 - 0) + 1 * (j.val / 768 - 0) = _
    omega
  have hl : loc3Of (ix2 i j) = ix2 ⟨i.val % 256, Nat.mod_lt _ (by decide)⟩ j := by
    funext a; apply Fin.ext
    match a with
    | ⟨0, _⟩ => rfl
    | ⟨1, _⟩ => show j.val % 768 = j.val; omega
  have hb : pt3Of (ix2 i j) < cfg0.N := by rw [hp]; exact lt_of_lt_of_eq (by omega) N_0.symm
  unfold G3
  rw [dif_pos hb, hl]
  erw [after_y m c (pt3Of (ix2 i j)) (by omega)]
  rw [pay6_at]
  have hr : rowOf ⟨0 + pt3Of (ix2 i j), by omega⟩ ⟨i.val % 256, Nat.mod_lt _ (by decide)⟩ = i :=
    Fin.ext (by show 256 * (0 + pt3Of (ix2 i j)) + i.val % 256 = _; rw [hp]; omega)
  rw [hr]

/-- The kernel's mean squared errors. -/
theorem loss_at (i : Fin 2048) :
    G4 m c (ix1 i) = Ideal.div (∑ j, sqErr m c i j) (Ideal.ofBits .f32 0x44400000#32) := by
  have hp : pt4Of (ix1 i) = i.val / 256 := by
    show 1 * (i.val / 256 - 0) = _
    omega
  have hl : loc4Of (ix1 i) = ix1 ⟨i.val % 256, Nat.mod_lt _ (by decide)⟩ := by
    funext a; apply Fin.ext
    match a with
    | ⟨0, _⟩ => rfl
  have hb : pt4Of (ix1 i) < cfg0.N := by rw [hp]; exact lt_of_lt_of_eq (by omega) N_0.symm
  unfold G4
  rw [dif_pos hb, hl]
  erw [after_loss m c (pt4Of (ix1 i)) (by omega)]
  rw [pay8_at]
  have hr : rowOf ⟨0 + pt4Of (ix1 i), by omega⟩ ⟨i.val % 256, Nat.mod_lt _ (by decide)⟩ = i :=
    Fin.ext (by show 256 * (0 + pt4Of (ix1 i)) + i.val % 256 = _; rw [hp]; omega)
  rw [hr]

/-- The kernel's unexplained fraction. -/
theorem fvu_at : G5 m c (ix2 0 0) = Ideal.div (∑ j, total m c 5 j) (∑ j, total m c 3 j) := by
  rw [G5_last]
  show (stAt0 m c (0 + 7) seven (after m c 6 _)).2.2.1 (ix2 0 0) = _
  rw [st_fvu m c ⟨0 + 7, seven⟩ _ (by decide) (by decide)]
  show k0_pay3 (after m c 7 seven).2.2.2.2 (ix2 0 0) = _
  pointwise [k0_pay3, k0_pay2]
  simp only [after_last]

/-- A column's explained fraction, from its six sums. -/
def explained (j : Fin 768) : EReal :=
  Ideal.div (StatsAlg.cov (total m c 2 j) (total m c 0 j) (total m c 1 j) * StatsAlg.cov (total m c 2 j) (total m c 0 j) (total m c 1 j))
    (StatsAlg.cov (total m c 3 j) (total m c 0 j) (total m c 0 j) * StatsAlg.cov (total m c 4 j) (total m c 1 j) (total m c 1 j))

/-- The kernel's explained variance. -/
theorem ve_at : G6 m c (ix2 0 0) = Ideal.div (∑ j, explained m c j) (Ideal.ofBits .f32 0x44400000#32) := by
  rw [G6_last]
  show (stAt0 m c (0 + 7) seven (after m c 6 _)).2.2.2.1 (ix2 0 0) = _
  rw [st_ve m c ⟨0 + 7, seven⟩ _ (by decide) (by decide)]
  show k0_pay4 (after m c 7 seven).2.2.2.2 (ix2 0 0) = _
  pointwise [k0_pay4, k0_pay2]
  simp only [after_last]
  rfl

end Cert.Proof.Stats
-- ==== Proof.StatsRef.lean ====
module

public import proofs.«01_k».proof.Proof.Gen.StatsReferenceIdeal.Run
public import proofs.«01_k».proof.Proof.Gen.Pre_finite
public import proofs.«01_k».proof.Proof.Ref
public import proofs.«01_k».proof.Proof.StatsAlg
public import Idealize.ShloMosaic.Lib.Pointwise

/-! The statistics reference's results, entry by entry, over the extended reals. -/

@[expose] public section

noncomputable section

namespace Cert.Proof.StatsRef

open Cert.StatsReferenceIdeal Cert.StatsReferenceIdeal.Gen Cert.StatsReferenceIdeal.Value Idealize.ShloMosaic Idealize.ShloMosaic.TcCoe
open Idealize.SL.Sem

variable (m : (ℓ : Loc nD τ sig) → Buf (Elt Ideal) ℓ) (c : Dev nD)

/-- The normalised input, the decoded rows and the bias, as launched. -/
def argX : S2048x768.Idx → EReal := m ((c.tc : Thread nD τ).loc main_arg0)
def argD : S2048x768.Idx → EReal := m ((c.tc : Thread nD τ).loc main_arg1)
def argB : S768.Idx → EReal := m ((c.tc : Thread nD τ).loc main_arg2)

/-- The biased decoded row at an entry. -/
def yAt (i : Fin 2048) (j : Fin 768) : EReal := argD m c (ix2 i j) + argB m c (ix1 j)

/-- The squared error at an entry. -/
def sqErr (i : Fin 2048) (j : Fin 768) : EReal :=
  (argX m c (ix2 i j) - yAt m c i j) * (argX m c (ix2 i j) - yAt m c i j)

/-- The count of rows less no degree of freedom is the count of rows, and is positive. -/
theorem rows_sub : Ideal.ofBits .f32 0x45000000#32 - FloatOps.sitofp (F := Ideal) .f32 (0#32 : BitVec 32) = Ideal.ofBits .f32 0x45000000#32 := by
  rw [show FloatOps.sitofp (F := Ideal) .f32 (0#32 : BitVec 32) = ((0 : ℝ) : EReal) from by simp [FloatOps.sitofp]]
  simp

/-- The count of rows is positive. -/
theorem rows_pos : (0 : EReal) < Ideal.ofBits .f32 0x45000000#32 := by
  rw [StatsAlg.word_2048]; exact_mod_cast (by norm_num : (0 : ℝ) < 2048)

/-- A column of the input and a column of the biased decoded rows. -/
def colX (j : Fin 768) (i : Fin 2048) : EReal := argX m c (ix2 i j)
def colY (j : Fin 768) (i : Fin 2048) : EReal := yAt m c i j

/-- The explained variance. -/
theorem ve_at : (res_main_v42 m c : S1x1.Idx → EReal) (ix2 0 0)
    = Ideal.div (∑ j, Ideal.div (StatsAlg.centred (colX m c j) (colY m c j) * StatsAlg.centred (colX m c j) (colY m c j))
        (StatsAlg.centred (colX m c j) (colX m c j) * StatsAlg.centred (colY m c j) (colY m c j))) (Ideal.ofBits .f32 0x44400000#32) := by
  unfold res_main_v42
  rw [show m ((c.tc : Thread nD τ).loc main_arg0) = argX m c from rfl, show m ((c.tc : Thread nD τ).loc main_arg1) = argD m c from rfl,
    show m ((c.tc : Thread nD τ).loc main_arg2) = argB m c from rfl]
  pointwise []
  simp only [rows_sub, rows_pos, if_true]
  rfl

/-- The scaled decoded rows. -/
theorem y_at (i : Fin 2048) (j : Fin 768) :
    (Host.divf (addf (m ((c.tc : Thread nD τ).loc main_arg1)) (broadcastInDim S2048x768 ![0, 1] bcast_S1x768_S2048x768_0_1 (broadcastInDim S1x768 ![1] bcast_S768_S1x768_1 (m ((c.tc : Thread nD τ).loc main_arg2))))) (broadcastInDim S2048x768 ![] bcast_S_S2048x768 (constant S_ .f32 0x41DDB3D7#32)) : FVec Ideal S2048x768 .f32) (ix2 i j)
      = Ideal.div (yAt m c i j) (Ideal.ofBits .f32 0x41DDB3D7#32) := by
  rw [show m ((c.tc : Thread nD τ).loc main_arg1) = argD m c from rfl, show m ((c.tc : Thread nD τ).loc main_arg2) = argB m c from rfl]
  pointwise []
  rfl

/-- The rows' mean squared errors. -/
theorem loss_at (i : Fin 2048) :
    (Host.divf (Host.reduceAdd (mulf (subf (m ((c.tc : Thread nD τ).loc main_arg0)) (addf (m ((c.tc : Thread nD τ).loc main_arg1)) (broadcastInDim S2048x768 ![0, 1] bcast_S1x768_S2048x768_0_1 (broadcastInDim S1x768 ![1] bcast_S768_S1x768_1 (m ((c.tc : Thread nD τ).loc main_arg2)))))) (subf (m ((c.tc : Thread nD τ).loc main_arg0)) (addf (m ((c.tc : Thread nD τ).loc main_arg1)) (broadcastInDim S2048x768 ![0, 1] bcast_S1x768_S2048x768_0_1 (broadcastInDim S1x768 ![1] bcast_S768_S1x768_1 (m ((c.tc : Thread nD τ).loc main_arg2))))))) (constant S_ .f32 0x00000000#32) reducesTo_S2048x768_S2048_d1 h_S_) (broadcastInDim S2048 ![] bcast_S_S2048 (constant S_ .f32 0x44400000#32)) : FVec Ideal S2048 .f32) (ix1 i)
      = Ideal.div (∑ j, sqErr m c i j) (Ideal.ofBits .f32 0x44400000#32) := by
  rw [show m ((c.tc : Thread nD τ).loc main_arg0) = argX m c from rfl, show m ((c.tc : Thread nD τ).loc main_arg1) = argD m c from rfl,
    show m ((c.tc : Thread nD τ).loc main_arg2) = argB m c from rfl]
  pointwise []
  rfl

/-- The unexplained fraction. -/
theorem fvu_at :
    (shapeCast S1x1 (Host.divf (Host.divf (Host.reduceAdd (mulf (subf (m ((c.tc : Thread nD τ).loc main_arg0)) (addf (m ((c.tc : Thread nD τ).loc main_arg1)) (broadcastInDim S2048x768 ![0, 1] bcast_S1x768_S2048x768_0_1 (broadcastInDim S1x768 ![1] bcast_S768_S1x768_1 (m ((c.tc : Thread nD τ).loc main_arg2)))))) (subf (m ((c.tc : Thread nD τ).loc main_arg0)) (addf (m ((c.tc : Thread nD τ).loc main_arg1)) (broadcastInDim S2048x768 ![0, 1] bcast_S1x768_S2048x768_0_1 (broadcastInDim S1x768 ![1] bcast_S768_S1x768_1 (m ((c.tc : Thread nD τ).loc main_arg2))))))) (constant S_ .f32 0x00000000#32) reducesTo_S2048x768_S_d0_1 h_S_) (constant S_ .f32 0x49C00000#32)) (Host.divf (Host.reduceAdd (mulf (m ((c.tc : Thread nD τ).loc main_arg0)) (m ((c.tc : Thread nD τ).loc main_arg0))) (constant S_ .f32 0x00000000#32) reducesTo_S2048x768_S_d0_1 h_S_) (constant S_ .f32 0x49C00000#32))) shapeCasts_S_S1x1 : FVec Ideal S1x1 .f32) (ix2 0 0)
      = Ideal.div (∑ j, ∑ i, sqErr m c i j) (∑ j, ∑ i, argX m c (ix2 i j) * argX m c (ix2 i j)) := by
  rw [show m ((c.tc : Thread nD τ).loc main_arg0) = argX m c from rfl, show m ((c.tc : Thread nD τ).loc main_arg1) = argD m c from rfl,
    show m ((c.tc : Thread nD τ).loc main_arg2) = argB m c from rfl]
  pointwise []
  rw [StatsAlg.div_div_all, Finset.sum_comm]
  conv_lhs => arg 2; rw [Finset.sum_comm]
  rfl

/-- A comparison's bit, one when the entry's absolute value is below infinity. -/
theorem real_of_bit (x : EReal) (h : Ideal.cmp .olt (max x (-x)) (Ideal.ofBits .f32 0x7F800000#32) = 1#1) : ∃ r : ℝ, x = (r : EReal) := by
  rw [show Ideal.ofBits .f32 0x7F800000#32 = ⊤ from by simp [Ideal.ofBits, Ideal.ieee]] at h
  refine StatsAlg.real_of_abs x ?_
  simpa [Ideal.cmp, StableHlo.Predicate.ofBool_eq_one_iff] using h

/-- The precondition says that every entry of the three arguments is a real. -/
theorem real_of_pre (x d : FVec Ideal S2048x768 .f32) (b : FVec Ideal S768 .f32) (h : Cert.Pre_finite.fn x d b = fun _ => 1#1) :
    (∀ i j, ∃ r : ℝ, x (ix2 i j) = (r : EReal)) ∧ (∀ i j, ∃ r : ℝ, d (ix2 i j) = (r : EReal)) ∧ ∀ j, ∃ r : ℝ, b (ix1 j) = (r : EReal) := by
  have h0 := congrFun h ix0
  unfold Cert.Pre_finite.fn Host.reduce at h0
  obtain ⟨h01, h2⟩ := (Ref.andi_eq_one _ _).mp h0
  obtain ⟨h0, h1⟩ := (Ref.andi_eq_one _ _).mp h01
  refine ⟨fun i j => ?_, fun i j => ?_, fun j => ?_⟩
  · have h := ((Ref.foldl_andi _ _ _).mp h0).2 (S2048x768.rowMajor (ix2 i j))
      (List.mem_filter.mpr ⟨List.mem_finRange _, decide_eq_true (funext fun a => a.elim0)⟩)
    rw [Equiv.symm_apply_apply] at h
    exact real_of_bit _ h
  · have h := ((Ref.foldl_andi _ _ _).mp h1).2 (S2048x768.rowMajor (ix2 i j))
      (List.mem_filter.mpr ⟨List.mem_finRange _, decide_eq_true (funext fun a => a.elim0)⟩)
    rw [Equiv.symm_apply_apply] at h
    exact real_of_bit _ h
  · have h := ((Ref.foldl_andi _ _ _).mp h2).2 (S768.rowMajor (ix1 j))
      (List.mem_filter.mpr ⟨List.mem_finRange _, decide_eq_true (funext fun a => a.elim0)⟩)
    rw [Equiv.symm_apply_apply] at h
    exact real_of_bit _ h

end Cert.Proof.StatsRef
-- ==== Proof.SelectSort.lean ====
/-
  The stable sort that a greatest-first selection is stated by, and the rounds that take one greatest entry after another.
-/
module

public import Idealize.ShloMosaic.Lib.SortFacts
public import Idealize.ShloMosaic.PureOps.Ideal
public import Idealize.ShloMosaic.Lib.StableHlo.Predicate

@[expose] public section

noncomputable section

namespace Cert.Proof.SelectSort

open Idealize.ShloMosaic

variable {n : Nat} (x : Fin n → EReal)

/-- One entry is greater than another, as the selection asks it. -/
def greater (a b : Fin n) : Bool := FloatOps.cmpfTotal (F := Ideal) (φ := .f32) .gt (x a) (x b) == 1#1

/-- Greater, or equal and earlier. -/
def ahead (a b : Fin n) : Bool := decide (x b < x a ∨ x b = x a ∧ a < b)

/-- The selection's comparison is the order of the extended reals. -/
theorem greater_eq (a b : Fin n) : greater x a b = decide (x b < x a) := by
  unfold greater
  rw [Bool.eq_iff_iff, beq_iff_eq, decide_eq_true_eq]
  show Ideal.cmp .ogt (x a) (x b) = 1#1 ↔ x b < x a
  simp [Ideal.cmp, StableHlo.Predicate.ofBool_eq_one_iff]

/-- Inserting only ever compares the later places with the one inserted, so among later places `ahead` inserts as `greater`. -/
theorem stableSort_greater : ∀ l : List (Fin n), l.Pairwise (· < ·) → stableSort (greater x) l = stableSort (ahead x) l
  | [], _ => rfl
  | a :: l, h => by
    have ih := stableSort_greater l (List.Pairwise.of_cons h)
    show insertBefore _ a (stableSort _ l) = insertBefore _ a (stableSort _ l)
    rw [ih]
    refine insertBefore_congr _ _ a _ fun b hb => ?_
    have hab : a < b := List.rel_of_pairwise_cons h ((perm_stableSort _ l).mem_iff.mp hb)
    rw [greater_eq]
    unfold ahead
    rw [Bool.eq_iff_iff, decide_eq_true_eq, decide_eq_true_eq]
    constructor
    · exact Or.inl
    · rintro (h1 | ⟨_, h2⟩)
      · exact h1
      · exact absurd h2 (not_lt_of_gt hab)

/-- The place of the entry that comes at a given rank. -/
def place (k : Fin n) : Fin n := sortedFrom (greater x) k

/-- It is the place that a sort by `ahead` names. -/
theorem place_eq (k : Fin n) : place x k = sortedFrom (ahead x) k := by
  unfold place sortedFrom
  have h : sortPositions n (greater x) = sortPositions n (ahead x) := stableSort_greater x _ (List.pairwise_lt_finRange n)
  rw [List.get_of_eq h]
  rfl

/-- Every place has a rank. -/
theorem place_surjective : Function.Surjective (place x) := sortedFrom_surjective _

/-- No two ranks share a place. -/
theorem place_injective : Function.Injective (place x) := sortedFrom_injective _

/-- A later rank's entry is no greater, and comes later where it is equal. -/
theorem place_sorted (i j : Fin n) (h : i < j) : x (place x j) ≤ x (place x i) ∧ (x (place x j) = x (place x i) → place x i < place x j) := by
  have hb := sortedFrom_noInversion (ahead x) (ahead x)
    (fun a b h => by
      unfold ahead at h ⊢
      rw [decide_eq_true_eq] at h
      rw [decide_eq_false_iff_not]
      rcases h with h | ⟨h, h'⟩
      · rintro (g | ⟨g, _⟩)
        · exact absurd g (not_lt_of_gt h)
        · exact absurd g (ne_of_gt h)
      · rintro (g | ⟨_, g⟩)
        · exact absurd h (ne_of_gt g)
        · exact absurd g (not_lt_of_gt h'))
    (fun a b h => h)
    (fun a b c hab hbc => by
      unfold ahead at *
      rw [decide_eq_false_iff_not] at *
      push Not at *
      refine ⟨hab.1.trans hbc.1, fun h => ?_⟩
      have e1 : x b = x a := le_antisymm (h ▸ hbc.1) hab.1
      have e2 : x c = x b := h.trans e1.symm
      exact (hbc.2 e2).trans (hab.2 e1)) i j h
  rw [← place_eq, ← place_eq] at hb
  unfold ahead at hb
  rw [decide_eq_false_iff_not] at hb
  push Not at hb
  refine ⟨hb.1, fun e => lt_of_le_of_ne (hb.2 e.symm) fun g => absurd (place_injective x g) (ne_of_lt h)⟩

/-! ## The rounds -/

/-- What is left of a row once the entries of the first `k` ranks are taken out of it. -/
def left (k : Nat) (j : Fin n) : EReal := open Classical in if ∃ i : Fin n, i.val < k ∧ place x i = j then ⊥ else x j

/-- At first the whole row is left. -/
theorem left_zero : left x 0 = x := by
  funext j
  unfold left
  rw [if_neg]
  rintro ⟨i, h, _⟩
  exact absurd h (Nat.not_lt_zero _)

/-- The entry of a rank not yet taken is still there. -/
theorem left_place (k : Nat) (i : Fin n) (h : k ≤ i.val) : left x k (place x i) = x (place x i) := by
  unfold left
  rw [if_neg]
  rintro ⟨i', h', e⟩
  rw [place_injective x e] at h'
  omega

/-- The entry of a rank already taken is gone. -/
theorem left_taken (k : Nat) (i : Fin n) (h : i.val < k) : left x k (place x i) = ⊥ := by
  unfold left
  rw [if_pos ⟨i, h, rfl⟩]

/-- The next rank's entry is the greatest of those left. -/
theorem left_le (k : Fin n) (j : Fin n) : left x k.val j ≤ x (place x k) := by
  obtain ⟨i, rfl⟩ := place_surjective x j
  rcases lt_trichotomy i k with h | rfl | h
  · rw [left_taken x _ i h]; exact bot_le
  · rw [left_place x _ i (le_refl _)]
  · rw [left_place x _ i (le_of_lt h)]; exact (place_sorted x k i h).1

/-- Of the greatest entries left, its place is the first. -/
theorem left_first (hx : ∀ j, ⊥ < x j) (k : Fin n) (j : Fin n) (h : left x k.val j = x (place x k)) : place x k ≤ j := by
  obtain ⟨i, rfl⟩ := place_surjective x j
  rcases lt_trichotomy i k with h' | rfl | h'
  · rw [left_taken x _ i h'] at h; exact absurd h (ne_of_lt (hx _))
  · exact le_refl _
  · rw [left_place x _ i (le_of_lt h')] at h; exact le_of_lt ((place_sorted x k i h').2 h)

/-- Taking the next rank's entry out leaves what is left after it. -/
theorem left_succ (k : Fin n) (j : Fin n) : left x (k.val + 1) j = if j = place x k then ⊥ else left x k.val j := by
  by_cases h : j = place x k
  · rw [if_pos h, h, left_taken x _ k (Nat.lt_succ_self _)]
  · rw [if_neg h]
    obtain ⟨i, rfl⟩ := place_surjective x j
    have hne : i ≠ k := fun e => h (e ▸ rfl)
    by_cases hi : i.val < k.val
    · rw [left_taken x _ i hi, left_taken x _ i (Nat.lt_succ_of_lt hi)]
    · have : i.val ≠ k.val := fun e => hne (Fin.ext e)
      rw [left_place x _ i (by omega), left_place x _ i (by omega)]

attribute [irreducible] place left

end Cert.Proof.SelectSort

end
-- ==== Proof.SelectRound.lean ====
/-
  One round of the selection kernel on a block of rows: the rows' greatest entries, the first place each stands at, the feature
  recorded there, and the block with that place taken out.
-/
module

public import proofs.«01_k».proof.Proof.Gen.SelectIdeal.Value
public import proofs.«01_k».proof.Proof.SelectSort
public import Idealize.ShloMosaic.Lib.Pointwise

@[expose] public section

noncomputable section

namespace Cert.Proof.Select

open Cert.SelectIdeal Cert.SelectIdeal.Gen Cert.SelectIdeal.Value Idealize.ShloMosaic Idealize.ShloMosaic.TcCoe
open Idealize.SL.Sem

section
variable {F : FTy → Type} [FloatOps F]

/-- Every entry's place in its row. -/
def places : IVec S256x768 32 := iota .tc S256x768 32 [1] iota_S256x768_d1_w32

/-- Each row's greatest entry. -/
def tops (v : FVec F S256x768 .f32) : FVec F S256x1 .f32 :=
  shapeCast S256x1 (multiReduction .maximumf [1] S256 v 0xFF800000#32 reduces_S256x768_S256 (.inl rfl) rfl) shapeCasts_S256_S256x1

/-- The first place at which each row's greatest entry stands. -/
def firsts (v : FVec F S256x768 .f32) : IVec S256x1 32 :=
  shapeCast S256x1 (multiReductionI .minsi [1] S256
    (select (cmpf .oeq v (broadcastTo S256x768 (tops v) broadcasts_S256x1_S256x768)) places (broadcast S256x768 768#32))
    2147483647#32 reduces_S256x768_S256 rfl) shapeCasts_S256_S256x1

/-- Which entries stand there. -/
def chosen (v : FVec F S256x768 .f32) : IVec S256x768 1 :=
  cmpi .eq places (broadcastTo S256x768 (firsts v) broadcasts_S256x1_S256x768)

/-- The features recorded there. -/
def named (f : IVec S256x768 32) (v : FVec F S256x768 .f32) : IVec S256x1 32 :=
  shapeCast S256x1 (multiReductionI .add [1] S256 (select (chosen v) f (broadcast S256x768 0#32)) 0#32 reduces_S256x768_S256 rfl) shapeCasts_S256_S256x1

/-- The block with those entries taken out. -/
def without (v : FVec F S256x768 .f32) : FVec F S256x768 .f32 :=
  select (chosen v) (broadcast S256x768 (Scalar.ofBits .f32 0xFF800000#32)) v

/-- The block after a number of rounds. -/
def after (v : FVec F S256x768 .f32) : Nat → FVec F S256x768 .f32
  | 0 => v
  | k + 1 => without (after v k)

end

/-! ## A round, row by row -/

/-- The signed minimum of two words, read signed, is the lesser of the two. -/
theorem toInt_minsi (a b : BitVec 32) : (IntOp.minsi a b).toInt = min a.toInt b.toInt := by
  unfold IntOp.minsi
  rw [BitVec.slt_eq_decide]
  by_cases h : a.toInt < b.toInt
  · simp [h, le_of_lt h]
  · simp [h, not_lt.mp h]

/-- The place of an entry in its row. -/
theorem places_at (r : Fin 256) (j : Fin 768) : places (ix2 r j) = BitVec.ofNat 32 j.val := iota_single_apply ..

/-- A place in a row as a word, read signed. -/
theorem toInt_place (j : Fin 768) : (BitVec.ofNat 32 j.val).toInt = j.val := by
  have := j.isLt
  rw [BitVec.toInt_eq_toNat_cond, BitVec.toNat_ofNat, Nat.mod_eq_of_lt (by omega)]
  split <;> omega

/-- Two places in a row are the same word only if they are the same place. -/
theorem place_inj (i j : Fin 768) (h : BitVec.ofNat 32 i.val = BitVec.ofNat 32 j.val) : i = j := by
  have := congrArg BitVec.toInt h
  rw [toInt_place, toInt_place] at this
  exact Fin.ext (by exact_mod_cast this)

/-- The word for minus infinity. -/
theorem word_bot : Ideal.ofBits .f32 0xFF800000#32 = ⊥ := by simp [Ideal.ofBits, Ideal.ieee]

/-- A column spread over a block's rows. -/
theorem spread_eq {α : Type} (m : S256x1.Idx → α) : broadcastTo S256x768 m broadcasts_S256x1_S256x768 = fun i : S256x768.Idx => m (ix2 (i 0) 0) := by
  funext i
  obtain ⟨r, j, rfl⟩ : ∃ (r : Fin 256) (j : Fin 768), i = ix2 r j := ⟨i 0, i 1, eq_ix2 i⟩
  simp only [pointwise]
  rfl

variable (v : FVec Ideal S256x768 .f32) (f : IVec S256x768 32) (r : Fin 256) (x : Fin 768 → EReal) (hx : ∀ j, ⊥ < x j) (k : Fin 768)
  (hv : ∀ j, v (ix2 r j) = SelectSort.left x k.val j)

include hv in
/-- A row's greatest entry is the one of the round's rank. -/
theorem tops_at : tops v (ix2 r 0) = x (SelectSort.place x k) := by
  unfold tops
  simp only [pointwise]
  simp only [hv]
  apply le_antisymm
  · rw [Finset.fold_max_le]
    exact ⟨by rw [word_bot]; exact bot_le, fun j _ => SelectSort.left_le x k j⟩
  · rw [Finset.le_fold_max]
    exact Or.inr ⟨SelectSort.place x k, Finset.mem_univ _, (SelectSort.left_place x _ k (le_refl _)).ge⟩

include hv hx in
/-- The first place it stands at is its place in the order. -/
theorem firsts_at : firsts v (ix2 r 0) = BitVec.ofNat 32 (SelectSort.place x k).val := by
  unfold firsts
  rw [spread_eq]
  simp only [pointwise]
  have ht : tops v (ix2 r 0) = x (SelectSort.place x k) := tops_at v r x k hv
  simp only [ht, hv, places_at]
  apply BitVec.eq_of_toInt_eq
  rw [← Finset.fold_hom (op' := (min : Int → Int → Int)) (m := BitVec.toInt) toInt_minsi]
  rw [toInt_place]
  apply le_antisymm
  · rw [Finset.fold_min_le]
    refine Or.inr ⟨SelectSort.place x k, Finset.mem_univ _, ?_⟩
    rw [if_pos (SelectSort.left_place x _ k (le_refl _)), toInt_place]
  · rw [Finset.le_fold_min]
    have hk := (SelectSort.place x k).isLt
    refine ⟨by rw [show (2147483647#32 : BitVec 32).toInt = 2147483647 from by decide]; omega, fun j _ => ?_⟩
    split
    · next h =>
      have := SelectSort.left_first x hx k j h
      rw [toInt_place]
      exact_mod_cast this
    · rw [show (768#32 : BitVec 32).toInt = 768 from by decide]; omega

include hv hx in
/-- The entry chosen in a row is the one at that place. -/
theorem chosen_at (j : Fin 768) : chosen v (ix2 r j) = if j = SelectSort.place x k then 1#1 else 0#1 := by
  unfold chosen
  rw [spread_eq]
  show IntOp.cmpi .eq (places (ix2 r j)) (firsts v (ix2 r 0)) = _
  rw [firsts_at v r x hx k hv, places_at]
  by_cases h : j = SelectSort.place x k
  · rw [if_pos h, h]; simp [IntOp.cmpi]
  · rw [if_neg h]
    have : ¬ BitVec.ofNat 32 j.val = BitVec.ofNat 32 (SelectSort.place x k).val := fun e => h (place_inj _ _ e)
    show BitVec.ofBool (BitVec.ofNat 32 j.val == BitVec.ofNat 32 (SelectSort.place x k).val) = 0#1
    rw [beq_eq_false_iff_ne.mpr this]; rfl

include hv hx in
/-- The feature named for a row is the one recorded at that place. -/
theorem named_at : named f v (ix2 r 0) = f (ix2 r (SelectSort.place x k)) := by
  unfold named
  simp only [pointwise]
  simp only [chosen_at v r x hx k hv]
  have h : ∀ (s : Finset (Fin 768)), s.fold IntOp.addi 0#32 (fun j => Scalar.select (if j = SelectSort.place x k then 1#1 else 0#1) (f (ix2 r j)) 0#32)
      = if SelectSort.place x k ∈ s then f (ix2 r (SelectSort.place x k)) else 0#32 := by
    intro s
    induction s using Finset.cons_induction with
    | empty => simp
    | cons a s ha ih =>
      rw [Finset.fold_cons, ih]
      by_cases e : a = SelectSort.place x k
      · rw [if_pos e, if_neg (e ▸ ha), if_pos (Finset.mem_cons.mpr (Or.inl e.symm)), e]
        exact BitVec.add_zero _
      · have e' : SelectSort.place x k ∈ Finset.cons a s ha ↔ SelectSort.place x k ∈ s := by
          rw [Finset.mem_cons]
          exact or_iff_right fun h => e h.symm
        rw [if_neg e]
        simp only [e']
        exact BitVec.zero_add _
  rw [h, if_pos (Finset.mem_univ _)]

include hv hx in
/-- What is left of a row after the round is what is left of it after the round's rank. -/
theorem without_at (j : Fin 768) : without v (ix2 r j) = SelectSort.left x (k.val + 1) j := by
  unfold without
  simp only [pointwise]
  rw [chosen_at v r x hx k hv, SelectSort.left_succ, hv]
  rw [word_bot]
  by_cases h : j = SelectSort.place x k
  · rw [if_pos h, if_pos h]; rfl
  · rw [if_neg h, if_neg h]; rfl

end Cert.Proof.Select

end
-- ==== Proof.SelectValue.lean ====
/-
  The selection kernel's two results: column by column what a grid point leaves in its blocks, then entry by entry the arrays.
-/
module

public import proofs.«01_k».proof.Proof.SelectRound

@[expose] public section

noncomputable section

namespace Cert.Proof.Select

open Cert.SelectIdeal Cert.SelectIdeal.Gen Cert.SelectIdeal.Value Idealize.ShloMosaic Idealize.ShloMosaic.TcCoe
open Idealize.SL.Sem

/-! ## What a grid point leaves -/

/-- A block's origin is zero in both coordinates. -/
theorem origin : (![0, 0] : Fin 2 → Nat) = fun _ => 0 := funext fun a => by fin_cases a <;> rfl

section
variable {F : FTy → Type} [FloatOps F] (x0 : Vec F S256x768 .f32) (x1 : Vec F S256x768 .i32)

/-- A window of the body hands the next one the block after `n` rounds, and the entries the round after those chooses. -/
def Hands (v : FVec F S256x768 .f32) (b : IVec S256x768 1) (n : Nat) : Prop := v = after x0 n ∧ b = chosen (after x0 n)

/-- The first window's two rounds: one done, one chosen. -/
theorem hands1 : Hands x0 (k0_pay144 x0 x1) (k0_pay145 x0 x1) 1 := by
  unfold Hands k0_pay144 k0_pay145
  rw [View.ld_unit_zero origin]
  exact ⟨rfl, rfl⟩

/-- A window's two rounds: 3 done, one chosen. -/
theorem hands3 : Hands x0 (k0_pay146 x0 x1) (k0_pay147 x0 x1) 3 := by
  unfold Hands k0_pay146 k0_pay147
  rw [(hands1 x0 x1).1, (hands1 x0 x1).2]
  exact ⟨rfl, rfl⟩

/-- A window's two rounds: 5 done, one chosen. -/
theorem hands5 : Hands x0 (k0_pay148 x0 x1) (k0_pay149 x0 x1) 5 := by
  unfold Hands k0_pay148 k0_pay149
  rw [(hands3 x0 x1).1, (hands3 x0 x1).2]
  exact ⟨rfl, rfl⟩

/-- A window's two rounds: 7 done, one chosen. -/
theorem hands7 : Hands x0 (k0_pay150 x0 x1) (k0_pay151 x0 x1) 7 := by
  unfold Hands k0_pay150 k0_pay151
  rw [(hands5 x0 x1).1, (hands5 x0 x1).2]
  exact ⟨rfl, rfl⟩

/-- A window's two rounds: 9 done, one chosen. -/
theorem hands9 : Hands x0 (k0_pay152 x0 x1) (k0_pay153 x0 x1) 9 := by
  unfold Hands k0_pay152 k0_pay153
  rw [(hands7 x0 x1).1, (hands7 x0 x1).2]
  exact ⟨rfl, rfl⟩

/-- A window's two rounds: 11 done, one chosen. -/
theorem hands11 : Hands x0 (k0_pay154 x0 x1) (k0_pay155 x0 x1) 11 := by
  unfold Hands k0_pay154 k0_pay155
  rw [(hands9 x0 x1).1, (hands9 x0 x1).2]
  exact ⟨rfl, rfl⟩

/-- A window's two rounds: 13 done, one chosen. -/
theorem hands13 : Hands x0 (k0_pay156 x0 x1) (k0_pay157 x0 x1) 13 := by
  unfold Hands k0_pay156 k0_pay157
  rw [(hands11 x0 x1).1, (hands11 x0 x1).2]
  exact ⟨rfl, rfl⟩

/-- A window's two rounds: 15 done, one chosen. -/
theorem hands15 : Hands x0 (k0_pay158 x0 x1) (k0_pay159 x0 x1) 15 := by
  unfold Hands k0_pay158 k0_pay159
  rw [(hands13 x0 x1).1, (hands13 x0 x1).2]
  exact ⟨rfl, rfl⟩

/-- A window's two rounds: 17 done, one chosen. -/
theorem hands17 : Hands x0 (k0_pay160 x0 x1) (k0_pay161 x0 x1) 17 := by
  unfold Hands k0_pay160 k0_pay161
  rw [(hands15 x0 x1).1, (hands15 x0 x1).2]
  exact ⟨rfl, rfl⟩

/-- A window's two rounds: 19 done, one chosen. -/
theorem hands19 : Hands x0 (k0_pay162 x0 x1) (k0_pay163 x0 x1) 19 := by
  unfold Hands k0_pay162 k0_pay163
  rw [(hands17 x0 x1).1, (hands17 x0 x1).2]
  exact ⟨rfl, rfl⟩

/-- A window's two rounds: 21 done, one chosen. -/
theorem hands21 : Hands x0 (k0_pay164 x0 x1) (k0_pay165 x0 x1) 21 := by
  unfold Hands k0_pay164 k0_pay165
  rw [(hands19 x0 x1).1, (hands19 x0 x1).2]
  exact ⟨rfl, rfl⟩

/-- A window's two rounds: 23 done, one chosen. -/
theorem hands23 : Hands x0 (k0_pay166 x0 x1) (k0_pay167 x0 x1) 23 := by
  unfold Hands k0_pay166 k0_pay167
  rw [(hands21 x0 x1).1, (hands21 x0 x1).2]
  exact ⟨rfl, rfl⟩

/-- A window's two rounds: 25 done, one chosen. -/
theorem hands25 : Hands x0 (k0_pay168 x0 x1) (k0_pay169 x0 x1) 25 := by
  unfold Hands k0_pay168 k0_pay169
  rw [(hands23 x0 x1).1, (hands23 x0 x1).2]
  exact ⟨rfl, rfl⟩

/-- A window's two rounds: 27 done, one chosen. -/
theorem hands27 : Hands x0 (k0_pay170 x0 x1) (k0_pay171 x0 x1) 27 := by
  unfold Hands k0_pay170 k0_pay171
  rw [(hands25 x0 x1).1, (hands25 x0 x1).2]
  exact ⟨rfl, rfl⟩

/-- A window's two rounds: 29 done, one chosen. -/
theorem hands29 : Hands x0 (k0_pay172 x0 x1) (k0_pay173 x0 x1) 29 := by
  unfold Hands k0_pay172 k0_pay173
  rw [(hands27 x0 x1).1, (hands27 x0 x1).2]
  exact ⟨rfl, rfl⟩

/-- Column `k` of the first block is the greatest entries left after `k` rounds. -/
theorem block2 : out0_2 x0 x1 = View.canon [⟨r0_32, tops (after x0 31)⟩, ⟨r0_31, tops (after x0 30)⟩, ⟨r0_30, tops (after x0 29)⟩, ⟨r0_29, tops (after x0 28)⟩, ⟨r0_28, tops (after x0 27)⟩, ⟨r0_27, tops (after x0 26)⟩, ⟨r0_26, tops (after x0 25)⟩, ⟨r0_25, tops (after x0 24)⟩, ⟨r0_24, tops (after x0 23)⟩, ⟨r0_23, tops (after x0 22)⟩, ⟨r0_22, tops (after x0 21)⟩, ⟨r0_21, tops (after x0 20)⟩, ⟨r0_20, tops (after x0 19)⟩, ⟨r0_19, tops (after x0 18)⟩, ⟨r0_18, tops (after x0 17)⟩, ⟨r0_17, tops (after x0 16)⟩, ⟨r0_16, tops (after x0 15)⟩, ⟨r0_15, tops (after x0 14)⟩, ⟨r0_14, tops (after x0 13)⟩, ⟨r0_13, tops (after x0 12)⟩, ⟨r0_12, tops (after x0 11)⟩, ⟨r0_11, tops (after x0 10)⟩, ⟨r0_10, tops (after x0 9)⟩, ⟨r0_9, tops (after x0 8)⟩, ⟨r0_8, tops (after x0 7)⟩, ⟨r0_7, tops (after x0 6)⟩, ⟨r0_6, tops (after x0 5)⟩, ⟨r0_5, tops (after x0 4)⟩, ⟨r0_4, tops (after x0 3)⟩, ⟨r0_3, tops (after x0 2)⟩, ⟨r0_2, tops (after x0 1)⟩, ⟨r0_1, tops (after x0 0)⟩] := by
  unfold out0_2
  simp only [View.ld_unit_zero (S := S256x768) origin, (hands1 x0 x1).1, (hands1 x0 x1).2, (hands3 x0 x1).1, (hands3 x0 x1).2, (hands5 x0 x1).1, (hands5 x0 x1).2, (hands7 x0 x1).1, (hands7 x0 x1).2, (hands9 x0 x1).1, (hands9 x0 x1).2, (hands11 x0 x1).1, (hands11 x0 x1).2, (hands13 x0 x1).1, (hands13 x0 x1).2, (hands15 x0 x1).1, (hands15 x0 x1).2, (hands17 x0 x1).1, (hands17 x0 x1).2, (hands19 x0 x1).1, (hands19 x0 x1).2, (hands21 x0 x1).1, (hands21 x0 x1).2, (hands23 x0 x1).1, (hands23 x0 x1).2, (hands25 x0 x1).1, (hands25 x0 x1).2, (hands27 x0 x1).1, (hands27 x0 x1).2, (hands29 x0 x1).1, (hands29 x0 x1).2]
  rfl

/-- Column `k` of the second block is the features named after `k` rounds. -/
theorem block3 : out0_3 x0 x1 = View.canon [⟨r0_32, named x1 (after x0 31)⟩, ⟨r0_31, named x1 (after x0 30)⟩, ⟨r0_30, named x1 (after x0 29)⟩, ⟨r0_29, named x1 (after x0 28)⟩, ⟨r0_28, named x1 (after x0 27)⟩, ⟨r0_27, named x1 (after x0 26)⟩, ⟨r0_26, named x1 (after x0 25)⟩, ⟨r0_25, named x1 (after x0 24)⟩, ⟨r0_24, named x1 (after x0 23)⟩, ⟨r0_23, named x1 (after x0 22)⟩, ⟨r0_22, named x1 (after x0 21)⟩, ⟨r0_21, named x1 (after x0 20)⟩, ⟨r0_20, named x1 (after x0 19)⟩, ⟨r0_19, named x1 (after x0 18)⟩, ⟨r0_18, named x1 (after x0 17)⟩, ⟨r0_17, named x1 (after x0 16)⟩, ⟨r0_16, named x1 (after x0 15)⟩, ⟨r0_15, named x1 (after x0 14)⟩, ⟨r0_14, named x1 (after x0 13)⟩, ⟨r0_13, named x1 (after x0 12)⟩, ⟨r0_12, named x1 (after x0 11)⟩, ⟨r0_11, named x1 (after x0 10)⟩, ⟨r0_10, named x1 (after x0 9)⟩, ⟨r0_9, named x1 (after x0 8)⟩, ⟨r0_8, named x1 (after x0 7)⟩, ⟨r0_7, named x1 (after x0 6)⟩, ⟨r0_6, named x1 (after x0 5)⟩, ⟨r0_5, named x1 (after x0 4)⟩, ⟨r0_4, named x1 (after x0 3)⟩, ⟨r0_3, named x1 (after x0 2)⟩, ⟨r0_2, named x1 (after x0 1)⟩, ⟨r0_1, named x1 (after x0 0)⟩] := by
  unfold out0_3
  simp only [View.ld_unit_zero (S := S256x768) origin, (hands1 x0 x1).1, (hands1 x0 x1).2, (hands3 x0 x1).1, (hands3 x0 x1).2, (hands5 x0 x1).1, (hands5 x0 x1).2, (hands7 x0 x1).1, (hands7 x0 x1).2, (hands9 x0 x1).1, (hands9 x0 x1).2, (hands11 x0 x1).1, (hands11 x0 x1).2, (hands13 x0 x1).1, (hands13 x0 x1).2, (hands15 x0 x1).1, (hands15 x0 x1).2, (hands17 x0 x1).1, (hands17 x0 x1).2, (hands19 x0 x1).1, (hands19 x0 x1).2, (hands21 x0 x1).1, (hands21 x0 x1).2, (hands23 x0 x1).1, (hands23 x0 x1).2, (hands25 x0 x1).1, (hands25 x0 x1).2, (hands27 x0 x1).1, (hands27 x0 x1).2, (hands29 x0 x1).1, (hands29 x0 x1).2]
  rfl

/-- One column stored into a block, as the block's entries see it. -/
theorem column {α : Type} (T : Nat → S256x1.Idx → α) (k : Nat) (inb : ∀ a, (![0, k] : Fin 2 → Nat) a + S256x1.size a ≤ S256x32.size a) (y : S256x1.Idx) :
    T k y = (fun z : S256x32.Idx => T (z 1).val (ix2 (z 0) 0)) ((Rect.unit (s := S256x32) ![0, k] S256x1.size inb).emb y) := by
  obtain ⟨r, e, rfl⟩ : ∃ (r : Fin 256) (e : Fin 1), y = ix2 r e := ⟨y 0, y 1, eq_ix2 y⟩
  rw [Subsingleton.elim e 0]
  exact congrArg (fun q : Fin 256 => T k (ix2 q 0)) (Fin.ext (show r.val = 0 + 1 * r.val by omega))

/-- An entry of the first block. -/
theorem block2_at (r : Fin 256) (k : Fin 32) : out0_2 (F := F) x0 x1 (ix2 r k) = tops (F := F) (after (F := F) x0 k.val) (ix2 r 0) := by
  rw [block2]
  refine View.canon_apply_of_pieces (fun z : S256x32.Idx => tops (F := F) (after (F := F) x0 (z 1).val) (ix2 (z 0) 0)) _ ?_ (ix2 r k)
    (cover0_2 (F := F) _ _ _ _ _ _ _ _ _ _ _ _ _ _ _ _ _ _ _ _ _ _ _ _ _ _ _ _ _ _ _ _ (ix2 r k))
  simp only [List.forall_mem_cons]
  repeat' apply And.intro
  all_goals first
    | exact column (fun n => tops (F := F) (after (F := F) x0 n)) _ _
    | exact fun p hp => absurd hp List.not_mem_nil

/-- An entry of the second block. -/
theorem block3_at (r : Fin 256) (k : Fin 32) : out0_3 (F := F) x0 x1 (ix2 r k) = named (F := F) x1 (after (F := F) x0 k.val) (ix2 r 0) := by
  rw [block3]
  refine View.canon_apply_of_pieces (fun z : S256x32.Idx => named (F := F) x1 (after (F := F) x0 (z 1).val) (ix2 (z 0) 0)) _ ?_ (ix2 r k)
    (cover0_3 (F := F) _ _ _ _ _ _ _ _ _ _ _ _ _ _ _ _ _ _ _ _ _ _ _ _ _ _ _ _ _ _ _ _ (ix2 r k))
  simp only [List.forall_mem_cons]
  repeat' apply And.intro
  all_goals first
    | exact column (fun n => named (F := F) x1 (after (F := F) x0 n)) _ _
    | exact fun p hp => absurd hp List.not_mem_nil

end

/-! ## The arrays -/

variable (m : (ℓ : Loc nD τ sig) → Buf (Elt Ideal) ℓ) (c : Dev nD)

/-- The bins' maxima and the features they were found at, as launched. -/
def argM : S2048x768.Idx → EReal := m ((c : Thread nD τ).loc main_arg0)
def argF : S2048x768.Idx → BitVec 32 := m ((c : Thread nD τ).loc main_arg1)

/-- A token's bins. -/
def bins (b : Fin 2048) (j : Fin 768) : EReal := argM m c (ix2 b j)

/-- The bin that comes at a rank among a token's. -/
def bin (b : Fin 2048) (k : Fin 32) : Fin 768 := SelectSort.place (bins m c b) ⟨k.val, by omega⟩

/-- The greatest bins' values, in order. -/
def weights : Buf (Elt Ideal) ((c : Thread nD τ).loc main_v0_0) := fun i : S2048x32.Idx => bins m c (i 0) (bin m c (i 0) (i 1))

/-- The features recorded for them. -/
def features : Buf (Elt Ideal) ((c : Thread nD τ).loc main_v0_1) := fun i : S2048x32.Idx => argF m c (ix2 (i 0) (bin m c (i 0) (i 1)))

/-- A point's row of the whole array. -/
def rowOf (t : Fin cfg0.N) (r : Fin 256) : Fin 2048 :=
  ⟨256 * t.val + r.val, by have := lt_of_lt_of_eq t.isLt (show cfg0.N = 8 from N_0); omega⟩

/-- The point that has a row of the whole array. -/
def pointOf (b : Fin 2048) : Fin cfg0.N := ⟨b.val / 256, lt_of_lt_of_eq (by omega) (show 8 = cfg0.N from N_0.symm)⟩

/-- Point `t` takes block `t` of each array, and leaves block `t` of each result. -/
theorem index_eq : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

/-- The block of maxima a point reads. -/
theorem blk_m (t : Fin cfg0.N) (r : Fin 256) (j : Fin 768) : iblk m c 0 t (ix2 r j) = argM m c (ix2 (rowOf t r) j) := by
  unfold iblk
  rw [View.read_apply]
  show V m c main_arg0 _ = _
  rw [V_main_arg0]
  show m _ _ = m _ _
  congr 1
  funext a
  apply Fin.ext
  match a with
  | ⟨0, _⟩ => show win0_0.index t 0 * 256 + 1 * r.val = 256 * t.val + r.val; rw [(index_eq t).1.1]; omega
  | ⟨1, _⟩ => show win0_0.index t 1 * 768 + 1 * j.val = j.val; rw [(index_eq t).1.2]; omega

/-- The block of features a point reads. -/
theorem blk_f (t : Fin cfg0.N) (r : Fin 256) (j : Fin 768) : iblk m c 1 t (ix2 r j) = argF m c (ix2 (rowOf t r) j) := by
  unfold iblk
  rw [View.read_apply]
  show V m c main_arg1 _ = _
  rw [V_main_arg1]
  show m _ _ = m _ _
  congr 1
  funext a
  apply Fin.ext
  match a with
  | ⟨0, _⟩ => show win0_1.index t 0 * 256 + 1 * r.val = 256 * t.val + r.val; rw [(index_eq t).2.1.1]; omega
  | ⟨1, _⟩ => show win0_1.index t 1 * 768 + 1 * j.val = j.val; rw [(index_eq t).2.1.2]; omega

section
variable (hm : ∀ i j, ⊥ < argM m c (ix2 i j))
include hm

/-- After `k` rounds a row of a point's block is what is left of the token's bins after the `k` greatest. -/
theorem after_at (t : Fin cfg0.N) (r : Fin 256) : ∀ (k : Nat), k ≤ 32 → ∀ j : Fin 768,
    after (F := Ideal) (iblk m c 0 t) k (ix2 r j) = SelectSort.left (bins m c (rowOf t r)) k j
  | 0, _, j => by
    rw [SelectSort.left_zero]
    exact blk_m m c t r j
  | k + 1, h, j => without_at (after (iblk m c 0 t) k) r (bins m c (rowOf t r)) (hm (rowOf t r)) ⟨k, by omega⟩ (after_at t r k (by omega)) j

/-- What a point writes to the first result. -/
theorem weights_at (t : Fin cfg0.N) (r : Fin 256) (k : Fin 32) :
    out0_2 (iblk m c 0 t) (iblk m c 1 t) (ix2 r k) = weights m c (ix2 (rowOf t r) k) := by
  rw [block2_at]
  exact tops_at (after (iblk m c 0 t) k.val) r (bins m c (rowOf t r)) ⟨k.val, by omega⟩ (after_at m c hm t r k.val (by omega))

/-- What a point writes to the second result. -/
theorem features_at (t : Fin cfg0.N) (r : Fin 256) (k : Fin 32) :
    out0_3 (iblk m c 0 t) (iblk m c 1 t) (ix2 r k) = features m c (ix2 (rowOf t r) k) := by
  rw [block3_at, named_at _ _ r (bins m c (rowOf t r)) (hm (rowOf t r)) ⟨k.val, by omega⟩ (after_at m c hm t r k.val (by omega)), blk_f]
  rfl

/-- The first result's array. -/
theorem final2 : (dats m 0 c).arrAt 2 cfg0.N = weights m c := by
  refine (dats m 0 c).arrAt_eq_of_cover 2 _ (fun t _ => ?_) fun i => ?_
  · rw [flushed2]
    funext y
    obtain ⟨r, k, rfl⟩ : ∃ (r : Fin 256) (k : Fin 32), y = (ix2 r k : S256x32.Idx) := ⟨y 0, y 1, eq_ix2 (n0 := 256) (n1 := 32) y⟩
    refine Eq.trans (weights_at m c hm t r k) ?_
    rw [View.read_apply]
    congr 1
    funext a
    apply Fin.ext
    match a with
    | ⟨0, _⟩ => show 256 * t.val + r.val = win0_2.index t 0 * 256 + 1 * r.val; rw [(index_eq t).2.2.1.1]; omega
    | ⟨1, _⟩ => show k.val = win0_2.index t 1 * 32 + 1 * k.val; rw [(index_eq t).2.2.1.2]; omega
  · obtain ⟨b, k, rfl⟩ : ∃ (b : Fin 2048) (k : Fin 32), i = (ix2 b k : S2048x32.Idx) := ⟨i 0, i 1, eq_ix2 (n0 := 2048) (n1 := 32) i⟩
    refine ⟨pointOf b, flush0_2 _, ?_⟩
    show ix2 b k ∈ ((View.whole main_v0_0).slice (win0_2.rect (pointOf b))).set
    rw [View.set_slice_whole, Rect.mem_set_unit]
    have e := (index_eq (pointOf b)).2.2.1
    intro a
    match a with
    | ⟨0, _⟩ => show win0_2.index (pointOf b) 0 * 256 ≤ b.val ∧ b.val < win0_2.index (pointOf b) 0 * 256 + 256; rw [e.1]; show b.val / 256 * 256 ≤ b.val ∧ b.val < b.val / 256 * 256 + 256; omega
    | ⟨1, _⟩ => show win0_2.index (pointOf b) 1 * 32 ≤ k.val ∧ k.val < win0_2.index (pointOf b) 1 * 32 + 32; rw [e.2]; omega

/-- The second result's array. -/
theorem final3 : (dats m 0 c).arrAt 3 cfg0.N = features m c := by
  refine (dats m 0 c).arrAt_eq_of_cover 3 _ (fun t _ => ?_) fun i => ?_
  · rw [flushed3]
    funext y
    obtain ⟨r, k, rfl⟩ : ∃ (r : Fin 256) (k : Fin 32), y = (ix2 r k : S256x32.Idx) := ⟨y 0, y 1, eq_ix2 (n0 := 256) (n1 := 32) y⟩
    refine Eq.trans (features_at m c hm t r k) ?_
    rw [View.read_apply]
    congr 1
    funext a
    apply Fin.ext
    match a with
    | ⟨0, _⟩ => show 256 * t.val + r.val = win0_3.index t 0 * 256 + 1 * r.val; rw [(index_eq t).2.2.2.1]; omega
    | ⟨1, _⟩ => show k.val = win0_3.index t 1 * 32 + 1 * k.val; rw [(index_eq t).2.2.2.2]; omega
  · obtain ⟨b, k, rfl⟩ : ∃ (b : Fin 2048) (k : Fin 32), i = (ix2 b k : S2048x32.Idx) := ⟨i 0, i 1, eq_ix2 (n0 := 2048) (n1 := 32) i⟩
    refine ⟨pointOf b, flush0_3 _, ?_⟩
    show ix2 b k ∈ ((View.whole main_v0_1).slice (win0_3.rect (pointOf b))).set
    rw [View.set_slice_whole, Rect.mem_set_unit]
    have e := (index_eq (pointOf b)).2.2.2
    intro a
    match a with
    | ⟨0, _⟩ => show win0_3.index (pointOf b) 0 * 256 ≤ b.val ∧ b.val < win0_3.index (pointOf b) 0 * 256 + 256; rw [e.1]; show b.val / 256 * 256 ≤ b.val ∧ b.val < b.val / 256 * 256 + 256; omega
    | ⟨1, _⟩ => show win0_3.index (pointOf b) 1 * 32 ≤ k.val ∧ k.val < win0_3.index (pointOf b) 1 * 32 + 32; rw [e.2]; omega

end

end Cert.Proof.Select

end
-- ==== Proof.SelectRef.lean ====
module

public import proofs.«01_k».proof.Proof.Gen.SelectReferenceIdeal.Run
public import proofs.«01_k».proof.Pre_above_floor
public import proofs.«01_k».proof.Proof.Ref
public import proofs.«01_k».proof.Proof.SelectSort
public import Idealize.ShloMosaic.Lib.Pointwise
public import Idealize.ShloMosaic.Lib.StableHlo.Predicate

/-! The selection reference's results, entry by entry: what comes at each rank of a token's bins, and the feature recorded
    for it. -/

@[expose] public section

noncomputable section

/-- The shape facts that the precondition takes. -/
instance Cert.Proof.SelectRef.facts : Cert.Pre_above_floor.Facts where
  bcast_S_S2048x768 := by decide
  reducesTo_S2048x768_S_d0_1 := by decide
  h_S_ := by decide

namespace Cert.Proof.SelectRef

open Cert.SelectReferenceIdeal Cert.SelectReferenceIdeal.Gen Idealize.ShloMosaic

/-- A comparison's bit, one when the entry is above minus infinity. -/
theorem above_of_bit (x : EReal) (h : Ideal.cmp .ogt x (Ideal.ofBits .f32 0xFF800000#32) = 1#1) : ⊥ < x := by
  rw [show Ideal.ofBits .f32 0xFF800000#32 = ⊥ from by simp [Ideal.ofBits, Ideal.ieee]] at h
  simpa [Ideal.cmp, StableHlo.Predicate.ofBool_eq_one_iff] using h

/-- The precondition says that every bin's maximum is above minus infinity. -/
theorem above_of_pre (x : FVec Ideal S2048x768 .f32) (f : IVec S2048x768 32) (h : Cert.Pre_above_floor.fn x f = fun _ => 1#1)
    (i : Fin 2048) (j : Fin 768) : (⊥ : EReal) < x (ix2 i j) := by
  have h0 := congrFun h ix0
  unfold Cert.Pre_above_floor.fn Host.reduce at h0
  have h := ((Ref.foldl_andi _ _ _).mp h0).2 (S2048x768.rowMajor (ix2 i j))
    (List.mem_filter.mpr ⟨List.mem_finRange _, decide_eq_true (funext fun a => a.elim0)⟩)
  rw [Equiv.symm_apply_apply] at h
  exact above_of_bit _ h

section
variable (x : FVec Ideal S2048x768 .f32) (b : Fin 2048) (k : Fin 32)

/-- The bin that comes at a rank among a token's. -/
def bin : Fin 768 := SelectSort.place (fun j => (x (ix2 b j) : EReal)) ⟨k.val, by omega⟩

/-- An entry's row, read at another place. -/
theorem along_eq (i j : Fin 768) : (ix2 b i : S2048x768.Idx).along 1 j = ix2 b j :=
  funext fun a => match a with | ⟨0, _⟩ => rfl | ⟨1, _⟩ => rfl

/-- A sort of each row with a second array carried along, read at an entry of both. -/
theorem sort_at {α β : Type} (gt : α → α → BitVec 1) (x : S2048x768.Idx → α) (y : S2048x768.Idx → β) (i : Fin 768) :
    (Host.sort2 S2048x768 1 (fun l r => gt l.1 r.1) x y).1 (ix2 b i) = x (ix2 b (sortedFrom (fun p q => gt (x (ix2 b p)) (x (ix2 b q)) == 1#1) i))
    ∧ (Host.sort2 S2048x768 1 (fun l r => gt l.1 r.1) x y).2 (ix2 b i) = y (ix2 b (sortedFrom (fun p q => gt (x (ix2 b p)) (x (ix2 b q)) == 1#1) i)) := by
  unfold Host.sort2
  rw [dif_pos (show 1 < S2048x768.rank by decide)]
  have e : (fun p q => gt (x ((ix2 b i : S2048x768.Idx).along 1 p)) (x ((ix2 b i : S2048x768.Idx).along 1 q)) == 1#1)
      = fun p q => gt (x (ix2 b p)) (x (ix2 b q)) == 1#1 :=
    funext fun p => funext fun q => congrArg₂ (fun u w => gt (x u) (x w) == 1#1) (along_eq b i p) (along_eq b i q)
  exact ⟨congrArg x ((along_eq b i _).trans (congrArg (fun g => ix2 b (sortedFrom g i)) e)),
    congrArg y ((along_eq b i _).trans (congrArg (fun g => ix2 b (sortedFrom g i)) e))⟩

/-- The head of each row, read at an entry. -/
theorem head_at {α : Type} (x : S2048x768.Idx → α) :
    extractStridedSlice S2048x32 (fun _ => 0) x sliceFits_S2048x768_S2048x32 (ix2 b k) = x (ix2 b ⟨k.val, by omega⟩) := by
  unfold extractStridedSlice
  congr 1
  funext a
  apply Fin.ext
  match a with
  | ⟨0, _⟩ => exact Nat.zero_add b.val
  | ⟨1, _⟩ => exact Nat.zero_add k.val

/-- Each entry's place in its row. -/
abbrev numbers : IVec S2048x768 32 := fun i => if hd : 1 < S2048x768.rank then iotaInDim S2048x768 32 ⟨1, hd⟩ i else 0#32

/-- The value at a rank. -/
theorem value_at : (Host.topK S2048x32 1 (FloatOps.cmpfTotal (F := Ideal) (φ := .f32) .gt) x sliceFits_S2048x768_S2048x32).1 (ix2 b k) = x (ix2 b (bin x b k)) := by
  unfold bin SelectSort.place SelectSort.greater Host.topK
  exact (head_at b k _).trans (sort_at b _ x numbers _).1

/-- The position of the value at a rank. -/
theorem position_at : (Host.topK S2048x32 1 (FloatOps.cmpfTotal (F := Ideal) (φ := .f32) .gt) x sliceFits_S2048x768_S2048x32).2 (ix2 b k) = BitVec.ofNat 32 (bin x b k).val := by
  unfold bin SelectSort.place SelectSort.greater Host.topK
  exact (head_at b k _).trans ((sort_at b _ x numbers _).2.trans rfl)

end

/-- A bin's number is not negative and is at most the last bin's, read signed. -/
theorem bits_of_word (a : BitVec 32) (h : a.toNat < 768) :
    IntOp.cmpi .slt a 0#32 = 0#1 ∧ IntOp.andi (IntOp.cmpi .sge a 0#32) (IntOp.cmpi .sle a 767#32) = 1#1 ∧ a.toInt.toNat = a.toNat := by
  have hi : a.toInt = a.toNat := by rw [BitVec.toInt_eq_toNat_cond]; split <;> omega
  have hz : (0#32 : BitVec 32).toInt = 0 := by decide
  have ht : (767#32 : BitVec 32).toInt = 767 := by decide
  refine ⟨?_, (Ref.andi_eq_one _ _).mpr ⟨?_, ?_⟩, by omega⟩ <;>
    simp only [IntOp.cmpi, BitVec.slt_eq_decide, BitVec.sle_eq_decide, hi, hz, ht, StableHlo.Predicate.ofBool_eq_one_iff, decide_eq_true_eq]
  · rw [decide_eq_false (by omega)]; rfl
  · omega
  · omega

/-- The gather of one entry of a token's row, read at an index: the entry that the start index names, clamped into the row. -/
theorem gather_at (f : IVec S2048x768 32) (s : IVec S2048x32x1 32) (b : Fin 2048) (k : Fin 32) :
    Host.gather gather_S2048x768_S2048x32x1_S2048x32_n_1_0_0_1_2_11 f s (ix2 b k)
      = f (ix2 b ⟨min (s (ix3 b k 0)).toInt.toNat 767, by omega⟩) := by
  unfold Host.gather
  congr 1
  funext a
  refine Fin.ext ?_
  match a with
  | ⟨0, _⟩ =>
    show GatherDims.start _ _ s 0 + GatherDims.batchCoord _ _ 0 + GatherDims.offCoord _ _ 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show GatherDims.start _ _ s 1 + GatherDims.batchCoord _ _ 1 + GatherDims.offCoord _ _ 1 = min (s (ix3 b k 0)).toInt.toNat 767
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x768_S2048x32x1_S2048x32_n_1_0_0_1_2_11.startIndexMap from List.mem_singleton.mpr rfl)]
    rw [show gather_S2048x768_S2048x32x1_S2048x32_n_1_0_0_1_2_11.siIdx (ix2 b k) ⟨List.idxOf (1 : Fin 2) gather_S2048x768_S2048x32x1_S2048x32_n_1_0_0_1_2_11.startIndexMap,
        List.idxOf_lt_length_iff.2 (List.mem_singleton.mpr rfl)⟩ = ix3 b k 0 from
      funext fun a => Fin.ext (match a with | ⟨0, _⟩ => rfl | ⟨1, _⟩ => rfl | ⟨2, _⟩ => rfl)]
    rfl

section
variable (p : IVec S2048x32 32)

/-- The positions the reference takes features at: a negative one counts from the row's end. -/
abbrev wrapped : IVec S2048x32 32 :=
  select (cmpi .slt p (broadcastInDim S2048x32 ![] bcast_S_S2048x32 (constantI S_ 32 0#32)))
    (addi p (broadcastInDim S2048x32 ![] bcast_S_S2048x32 (constantI S_ 32 768#32))) p

/-- The positions as the reference's gather takes them. -/
abbrev starts : IVec S2048x32x1 32 := shapeCast _ (wrapped p) shapeCasts_S2048x32_S2048x32x1

/-- Which positions are in the row, as the reference asks it. -/
abbrev inside : IVec S2048x32x1 1 :=
  andi (cmpi .sge (starts p) (broadcastInDim S2048x32x1 ![] bcast_S_S2048x32x1 (constantI S_ 32 0#32)))
    (cmpi .sle (starts p) (broadcastInDim S2048x32x1 ![0, 1, 2] bcast_S1x1x1_S2048x32x1_0_1_2 (broadcastInDim S1x1x1 ![2] bcast_S1_S1x1x1_2 (constantI S1 32 767#32))))

/-- The features the reference takes, one at each rank. -/
abbrev taken (f : IVec S2048x768 32) : IVec S2048x32 32 :=
  select (Host.reduce IntOp.andi (inside p) (constantI S_ 1 1#1) reducesTo_S2048x32x1_S2048x32_d2 h_S_)
    (Host.gather gather_S2048x768_S2048x32x1_S2048x32_n_1_0_0_1_2_11 f (starts p)) (broadcastInDim S2048x32 ![] bcast_S_S2048x32 (constantI S_ 32 2147483648#32))

variable (hp : ∀ b k, (p (ix2 b k)).toNat < 768)
include hp

/-- A position in the row is taken as it is. -/
theorem wrapped_eq : wrapped p = p := by
  funext j
  obtain ⟨b, k, rfl⟩ : ∃ (b : Fin 2048) (k : Fin 32), j = ix2 b k := ⟨j 0, j 1, eq_ix2 j⟩
  show Scalar.select (IntOp.cmpi .slt (p (ix2 b k)) 0#32) (IntOp.addi (p (ix2 b k)) 768#32) (p (ix2 b k)) = p (ix2 b k)
  rw [(bits_of_word _ (hp b k)).1]
  rfl

/-- The start of the gather at a rank is the position there. -/
theorem starts_at (b : Fin 2048) (k : Fin 32) : starts p (ix3 b k 0) = p (ix2 b k) := by
  unfold starts
  rw [wrapped_eq p hp]
  simp only [pointwise]

/-- Every position is found in the row. -/
theorem inside_one (j : S2048x32x1.Idx) : inside p j = 1#1 := by
  obtain ⟨b, k, e, rfl⟩ : ∃ (b : Fin 2048) (k : Fin 32) (e : Fin 1), j = ix3 b k e := ⟨j 0, j 1, j 2, eq_ix3 j⟩
  rw [Subsingleton.elim e 0]
  show IntOp.andi (IntOp.cmpi .sge (starts p (ix3 b k 0)) 0#32) (IntOp.cmpi .sle (starts p (ix3 b k 0)) 767#32) = 1#1
  rw [starts_at p hp]
  exact (bits_of_word _ (hp b k)).2.1

/-- The feature taken at a rank is the one recorded at the position there. -/
theorem taken_at (f : IVec S2048x768 32) (b : Fin 2048) (k : Fin 32) : taken p f (ix2 b k) = f (ix2 b ⟨(p (ix2 b k)).toNat, hp b k⟩) := by
  have h1 : Host.reduce IntOp.andi (inside p) (constantI S_ 1 1#1) reducesTo_S2048x32x1_S2048x32_d2 h_S_ = fun _ => 1#1 := by
    funext j
    unfold Host.reduce
    exact (Ref.foldl_andi _ _ _).mpr ⟨rfl, fun n _ => inside_one p hp _⟩
  unfold taken
  rw [h1]
  show Host.gather gather_S2048x768_S2048x32x1_S2048x32_n_1_0_0_1_2_11 f (starts p) (ix2 b k) = _
  rw [gather_at]
  congr 2
  refine Fin.ext ?_
  show min (starts p (ix3 b k 0)).toInt.toNat 767 = (p (ix2 b k)).toNat
  have := hp b k
  rw [starts_at p hp, (bits_of_word _ this).2.2]
  omega

end

/-- The feature the reference takes at a rank is the one recorded for the bin that comes there. -/
theorem feature_at (x : FVec Ideal S2048x768 .f32) (f : IVec S2048x768 32) (b : Fin 2048) (k : Fin 32) :
    taken (Host.topK S2048x32 1 (FloatOps.cmpfTotal (F := Ideal) (φ := .f32) .gt) x sliceFits_S2048x768_S2048x32).2 f (ix2 b k) = f (ix2 b (bin x b k)) := by
  have e : ∀ b k, ((Host.topK S2048x32 1 (FloatOps.cmpfTotal (F := Ideal) (φ := .f32) .gt) x sliceFits_S2048x768_S2048x32).2 (ix2 b k)).toNat = (bin x b k).val := fun b k => by
    rw [position_at, BitVec.toNat_ofNat]
    exact Nat.mod_eq_of_lt (by have := (bin x b k).isLt; omega)
  rw [taken_at _ (fun b k => (e b k).trans_lt (bin x b k).isLt)]
  exact congrArg (fun q => f (ix2 b q)) (Fin.ext (e b k))

end Cert.Proof.SelectRef

end
-- ==== Proof.EncodeRun.lean ====
module

public import proofs.«01_k».proof.Proof.Gen.EncodeIdeal.Frame
public import proofs.«01_k».proof.Proof.Gen.EncodeIdeal.Skeleton
public import Idealize.ShloMosaic.Lib.VecWindow

@[expose] public section

set_option maxRecDepth 16384

noncomputable section

/-! # One run of the encoder's body

The body at one grid point: it normalises the point's block of rows, multiplies it into the cast block of weight
columns, folds sixteen slabs of columns into a maximum and its column, and joins that to what earlier points of the
group kept for this block of rows. -/

namespace Encode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.EncodeIdeal Cert.EncodeIdeal.Gen

variable {F : FTy → Type} [FloatOps F]

local notation "𝕄" => MT nD τ sig Unit (Elt F) ℕ (UR sig nD τ) ℕ

/-! ## The values of one point -/

/-- The maximum over the first fifteen slabs, before the last two comparisons. -/
def partMx (v5 : Vec F S512x768 .f32) (s : Vec F S1x768 .f32) (v17 : Vec F S768x2048 .bf16) : FVec F S512x128 .f32 :=
  k0_pay58 (k0_pay17 v5 s v17) (k0_pay27 v5 s v17) (k0_pay29 v5 s v17)

/-- The slab at which `partMx` is met. -/
def partIx (v5 : Vec F S512x768 .f32) (s : Vec F S1x768 .f32) (v17 : Vec F S768x2048 .bf16) : IVec S512x128 32 :=
  k0_pay59 (k0_pay17 v5 s v17) (k0_pay27 v5 s v17) (k0_pay28 v5 s v17) (k0_pay29 v5 s v17)

/-- The tile's maxima, as stored. -/
def tileMx (v5 : Vec F S512x768 .f32) (s : Vec F S1x768 .f32) (v17 : Vec F S768x2048 .bf16) : Vec F S1x512x128 .f32 :=
  k0_pay7 (k0_pay17 v5 s v17) (partMx v5 s v17) (k0_pay60 (k0_pay17 v5 s v17))

/-- The features at which the tile's maxima are met, as stored. -/
def tileIx (a0 a1 : BitVec 32) (v5 : Vec F S512x768 .f32) (s : Vec F S1x768 .f32) (v17 : Vec F S768x2048 .bf16) : Vec F S1x512x128 .i32 :=
  k0_pay8 a0 a1 (k0_pay17 v5 s v17) (partMx v5 s v17) (partIx v5 s v17) (k0_pay60 (k0_pay17 v5 s v17))

/-- The tile's maxima joined to the kept ones. -/
def joinMx (v5 : Vec F S512x768 .f32) (s : Vec F S1x768 .f32) (v17 : Vec F S768x2048 .bf16) (p : Vec F S1x512x128 .f32) : Vec F S1x512x128 .f32 :=
  k0_pay11 (k0_pay17 v5 s v17) (partMx v5 s v17) (k0_pay60 (k0_pay17 v5 s v17)) p

/-- The features of the joined maxima. -/
def joinIx (a0 a1 : BitVec 32) (v5 : Vec F S512x768 .f32) (s : Vec F S1x768 .f32) (v17 : Vec F S768x2048 .bf16) (p : Vec F S1x512x128 .f32) (q : Vec F S1x512x128 .i32) : Vec F S1x512x128 .i32 :=
  k0_pay12 a0 a1 (k0_pay17 v5 s v17) (partMx v5 s v17) (partIx v5 s v17) (k0_pay60 (k0_pay17 v5 s v17)) p q

/-- A block of rows lies within the data. -/
theorem rows_inb (b : Fin 4) : ∀ a, (![b.val * 512, 0] : Fin 2 → ℕ) a + S512x768.size a ≤ S2048x768.size a := by
  have := b.isLt; intro a; fin_cases a <;> simp [S512x768, S2048x768]; omega

/-- The block of rows of the data that the point works on. -/
def rowsOf (b : Fin 4) (x : Vec F S2048x768 .f32) : Vec F S512x768 .f32 :=
  VecWindow.window x ![b.val * 512, 0] S512x768.size (rows_inb b)

/-- A block's kept values lie within the scratch. -/
theorem slot_inb (b : Fin 4) : ∀ a, (![b.val, 0, 0] : Fin 3 → ℕ) a + (![1, 512, 128] : Fin 3 → ℕ) a ≤ S4x512x128.size a := by
  have := b.isLt; intro a; fin_cases a <;> simp [S4x512x128]; omega

/-- What is kept for one block of rows. -/
def slot {e : EltTy} (b : Fin 4) (M : Vec F S4x512x128 e) : Vec F S1x512x128 e :=
  VecWindow.window M ![b.val, 0, 0] ![1, 512, 128] (slot_inb b)

/-- Another block's kept values put in. -/
def setSlot {e : EltTy} (b : Fin 4) (M : Vec F S4x512x128 e) (P : Vec F S1x512x128 e) : Vec F S4x512x128 e :=
  VecWindow.put M ![b.val, 0, 0] ![1, 512, 128] P

/-- The block just put in is what is read back. -/
theorem slot_setSlot_same {e : EltTy} (b : Fin 4) (M : Vec F S4x512x128 e) (P : Vec F S1x512x128 e) : slot b (setSlot b M P) = P :=
  VecWindow.window_put_same _ _ _ _ _

/-- Putting one block in leaves the others. -/
theorem slot_setSlot_ne {e : EltTy} {b b' : Fin 4} (h : b' ≠ b) (M : Vec F S4x512x128 e) (P : Vec F S1x512x128 e) : slot b' (setSlot b M P) = slot b' M :=
  VecWindow.window_put_of_disjoint _ _ _ _ _ _ _ 0 (by
    show b'.val + 1 ≤ b.val ∨ b.val + 1 ≤ b'.val
    have : b'.val ≠ b.val := fun h' => h (Fin.ext h')
    omega)

/-- Where a point's rows start. -/
theorem off1_eq (i : grid0.Coords) : k0_off1 i = ![(i 2).val * 512, 0] := by
  have h : (i 2).val < 4 := (i 2).isLt
  funext a; fin_cases a
  · show (BitVec.ofNat 32 (i 2).val * 512#32).toNat = _
    simp; omega
  · rfl

/-- Where a point's kept values start. -/
theorem off2_eq (i : grid0.Coords) : k0_off2 i = ![(i 2).val, 0, 0] := by
  have h : (i 2).val < 4 := (i 2).isLt
  funext a; fin_cases a
  · show (BitVec.ofNat 32 (i 2).val).toNat = _
    simp; omega
  · rfl
  · rfl

/-! ## The body's run -/

/-- The condition under which the body casts the block of weights anew. -/
def condW (i : grid0.Coords) : Prop :=
  Scalar.cmpi .ne (Scalar.extui (Scalar.cmpi .eq (BitVec.ofNat 32 (i 2).val) 0#32) : BitVec 32) 0#32 = 1#1

/-- The three kinds of point of a group: the first tile, a later one, the last; what the point leaves in the kept
    maxima and features of its block of rows, and in its two result blocks. -/
def Leaves (i : grid0.Coords) (v5 : Vec F S512x768 .f32) (s : Vec F S1x768 .f32) (v17 : Vec F S768x2048 .bf16)
    (p : Vec F S1x512x128 .f32) (q : Vec F S1x512x128 .i32) (o4 : Vec F S512x128 .f32) (o5 : Vec F S512x128 .i32)
    (p' : Vec F S1x512x128 .f32) (q' : Vec F S1x512x128 .i32) (o4' : Vec F S512x128 .f32) (o5' : Vec F S512x128 .i32) : Prop :=
  (k0_cond2 i = 1#1 ∧ ¬ k0_cond3 i = 1#1 ∧ ¬ k0_cond4 i = 1#1
      ∧ p' = tileMx v5 s v17 ∧ q' = tileIx (BitVec.ofNat 32 (i 0).val) (BitVec.ofNat 32 (i 1).val) v5 s v17 ∧ o4' = o4 ∧ o5' = o5)
  ∨ (¬ k0_cond2 i = 1#1 ∧ k0_cond3 i = 1#1 ∧ ¬ k0_cond4 i = 1#1
      ∧ p' = joinMx v5 s v17 p ∧ q' = joinIx (BitVec.ofNat 32 (i 0).val) (BitVec.ofNat 32 (i 1).val) v5 s v17 p q ∧ o4' = o4 ∧ o5' = o5)
  ∨ (¬ k0_cond2 i = 1#1 ∧ k0_cond3 i = 1#1 ∧ k0_cond4 i = 1#1
      ∧ p' = joinMx v5 s v17 p ∧ q' = joinIx (BitVec.ofNat 32 (i 0).val) (BitVec.ofNat 32 (i 1).val) v5 s v17 p q
      ∧ o4' = k0_pay13 p' ∧ o5' = k0_pay14 q')

set_option maxHeartbeats 600000 in
/-- The body at one point, from any contents of its buffers. -/
theorem run (c : Dev nD) (i : grid0.Coords) (arg3 : Memref sig .tc .vmem S2048x768 .f32) (harg3 : arg3.IsWhole) (arg4 : Memref sig .tc .vmem S1x768 .f32) (harg4 : arg4.IsWhole) (arg5 : Memref sig .tc .vmem S768x2048 .f32) (harg5 : arg5.IsWhole) (arg6 : Memref sig .tc .vmem S512x768 .f32) (harg6 : arg6.IsWhole) (arg7 : Memref sig .tc .vmem S512x128 .f32) (harg7 : arg7.IsWhole) (arg8 : Memref sig .tc .vmem S512x128 .i32) (harg8 : arg8.IsWhole) (arg9 : Memref sig .tc .vmem S768x2048 .bf16) (harg9 : arg9.IsWhole) (arg10 : Memref sig .tc .vmem S4x512x128 .f32) (harg10 : arg10.IsWhole) (arg11 : Memref sig .tc .vmem S4x512x128 .i32) (harg11 : arg11.IsWhole)
    (x : Vec F S2048x768 .f32) (s : Vec F S1x768 .f32) (w : Vec F S768x2048 .f32)
    (o3 : Vec F S512x768 .f32) (o4 : Vec F S512x128 .f32) (o5 : Vec F S512x128 .i32)
    (wb wb' : Vec F S768x2048 .bf16) (mx : Vec F S4x512x128 .f32) (fx : Vec F S4x512x128 .i32)
    (p' : Vec F S1x512x128 .f32) (q' : Vec F S1x512x128 .i32) (o4' : Vec F S512x128 .f32) (o5' : Vec F S512x128 .i32)
    (hwb : (condW i ∧ wb' = k0_pay15 w) ∨ (¬ condW i ∧ wb' = wb))
    (hl : Leaves i (rowsOf (i 2) x) s wb' (slot (i 2) mx) (slot (i 2) fx) o4 o5 p' q' o4' o5')
    (E : Set ℕ) (K : PUnit → sProp 𝕄) :
    iprop(owns (c : Thread nD τ) arg3 fullShare x ∗ owns (c : Thread nD τ) arg4 fullShare s ∗ owns (c : Thread nD τ) arg5 fullShare w
        ∗ owns (c : Thread nD τ) arg6 fullShare o3 ∗ owns (c : Thread nD τ) arg7 fullShare o4 ∗ owns (c : Thread nD τ) arg8 fullShare o5
        ∗ owns (c : Thread nD τ) arg9 fullShare wb ∗ owns (c : Thread nD τ) arg10 fullShare mx ∗ owns (c : Thread nD τ) arg11 fullShare fx
        ∗ (iprop(owns (c : Thread nD τ) arg3 fullShare x ∗ owns (c : Thread nD τ) arg4 fullShare s ∗ owns (c : Thread nD τ) arg5 fullShare w
            ∗ owns (c : Thread nD τ) arg6 fullShare (k0_pay16 (rowsOf (i 2) x)) ∗ owns (c : Thread nD τ) arg7 fullShare o4' ∗ owns (c : Thread nD τ) arg8 fullShare o5'
            ∗ owns (c : Thread nD τ) arg9 fullShare wb' ∗ owns (c : Thread nD τ) arg10 fullShare (setSlot (i 2) mx p') ∗ owns (c : Thread nD τ) arg11 fullShare (setSlot (i 2) fx q')) -∗ K ⟨⟩))
      ⊢ wp frame (wpE (defs₀ (F := F)) Variants.none c none) E
          (cc0__enc_body i arg3 harg3 arg4 harg4 arg5 harg5 arg6 harg6 arg7 harg7 arg8 harg8 arg9 harg9 arg10 harg10 arg11 harg11) K := by
  simp only [cc0__enc_body_eq_skeleton]; unfold cc0__enc_body_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg9.eq_unread hfs0; obtain rfl := harg10.eq_unread hfs1; obtain rfl := harg11.eq_unread hfs2
  have hV5 : View.readAt (Elt F) arg3.view (Rect.unit (s := S2048x768) (k0_off1 i) S512x768.size (k0_off1_inb i)).toLoadRect (harg3.unread x) = rowsOf (i 2) x :=
    by
    refine (View.readAt_unit (off' := ![(i 2).val * 512, 0]) arg3.view _ (k0_off1_inb i) (off1_eq i) (rows_inb (i 2))).trans ?_
    exact congrArg (rowsOf (i 2)) hf0
  have hV13 : View.readAt (Elt F) arg4.view (Rect.unit (s := S1x768) ![0, 0] S1x768.size inb_S1x768_S1x768_0_0).toLoadRect (harg4.unread s) = s :=
    (View.readAt_full _ _ _).trans hf1
  have hW : View.readAt (Elt F) arg5.view (Rect.unit (s := S768x2048) ![0, 0] S768x2048.size inb_S768x2048_S768x2048_0_0).toLoadRect (harg5.unread w) = w :=
    (View.readAt_full _ _ _).trans hf2
  have hP (h3 : k0_cond3 i = 1#1) : View.readAt (Elt F) arg10.view (Rect.unit (s := S4x512x128) (k0_off3 i) ![1, 512, 128] (k0_off3_inb i h3)).toLoadRect (harg10.unread mx) = slot (i 2) mx :=
    by
    refine (View.readAt_unit (off' := ![(i 2).val, 0, 0]) arg10.view _ (k0_off3_inb i h3) (off2_eq i) (slot_inb (i 2))).trans ?_
    exact congrArg (slot (i 2)) hfs1
  have hQ (h3 : k0_cond3 i = 1#1) : View.readAt (Elt F) arg11.view (Rect.unit (s := S4x512x128) (k0_off3 i) ![1, 512, 128] (k0_off3_inb i h3)).toLoadRect (harg11.unread fx) = slot (i 2) fx :=
    by
    refine (View.readAt_unit (off' := ![(i 2).val, 0, 0]) arg11.view _ (k0_off3_inb i h3) (off2_eq i) (slot_inb (i 2))).trans ?_
    exact congrArg (slot (i 2)) hfs2
  have hC1 : View.readCov (Val := Elt F) arg9.view [⟨Rect.unit (s := S768x2048) ![0, 0] S768x2048.size inb_S768x2048_S768x2048_0_0, k0_pay15 w⟩] (Rect.unit (s := S768x2048) ![0, 0] S768x2048.size inb_S768x2048_S768x2048_0_0).toLoadRect = k0_pay15 w :=
    View.readCov_full _ _ _ _ _
  have hC2 : View.readAt (Elt F) arg9.view (Rect.unit (s := S768x2048) ![0, 0] S768x2048.size inb_S768x2048_S768x2048_0_0).toLoadRect (harg9.unread wb) = wb :=
    (View.readAt_full _ _ _).trans hfs0
  have hcov {P : Vec F S1x512x128 .f32} {Q : Vec F S1x512x128 .f32} (h3 : k0_cond3 i = 1#1) (h4 : k0_cond4 i = 1#1) (hPQ : P = Q) :
      k0_pay13 (View.readCov (Val := Elt F) arg10.view [⟨Rect.unit (s := S4x512x128) (k0_off3 i) ![1, 512, 128] (k0_off3_inb i h3), P⟩] (Rect.unit (s := S4x512x128) (k0_off4 i) ![1, 512, 128] (k0_off4_inb i h4)).toLoadRect) = k0_pay13 Q := by
    refine congrArg _ (((View.readAt_unit (off' := ![(i 2).val, 0, 0]) arg10.view _ (k0_off4_inb i h4) (off2_eq i) (slot_inb (i 2))).trans ?_).trans hPQ)
    rw [View.read_writes_cons_put _ _ _ _ [] (off2_eq i)]
    exact slot_setSlot_same _ _ _
  have hcov' {P : Vec F S1x512x128 .i32} {Q : Vec F S1x512x128 .i32} (h3 : k0_cond3 i = 1#1) (h4 : k0_cond4 i = 1#1) (hPQ : P = Q) :
      k0_pay14 (View.readCov (Val := Elt F) arg11.view [⟨Rect.unit (s := S4x512x128) (k0_off3 i) ![1, 512, 128] (k0_off3_inb i h3), P⟩] (Rect.unit (s := S4x512x128) (k0_off4 i) ![1, 512, 128] (k0_off4_inb i h4)).toLoadRect) = k0_pay14 Q := by
    refine congrArg _ (((View.readAt_unit (off' := ![(i 2).val, 0, 0]) arg11.view _ (k0_off4_inb i h4) (off2_eq i) (slot_inb (i 2))).trans ?_).trans hPQ)
    rw [View.read_writes_cons_put _ _ _ _ [] (off2_eq i)]
    exact slot_setSlot_same _ _ _
  rcases hwb with ⟨hc1, rfl⟩ | ⟨hc1, rfl⟩ <;> unfold condW at hc1
  · rcases hl with ⟨hc2, hc3, hc4, rfl, rfl, rfl, rfl⟩ | ⟨hc2, hc3, hc4, rfl, rfl, rfl, rfl⟩ | ⟨hc2, hc3, hc4, rfl, rfl, rfl, rfl⟩
    · sl_exec (disch := first | sl_exact hc1 | sl_exact hc2 | sl_exact hc3 | sl_exact hc4)
      sl_step
      iapply Hk
      isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr
                      swap; · iexact H3
                      ipureintro; exact View.read_writes_full _ _ _ _ _
      isplitl [H4]; · iexists _; isplitr
                      swap; · iexact H4
                      ipureintro; exact hf4
      isplitl [H5]; · iexists _; isplitr
                      swap; · iexact H5
                      ipureintro; exact hf5
      isplitl [HS0]; · iexists _; isplitr
                       swap; · iexact HS0
                       ipureintro; exact View.read_writes_full _ _ _ _ _
      isplitl [HS1]; · iexists _; isplitr
                       swap; · iexact HS1
                       ipureintro; refine (View.read_writes_cons_put _ _ _ _ [] (off2_eq i)).trans ?_
                       rw [View.writes_nil, hfs1]; have e := congrArg (setSlot (i 2) mx) (congrArg (fun d => tileMx (rowsOf (i 2) x) s d) (rfl : k0_pay15 w = k0_pay15 w)); exact e
      iexists _; isplitr
      swap; · iexact HS2
      ipureintro; refine (View.read_writes_cons_put _ _ _ _ [] (off2_eq i)).trans ?_
      rw [View.writes_nil, hfs2]; have e := congrArg (setSlot (i 2) fx) (congrArg (fun d => tileIx (BitVec.ofNat 32 (i 0).val) (BitVec.ofNat 32 (i 1).val) (rowsOf (i 2) x) s d) (rfl : k0_pay15 w = k0_pay15 w)); exact e
    · have hP' := hP hc3; have hQ' := hQ hc3
      sl_exec (disch := first | sl_exact hc1 | sl_exact hc2 | sl_exact hc3 | sl_exact hc4)
      sl_step
      iapply Hk
      isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr
                      swap; · iexact H3
                      ipureintro; exact View.read_writes_full _ _ _ _ _
      isplitl [H4]; · iexists _; isplitr
                      swap; · iexact H4
                      ipureintro; exact hf4
      isplitl [H5]; · iexists _; isplitr
                      swap; · iexact H5
                      ipureintro; exact hf5
      isplitl [HS0]; · iexists _; isplitr
                       swap; · iexact HS0
                       ipureintro; exact View.read_writes_full _ _ _ _ _
      isplitl [HS1]; · iexists _; isplitr
                       swap; · iexact HS1
                       ipureintro; refine (View.read_writes_cons_put _ _ _ _ [] (off2_eq i)).trans ?_
                       rw [View.writes_nil, hfs1]; have e := congrArg (setSlot (i 2) mx) (congrArg (fun d => joinMx (rowsOf (i 2) x) s d (slot (i 2) mx)) (rfl : k0_pay15 w = k0_pay15 w)); exact e
      iexists _; isplitr
      swap; · iexact HS2
      ipureintro; refine (View.read_writes_cons_put _ _ _ _ [] (off2_eq i)).trans ?_
      rw [View.writes_nil, hfs2]; have e := congrArg (setSlot (i 2) fx) (congrArg (fun d => joinIx (BitVec.ofNat 32 (i 0).val) (BitVec.ofNat 32 (i 1).val) (rowsOf (i 2) x) s d (slot (i 2) mx) (slot (i 2) fx)) (rfl : k0_pay15 w = k0_pay15 w)); exact e
    · have hP' := hP hc3; have hQ' := hQ hc3
      sl_exec (disch := first | sl_exact hc1 | sl_exact hc2 | sl_exact hc3 | sl_exact hc4)
      sl_step
      iapply Hk
      isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr
                      swap; · iexact H3
                      ipureintro; exact View.read_writes_full _ _ _ _ _
      isplitl [H4]; · iexists _; isplitr
                      swap; · iexact H4
                      ipureintro; refine (View.read_writes_full _ _ _ _ _).trans ?_; exact hcov hc3 hc4 rfl
      isplitl [H5]; · iexists _; isplitr
                      swap; · iexact H5
                      ipureintro; refine (View.read_writes_full _ _ _ _ _).trans ?_; exact hcov' hc3 hc4 rfl
      isplitl [HS0]; · iexists _; isplitr
                       swap; · iexact HS0
                       ipureintro; exact View.read_writes_full _ _ _ _ _
      isplitl [HS1]; · iexists _; isplitr
                       swap; · iexact HS1
                       ipureintro; refine (View.read_writes_cons_put _ _ _ _ [] (off2_eq i)).trans ?_
                       rw [View.writes_nil, hfs1]; have e := congrArg (setSlot (i 2) mx) (congrArg (fun d => joinMx (rowsOf (i 2) x) s d (slot (i 2) mx)) (rfl : k0_pay15 w = k0_pay15 w)); exact e
      iexists _; isplitr
      swap; · iexact HS2
      ipureintro; refine (View.read_writes_cons_put _ _ _ _ [] (off2_eq i)).trans ?_
      rw [View.writes_nil, hfs2]; have e := congrArg (setSlot (i 2) fx) (congrArg (fun d => joinIx (BitVec.ofNat 32 (i 0).val) (BitVec.ofNat 32 (i 1).val) (rowsOf (i 2) x) s d (slot (i 2) mx) (slot (i 2) fx)) (rfl : k0_pay15 w = k0_pay15 w)); exact e
  · rcases hl with ⟨hc2, hc3, hc4, rfl, rfl, rfl, rfl⟩ | ⟨hc2, hc3, hc4, rfl, rfl, rfl, rfl⟩ | ⟨hc2, hc3, hc4, rfl, rfl, rfl, rfl⟩
    · sl_exec (disch := first | sl_exact hc1 | sl_exact hc2 | sl_exact hc3 | sl_exact hc4)
      sl_step
      iapply Hk
      isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr
                      swap; · iexact H3
                      ipureintro; exact View.read_writes_full _ _ _ _ _
      isplitl [H4]; · iexists _; isplitr
                      swap; · iexact H4
                      ipureintro; exact hf4
      isplitl [H5]; · iexists _; isplitr
                      swap; · iexact H5
                      ipureintro; exact hf5
      isplitl [HS0]; · iexists _; isplitr
                       swap; · iexact HS0
                       ipureintro; exact hfs0
      isplitl [HS1]; · iexists _; isplitr
                       swap; · iexact HS1
                       ipureintro; refine (View.read_writes_cons_put _ _ _ _ [] (off2_eq i)).trans ?_
                       rw [View.writes_nil, hfs1]; have e := congrArg (setSlot (i 2) mx) (congrArg (fun d => tileMx (rowsOf (i 2) x) s d) (hC2.symm.trans hC2)); exact e
      iexists _; isplitr
      swap; · iexact HS2
      ipureintro; refine (View.read_writes_cons_put _ _ _ _ [] (off2_eq i)).trans ?_
      rw [View.writes_nil, hfs2]; have e := congrArg (setSlot (i 2) fx) (congrArg (fun d => tileIx (BitVec.ofNat 32 (i 0).val) (BitVec.ofNat 32 (i 1).val) (rowsOf (i 2) x) s d) (hC2.symm.trans hC2)); exact e
    · have hP' := hP hc3; have hQ' := hQ hc3
      sl_exec (disch := first | sl_exact hc1 | sl_exact hc2 | sl_exact hc3 | sl_exact hc4)
      sl_step
      iapply Hk
      isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr
                      swap; · iexact H3
                      ipureintro; exact View.read_writes_full _ _ _ _ _
      isplitl [H4]; · iexists _; isplitr
                      swap; · iexact H4
                      ipureintro; exact hf4
      isplitl [H5]; · iexists _; isplitr
                      swap; · iexact H5
                      ipureintro; exact hf5
      isplitl [HS0]; · iexists _; isplitr
                       swap; · iexact HS0
                       ipureintro; exact hfs0
      isplitl [HS1]; · iexists _; isplitr
                       swap; · iexact HS1
                       ipureintro; refine (View.read_writes_cons_put _ _ _ _ [] (off2_eq i)).trans ?_
                       rw [View.writes_nil, hfs1]; have e := congrArg (setSlot (i 2) mx) (congrArg (fun d => joinMx (rowsOf (i 2) x) s d (slot (i 2) mx)) (hC2.symm.trans hC2)); exact e
      iexists _; isplitr
      swap; · iexact HS2
      ipureintro; refine (View.read_writes_cons_put _ _ _ _ [] (off2_eq i)).trans ?_
      rw [View.writes_nil, hfs2]; have e := congrArg (setSlot (i 2) fx) (congrArg (fun d => joinIx (BitVec.ofNat 32 (i 0).val) (BitVec.ofNat 32 (i 1).val) (rowsOf (i 2) x) s d (slot (i 2) mx) (slot (i 2) fx)) (hC2.symm.trans hC2)); exact e
    · have hP' := hP hc3; have hQ' := hQ hc3
      sl_exec (disch := first | sl_exact hc1 | sl_exact hc2 | sl_exact hc3 | sl_exact hc4)
      sl_step
      iapply Hk
      isplitl [H0]; · iexists _; isplitr; · ipureintro; exact hf0
                      iexact H0
      isplitl [H1]; · iexists _; isplitr; · ipureintro; exact hf1
                      iexact H1
      isplitl [H2]; · iexists _; isplitr; · ipureintro; exact hf2
                      iexact H2
      isplitl [H3]; · iexists _; isplitr
                      swap; · iexact H3
                      ipureintro; exact View.read_writes_full _ _ _ _ _
      isplitl [H4]; · iexists _; isplitr
                      swap; · iexact H4
                      ipureintro; refine (View.read_writes_full _ _ _ _ _).trans ?_; exact hcov hc3 hc4 rfl
      isplitl [H5]; · iexists _; isplitr
                      swap; · iexact H5
                      ipureintro; refine (View.read_writes_full _ _ _ _ _).trans ?_; exact hcov' hc3 hc4 rfl
      isplitl [HS0]; · iexists _; isplitr
                       swap; · iexact HS0
                       ipureintro; exact hfs0
      isplitl [HS1]; · iexists _; isplitr
                       swap; · iexact HS1
                       ipureintro; refine (View.read_writes_cons_put _ _ _ _ [] (off2_eq i)).trans ?_
                       rw [View.writes_nil, hfs1]; have e := congrArg (setSlot (i 2) mx) (congrArg (fun d => joinMx (rowsOf (i 2) x) s d (slot (i 2) mx)) (hC2.symm.trans hC2)); exact e
      iexists _; isplitr
      swap; · iexact HS2
      ipureintro; refine (View.read_writes_cons_put _ _ _ _ [] (off2_eq i)).trans ?_
      rw [View.writes_nil, hfs2]; have e := congrArg (setSlot (i 2) fx) (congrArg (fun d => joinIx (BitVec.ofNat 32 (i 0).val) (BitVec.ofNat 32 (i 1).val) (rowsOf (i 2) x) s d (slot (i 2) mx) (slot (i 2) fx)) (hC2.symm.trans hC2)); exact e

end Encode

end
-- ==== Proof.EncodeLaunch.lean ====
module

public import proofs.«01_k».proof.Proof.EncodeRun
public import Idealize.ShloMosaic.Lib.Pipeline.DatRel
public import Idealize.ShloMosaic.Lib.Pipeline.ArrRel
public import Idealize.ShloMosaic.Lib.Pointwise

@[expose] public section

set_option maxRecDepth 16384

noncomputable section

/-! # The encoder's whole grid

Ninety-six points: six groups of columns, four tiles of a group, four blocks of rows, the rows innermost. Before each
point the scratch buffers hold, for every block of rows, what the tiles of the group done so far leave; the result blocks
of maxima and features matter only at the last tile of a group, whose write-back is the last one of its block. -/

namespace Encode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.EncodeIdeal Cert.EncodeIdeal.Gen

variable {F : FTy → Type} [FloatOps F]

local notation "𝕄" => MT nD τ sig Unit (Elt F) ℕ (UR sig nD τ) ℕ

/-! ## The grid's points -/

/-- A point's three coordinates. -/
theorem coords_eq : ∀ t : Fin cfg0.N, (grid0.coords t 0).val = t.val / 16 ∧ (grid0.coords t 1).val = t.val / 4 % 4 ∧ (grid0.coords t 2).val = t.val % 4 :=
  (by decide +kernel : ∀ t : Fin grid0.N, _)

/-- Whether a point brings columns in is decided. -/
instance (i : grid0.Coords) : Decidable (condW i) := by unfold condW; infer_instance

/-- The weights are cast anew at the first block of rows, the tile's values are stored at the first tile of a group,
    joined at the later ones and put out at the last. -/
theorem conds_eq : ∀ t : Fin cfg0.N, (condW (grid0.coords t) ↔ t.val % 4 = 0) ∧ (k0_cond2 (grid0.coords t) = 1#1 ↔ t.val / 4 % 4 = 0)
    ∧ (k0_cond3 (grid0.coords t) = 1#1 ↔ ¬ t.val / 4 % 4 = 0) ∧ (k0_cond4 (grid0.coords t) = 1#1 ↔ t.val / 4 % 4 = 3) :=
  (by decide +kernel : ∀ t : Fin grid0.N, _)

/-- The blocks a point works on. -/
theorem index_eq : ∀ t : Fin cfg0.N, (win0_0.index t 0 = 0 ∧ win0_0.index t 1 = 0) ∧ (win0_1.index t 0 = 0 ∧ win0_1.index t 1 = 0)
    ∧ (win0_2.index t 0 = 0 ∧ win0_2.index t 1 = t.val / 4) ∧ (win0_3.index t 0 = t.val % 4 ∧ win0_3.index t 1 = 0)
    ∧ (win0_4.index t 0 = t.val % 4 ∧ win0_4.index t 1 = t.val / 16) ∧ (win0_5.index t 0 = t.val % 4 ∧ win0_5.index t 1 = t.val / 16) :=
  (by decide +kernel : ∀ t : Fin grid0.N, _)

/-! ## The arrays and what is kept of them -/

variable (m : (ℓ : Loc nD τ sig) → Buf (Elt F) ℓ) (ρ : Dev nD → PrngReg) (c : Dev nD)

/-- The data. -/
def argX : Vec F S2048x768 .f32 := m ((c.tc : Thread nD τ).loc main_arg0)
/-- The bias. -/
def argB : Vec F S1x768 .f32 := m ((c.tc : Thread nD τ).loc main_arg1)
/-- The weights. -/
def argW : Vec F S768x49152 .f32 := m ((c.tc : Thread nD τ).loc main_arg2)

/-- A tile's block of weight columns. -/
def colsOf (n : ℕ) : Vec F S768x2048 .f32 := fun y =>
  argW m c (ix2 (y 0) (Fin.ofNat 49152 (n * 2048 + (y 1).val)))

/-- What the first `n + 1` tiles of a group leave for one block of rows: the maxima and their features. -/
def kept (g : ℕ) (b : Fin 4) : ℕ → Vec F S1x512x128 .f32 × Vec F S1x512x128 .i32
  | 0 => (tileMx (rowsOf b (argX m c)) (argB m c) (k0_pay15 (colsOf m c (4 * g))),
      tileIx (BitVec.ofNat 32 g) (BitVec.ofNat 32 0) (rowsOf b (argX m c)) (argB m c) (k0_pay15 (colsOf m c (4 * g))))
  | n + 1 => (joinMx (rowsOf b (argX m c)) (argB m c) (k0_pay15 (colsOf m c (4 * g + (n + 1)))) (kept g b n).1,
      joinIx (BitVec.ofNat 32 g) (BitVec.ofNat 32 (n + 1)) (rowsOf b (argX m c)) (argB m c) (k0_pay15 (colsOf m c (4 * g + (n + 1)))) (kept g b n).1 (kept g b n).2)

/-- Every point reads the whole data. -/
theorem iblk_x (t : Fin cfg0.N) : iblk m c 0 t = argX m c := by
  funext y
  unfold iblk
  rw [View.read_apply]
  show m _ _ = m _ _
  congr 1
  funext a
  apply Fin.ext
  match a with
  | ⟨0, _⟩ => show win0_0.index t 0 * 2048 + 1 * (y 0).val = (y 0).val; rw [(index_eq t).1.1]; omega
  | ⟨1, _⟩ => show win0_0.index t 1 * 768 + 1 * (y 1).val = (y 1).val; rw [(index_eq t).1.2]; omega

/-- Every point reads the whole bias. -/
theorem iblk_b (t : Fin cfg0.N) : iblk m c 1 t = argB m c := by
  funext y
  unfold iblk
  rw [View.read_apply]
  show m _ _ = m _ _
  congr 1
  funext a
  apply Fin.ext
  match a with
  | ⟨0, _⟩ => show win0_1.index t 0 * 1 + 1 * (y 0).val = (y 0).val; rw [(index_eq t).2.1.1]; omega
  | ⟨1, _⟩ => show win0_1.index t 1 * 768 + 1 * (y 1).val = (y 1).val; rw [(index_eq t).2.1.2]; omega

/-- A point reads its tile's block of weight columns. -/
theorem iblk_w (t : Fin cfg0.N) : iblk m c 2 t = colsOf m c (t.val / 4) := by
  have hN := lt_of_lt_of_eq t.isLt (show cfg0.N = 96 from N_0)
  funext y
  unfold iblk
  rw [View.read_apply]
  show m _ _ = m _ _
  congr 1
  funext a
  apply Fin.ext
  match a with
  | ⟨0, _⟩ => show win0_2.index t 0 * 768 + 1 * (y 0).val = (y 0).val; rw [(index_eq t).2.2.1.1]; omega
  | ⟨1, _⟩ =>
    have h1 : (y 1).val < 2048 := (y 1).isLt
    show win0_2.index t 1 * 2048 + 1 * (y 1).val = (t.val / 4 * 2048 + (y 1).val) % 49152
    rw [(index_eq t).2.2.1.2]; omega

/-! ## The invariant -/

/-- How many tiles of the current group are done for a block of rows before point `n`. -/
def done (n : ℕ) (b : Fin 4) : ℕ := n / 4 % 4 + if b.val < n % 4 then 1 else 0

/-- What the scratch buffers hold before point `n`. -/
def Inv (n : ℕ) (w : Vec F S768x2048 .bf16) (mm : Vec F S4x512x128 .f32) (ff : Vec F S4x512x128 .i32) : Prop :=
  (¬ n % 4 = 0 → w = k0_pay15 (colsOf m c (n / 4)))
    ∧ ∀ (b : Fin 4) (k : ℕ), done n b = k + 1 → slot b mm = (kept m c (n / 16) b k).1 ∧ slot b ff = (kept m c (n / 16) b k).2

/-- Nothing is asked before the first point. -/
theorem inv_zero (w : Vec F S768x2048 .bf16) (mm : Vec F S4x512x128 .f32) (ff : Vec F S4x512x128 .i32) : Inv m c 0 w mm ff :=
  ⟨fun h => absurd rfl h, fun b k h => by simp [done] at h⟩

/-- A point puts its tile in. -/
theorem inv_step (n : ℕ) (b : Fin 4) (hb : b.val = n % 4) (w : Vec F S768x2048 .bf16) (mm : Vec F S4x512x128 .f32) (ff : Vec F S4x512x128 .i32)
    (h : Inv m c n w mm ff) :
    Inv m c (n + 1) (k0_pay15 (colsOf m c (n / 4))) (setSlot b mm (kept m c (n / 16) b (n / 4 % 4)).1) (setSlot b ff (kept m c (n / 16) b (n / 4 % 4)).2) := by
  refine ⟨fun h' => by rw [show (n + 1) / 4 = n / 4 by omega], fun b' k hk => ?_⟩
  by_cases hbb : b' = b
  · subst hbb
    rw [slot_setSlot_same, slot_setSlot_same]
    unfold done at hk
    have hk' : k = n / 4 % 4 ∧ (n + 1) / 16 = n / 16 := by split_ifs at hk <;> omega
    rw [hk'.1, hk'.2]; exact ⟨rfl, rfl⟩
  · rw [slot_setSlot_ne hbb, slot_setSlot_ne hbb]
    have hne : b'.val ≠ b.val := fun e => hbb (Fin.ext e)
    have := b'.isLt
    unfold done at hk
    have hk' : done n b' = k + 1 ∧ (n + 1) / 16 = n / 16 := by unfold done; split_ifs at hk ⊢ <;> omega
    rw [hk'.2]
    exact h.2 b' k hk'.1

/-- The rounded columns' scratch. -/
abbrev scM0_0 : Memref sig .tc .vmem S768x2048 .bf16 := Memref.whole cc0_scratch0
/-- The kept maxima's scratch. -/
abbrev scM0_1 : Memref sig .tc .vmem S4x512x128 .f32 := Memref.whole cc0_scratch1
/-- The kept features' scratch. -/
abbrev scM0_2 : Memref sig .tc .vmem S4x512x128 .i32 := Memref.whole cc0_scratch2

/-- The invariant before point `n`. -/
def PhiE (n : ℕ) : sProp 𝕄 :=
  iprop(∃ w, ∃ mm, ∃ ff, ⌜Inv m c n w mm ff⌝ ∗ owns (c : Thread nD τ) scM0_0 fullShare w ∗ owns (c : Thread nD τ) scM0_1 fullShare mm
    ∗ owns (c : Thread nD τ) scM0_2 fullShare ff ∗ (∃ r, prngReg c r))

/-- The launch's own invariant: the scratch buffers at anything, and the generator's register. -/
theorem PhiA_eq : (Pipeline.ΦA spec0 c : sProp 𝕄) = iprop(((∃ d, owns (c : Thread nD τ) scM0_0 fullShare d) ∗ (∃ d, owns (c : Thread nD τ) scM0_1 fullShare d)
    ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The proof data -/

/-- The windows whose contents are described by a relation: the three results. -/
abbrev fgt : Fin 6 → Bool := fun | 0 => false | 1 => false | 2 => false | 3 => true | 4 => true | 5 => true | ⟨_ + 6, h⟩ => absurd h (Nat.not_lt.2 (Nat.le_add_left _ _))

/-- What a point leaves in its result blocks: the normalised rows, and at a group's last tile its maxima and features. -/
def Rl (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun X => X = k0_pay16 (rowsOf (grid0.coords t 2) (argX m c))
  | ⟨4, _⟩ => fun X => t.val / 4 % 4 = 3 → X = k0_pay13 (kept m c (t.val / 16) (grid0.coords t 2) 3).1
  | ⟨5, _⟩ => fun X => t.val / 4 % 4 = 3 → X = k0_pay14 (kept m c (t.val / 16) (grid0.coords t 2) 3).2

/-- The proof data: the arrays as launched, the operands' blocks left in place. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay16 (rowsOf (grid0.coords t 2) (argX m c))
    | ⟨4, _⟩ => k0_pay13 (kept m c 0 0 0).1
    | ⟨5, _⟩ => k0_pay14 (kept m c 0 0 0).2
  Φ t := PhiE m c t.val
  q _ := fullShare
  owed _ := 0

/-- The arrays at the region's entry. -/
theorem A_eq (w : Fin cfg0.W) : (dat m c).A w = V m c (Pipeline.arrRef spec0 w) := by dsimp only [dat]

/-- The data's block is left as it was. -/
theorem after0 (t : Fin cfg0.N) : (dat m c).after 0 t = iblk m c 0 t := by dsimp only [dat]
/-- So is the bias's. -/
theorem after1 (t : Fin cfg0.N) : (dat m c).after 1 t = iblk m c 1 t := by dsimp only [dat]
/-- So is the columns'. -/
theorem after2 (t : Fin cfg0.N) : (dat m c).after 2 t = iblk m c 2 t := by dsimp only [dat]

/-- A point finds the whole data. -/
theorem before0 (t : Fin cfg0.N) (d) : (dat m c).before 0 t d = argX m c :=
  (before0_0_of m (dat m c) (A_eq m c 0) (after0 m c) t d).trans (iblk_x m c t)
/-- It finds the whole bias. -/
theorem before1 (t : Fin cfg0.N) (d) : (dat m c).before 1 t d = argB m c :=
  (before0_1_of m (dat m c) (A_eq m c 1) (after1 m c) t d).trans (iblk_b m c t)
/-- It finds its tile's columns. -/
theorem before2 (t : Fin cfg0.N) (d) : (dat m c).before 2 t d = colsOf m c (t.val / 4) :=
  (before0_2_of m (dat m c) (A_eq m c 2) (after2 m c) t d).trans (iblk_w m c t)

/-- What the body is called with at a point. -/
def bodyPre (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ Y, ⌜((dat m c).toRRel fgt (Rl m c)).Finds 3 t Y⌝ ∗ owns (c : Thread nD τ) (st0_3 t) fullShare Y)
    ∗ (∃ Y, ⌜((dat m c).toRRel fgt (Rl m c)).Finds 4 t Y⌝ ∗ owns (c : Thread nD τ) (st0_4 t) fullShare Y)
    ∗ (∃ Y, ⌜((dat m c).toRRel fgt (Rl m c)).Finds 5 t Y⌝ ∗ owns (c : Thread nD τ) (st0_5 t) fullShare Y))

/-- What it returns. -/
def bodyPost (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ (∃ X, ⌜Rl m c 3 t X⌝ ∗ owns (c : Thread nD τ) (st0_3 t) fullShare X)
    ∗ (∃ X, ⌜Rl m c 4 t X⌝ ∗ owns (c : Thread nD τ) (st0_4 t) fullShare X)
    ∗ (∃ X, ⌜Rl m c 5 t X⌝ ∗ owns (c : Thread nD τ) (st0_5 t) fullShare X))

/-- What a point leaves, by the kind of tile. -/
theorem leaves_at (t : Fin cfg0.N) (w : Vec F S768x2048 .bf16) (mm : Vec F S4x512x128 .f32) (ff : Vec F S4x512x128 .i32)
    (h : Inv m c t.val w mm ff) (o4 : Vec F S512x128 .f32) (o5 : Vec F S512x128 .i32) :
    Leaves (grid0.coords t) (rowsOf (grid0.coords t 2) (argX m c)) (argB m c) (k0_pay15 (colsOf m c (t.val / 4)))
      (slot (grid0.coords t 2) mm) (slot (grid0.coords t 2) ff) o4 o5
      (kept m c (t.val / 16) (grid0.coords t 2) (t.val / 4 % 4)).1 (kept m c (t.val / 16) (grid0.coords t 2) (t.val / 4 % 4)).2
      (if t.val / 4 % 4 = 3 then k0_pay13 (kept m c (t.val / 16) (grid0.coords t 2) (t.val / 4 % 4)).1 else o4)
      (if t.val / 4 % 4 = 3 then k0_pay14 (kept m c (t.val / 16) (grid0.coords t 2) (t.val / 4 % 4)).2 else o5) := by
  obtain ⟨hg, htt, hb⟩ := coords_eq t
  obtain ⟨-, h2, h3, h4⟩ := conds_eq t
  unfold Leaves
  rw [h2, h3, h4, hg, htt]
  have hd (k : ℕ) (hk : t.val / 4 % 4 = k + 1) := h.2 (grid0.coords t 2) k (by unfold done; rw [if_neg (by rw [hb]; omega)]; omega)
  rcases hk : t.val / 4 % 4 with _ | k
  · left
    have e : 4 * (t.val / 16) = t.val / 4 := by omega
    refine ⟨rfl, by omega, by omega, ?_, ?_, rfl, rfl⟩ <;> simp only [kept, e]
  · have e : 4 * (t.val / 16) + (k + 1) = t.val / 4 := by omega
    obtain ⟨e1, e2⟩ := hd k hk
    right
    by_cases hk3 : k + 1 = 3
    · right
      rw [if_pos hk3, if_pos hk3, e1, e2]
      refine ⟨by omega, by omega, hk3, ?_, ?_, rfl, rfl⟩ <;> simp only [kept, e]
    · left
      rw [if_neg hk3, if_neg hk3, e1, e2]
      refine ⟨by omega, by omega, hk3, ?_, ?_, rfl, rfl⟩ <;> simp only [kept, e]

/-- The body's triple at every point. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, after0, after1, after2, iblk_x, iblk_b, iblk_w]
  rw [show (dat m c).owesAt () t.succ = (dat m c).owesAt () t.castSucc from rfl]
  rw [show (dat m c).Φ t.succ = PhiE m c (t.val + 1) from rfl, show (dat m c).Φ t.castSucc = PhiE m c t.val from rfl]
  unfold PhiE
  iintro ⟨⟨%w, %mm, %ff, %hI, HS0, HS1, HS2, Hg⟩, Ho, ⟨%d0, H0⟩, ⟨%d1, H1⟩, ⟨%d2, H2⟩, ⟨%Y3, %hY3, H3⟩, ⟨%Y4, %hY4, H4⟩, ⟨%Y5, %hY5, H5⟩⟩
  have hwb : (condW (grid0.coords t) ∧ k0_pay15 (colsOf m c (t.val / 4)) = k0_pay15 (colsOf m c (t.val / 4)))
      ∨ (¬ condW (grid0.coords t) ∧ k0_pay15 (colsOf m c (t.val / 4)) = w) := by
    rw [(conds_eq t).1]
    by_cases h0 : t.val % 4 = 0
    · exact .inl ⟨h0, rfl⟩
    · exact .inr ⟨h0, (hI.1 h0).symm⟩
  iapply (run c (grid0.coords t) _ _ _ _ _ _ _ _ _ _ _ _ _ _ _ _ _ _ (argX m c) (argB m c) (colsOf m c (t.val / 4)) Y3 Y4 Y5 w
    (k0_pay15 (colsOf m c (t.val / 4))) mm ff _ _ _ _ hwb (leaves_at m c t w mm ff hI Y4 Y5) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · iexists _, _, _
    isplitr
    · ipureintro; exact inv_step m c t.val (grid0.coords t 2) (coords_eq t).2.2 w mm ff hI
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]
  · iexists _; isplitr
    swap; · iexact H3
    ipureintro; exact rfl
  isplitl [H4]
  · iexists _; isplitr
    swap; · iexact H4
    ipureintro; intro h3; rw [if_pos h3, h3]
  · iexists _; isplitr
    swap; · iexact H5
    ipureintro; intro h3; rw [if_pos h3, h3]

/-- The pipeline's row of the body table is the body at the point. -/
theorem row (t : Fin cfg0.N) : (defs₀ (F := F)) .tc cfg0.body (cfg0.bodyArgs t (cfg0.slots t)) = bodyAt0 t := by
  unfold defs₀; rw [Defs.onTc_tc]; try rfl

/-- The library's obligation of the body. -/
theorem body_obligation : BodyObligationRel (dat m c) (defs₀ (F := F)) Variants.none () Set.univ fgt (Rl m c) := fun t => by
  rw [bigSep_W0, bigSep_W0, row]
  exact triple_restated (sound_body m c t) rfl .rfl fun _ => .rfl

/-- What the launch hands the region is the invariant before the first point. -/
theorem hin : (Pipeline.ΦA spec0 c : sProp 𝕄) ⊢ (dat m c).Φ 0 := by
  rw [show (dat m c).Φ 0 = PhiE m c 0 from rfl, PhiA_eq]
  unfold PhiE
  iintro ⟨⟨⟨%w, H0⟩, ⟨%mm, H1⟩, ⟨%ff, H2⟩⟩, Hg⟩
  iexists w, mm, ff
  isplitr
  · ipureintro; exact inv_zero m c w mm ff
  isplitl [H0]; · iexact H0
  isplitl [H1]; · iexact H1
  isplitl [H2]; · iexact H2
  iexact Hg

/-- The invariant after the last point gives the launch's own back. -/
theorem hout : (dat m c).Φ (Fin.last cfg0.N) ⊢ (Pipeline.ΦA spec0 c : sProp 𝕄) := by
  rw [show (dat m c).Φ (Fin.last cfg0.N) = PhiE m c cfg0.N from rfl, PhiA_eq]
  unfold PhiE
  iintro ⟨%w, %mm, %ff, %hI, H0, H1, H2, Hg⟩
  isplitl [H0 H1 H2]
  · isplitl [H0]; · iexists _; iexact H0
    isplitl [H1]; · iexists _; iexact H1
    iexists _; iexact H2
  iexact Hg

/-- The relational proof data. -/
abbrev rdat (c : Dev nD) : RDat τ (Elt F) Unit ℕ (UR sig nD τ) ℕ cfg0 c := (dat m c).toRRel fgt (Rl m c)

set_option backward.isDefEq.respectTransparency.types false in
/-- The whole run: every array ends at something the data allow, and every counter is at zero. -/
theorem run_main : θ_run defs (onTc (τ := τ) (main (F := F))) (s₀ m ρ) (fun r => RDat.FramePost cfg0 (rdat m) (V m) r ∧ r.2.sem = fun _ => 0) :=
  RDat.θ_run_frame_track cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hin := hin m) (hout := hout m) (Q' := _) (hQ' := fun _ h => h)

end Encode
-- ==== Proof.EncodeOut.lean ====
module

public import proofs.«01_k».proof.Proof.EncodeLaunch

@[expose] public section

set_option maxRecDepth 16384

noncomputable section

/-! # The encoder's results as arrays

Each entry of a result is the one last written back over it: for the maxima and features that of the group's last tile. -/

namespace Encode

open Idealize.ShloMosaic Idealize.ShloMosaic.TcCoe
open Idealize.SL Idealize.SL.Sem
open Idealize.ShloMosaic.Pipeline (Dat RDat Cfg Window)
open Cert.EncodeIdeal Cert.EncodeIdeal.Gen

variable {F : FTy → Type} [FloatOps F]
variable (m : (ℓ : Loc nD τ sig) → Buf (Elt F) ℓ) (ρ : Dev nD → PrngReg) (c : Dev nD)

/-- The write-back at point `t₀` decides an entry that no later point's block covers. -/
theorem arrAt_last {c : Dev nD} (d : Dat τ (Elt F) Unit ℕ (UR sig nD τ) ℕ cfg0 c) (w : Fin cfg0.W) (t₀ : Fin cfg0.N) (hf : (cfg0.win w).flush t₀ = true)
    (y : ((cfg0.win w).xblock (cfg0.grid.coords t₀)).Idx)
    (hl : ∀ t : Fin cfg0.N, t₀.val < t.val → ((cfg0.win w).blk t₀).view.emb y ∉ ((cfg0.win w).blk t).view.set) (n : ℕ) (hn : t₀.val + 1 ≤ n) (hN : n ≤ cfg0.N) :
    d.arrAt w n (((cfg0.win w).blk t₀).view.emb y)
      = _root_.cast (congrArg (Elt F) ((cfg0.win w).blk t₀).view.elt_eq.symm) (d.after w t₀ ((cfg0.win w).xinj (cfg0.grid.coords t₀) y)) := by
  induction n, hn using Nat.le_induction with
  | base =>
    rw [d.arrAt_succ_apply, dif_pos t₀.isLt, if_pos hf]
    exact View.write_emb_of_mem _ _ (Finset.mem_univ _)
  | succ n hn ih =>
    rw [d.arrAt_succ_apply, dif_pos (by omega)]
    split_ifs with hfn
    · rw [View.write_of_not_mem _ _ _ (by rw [View.setOn_univ]; exact hl ⟨n, by omega⟩ hn)]
      exact ih (by omega)
    · exact ih (by omega)

/-- The block of rows of a row. -/
def blkOf (i : Fin 2048) : Fin 4 := ⟨i.val / 512, by omega⟩
/-- A row within its block. -/
def inBlk (i : Fin 2048) : Fin 512 := ⟨i.val % 512, by omega⟩
/-- A column's lane. -/
def lane (j : Fin 768) : Fin 128 := ⟨j.val % 128, by omega⟩

/-- The normalised rows. -/
def outX : Vec F S2048x768 .f32 := fun y => k0_pay16 (rowsOf (blkOf (y 0)) (argX m c)) (ix2 (inBlk (y 0)) (y 1))
/-- The maxima. -/
def outM : Vec F S2048x768 .f32 := fun y => k0_pay13 (kept m c ((y 1).val / 128) (blkOf (y 0)) 3).1 (ix2 (inBlk (y 0)) (lane (y 1)))
/-- The features. -/
def outI : Vec F S2048x768 .i32 := fun y => k0_pay14 (kept m c ((y 1).val / 128) (blkOf (y 0)) 3).2 (ix2 (inBlk (y 0)) (lane (y 1)))

/-- The last point of a row's block and a column's group. -/
def lastPt (i : Fin 2048) (g : ℕ) (hg : g < 6) : Fin cfg0.N := ⟨16 * g + 12 + i.val / 512, by rw [show cfg0.N = 96 from N_0]; omega⟩

/-- The last point works on the row's block. -/
theorem coord_last (i : Fin 2048) (g : ℕ) (hg : g < 6) : grid0.coords (lastPt i g hg) 2 = blkOf i := by
  apply Fin.ext
  rw [(coords_eq _).2.2]
  show (16 * g + 12 + i.val / 512) % 4 = i.val / 512
  omega

section
/-- The normalised rows at the end. -/
theorem end_x (d : Dat τ (Elt F) Unit ℕ (UR sig nD τ) ℕ cfg0 c) (h : ∀ t, d.after 3 t = k0_pay16 (rowsOf (grid0.coords t 2) (argX m c))) :
    d.arrAt 3 cfg0.N = outX m c := by
  funext j
  obtain ⟨i, k, rfl⟩ : ∃ (i : Fin 2048) (k : Fin 768), j = ix2 i k := ⟨j 0, j 1, eq_ix2 j⟩
  have hr : i.val / 512 < 4 := by omega
  have he : (ix2 i k : S2048x768.Idx) = ((cfg0.win 3).blk (lastPt i 5 (Nat.lt_succ_self 5))).view.emb (ix2 (inBlk i) k) := by
    refine funext fun a => Fin.ext ?_
    match a with
    | ⟨0, _⟩ =>
      show i.val = win0_3.index (lastPt i 5 _) 0 * 512 + 1 * (i.val % 512)
      rw [(index_eq _).2.2.2.1.1]; show _ = (16 * 5 + 12 + i.val / 512) % 4 * 512 + _; omega
    | ⟨1, _⟩ =>
      show k.val = win0_3.index (lastPt i 5 _) 1 * 768 + 1 * k.val
      rw [(index_eq _).2.2.2.1.2]; omega
  have := arrAt_last d 3 (lastPt i 5 (Nat.lt_succ_self 5)) (flush0_3 _) (ix2 (inBlk i) k) (fun t ht hm => by
    obtain ⟨y, hy⟩ := View.exists_emb_of_mem_set _ hm
    have h0 : win0_3.index (lastPt i 5 (Nat.lt_succ_self 5)) 0 * 512 + 1 * (i.val % 512) = win0_3.index t 0 * 512 + 1 * (y 0).val := (congrArg (fun z => (z 0).val) hy).symm
    have hy0 : (y 0).val < 512 := (y 0).isLt
    have hN := lt_of_lt_of_eq t.isLt (show cfg0.N = 96 from N_0)
    rw [(index_eq _).2.2.2.1.1, (index_eq _).2.2.2.1.1] at h0
    have e : (lastPt i 5 (Nat.lt_succ_self 5)).val = 16 * 5 + 12 + i.val / 512 := rfl
    omega) cfg0.N (lastPt i 5 (Nat.lt_succ_self 5)).isLt le_rfl
  rw [← he] at this
  refine this.trans ?_
  rw [h, coord_last]
  rfl

/-- The maxima at the end. -/
theorem end_m (d : Dat τ (Elt F) Unit ℕ (UR sig nD τ) ℕ cfg0 c)
    (h : ∀ t, t.val / 4 % 4 = 3 → d.after 4 t = k0_pay13 (kept m c (t.val / 16) (grid0.coords t 2) 3).1) :
    d.arrAt 4 cfg0.N = outM m c := by
  funext j
  obtain ⟨i, k, rfl⟩ : ∃ (i : Fin 2048) (k : Fin 768), j = ix2 i k := ⟨j 0, j 1, eq_ix2 j⟩
  have hr : i.val / 512 < 4 := by omega
  have hg : k.val / 128 < 6 := by omega
  have e : (lastPt i (k.val / 128) hg).val = 16 * (k.val / 128) + 12 + i.val / 512 := rfl
  have he : (ix2 i k : S2048x768.Idx) = ((cfg0.win 4).blk (lastPt i (k.val / 128) hg)).view.emb (ix2 (inBlk i) (lane k)) := by
    refine funext fun a => Fin.ext ?_
    match a with
    | ⟨0, _⟩ =>
      show i.val = win0_4.index (lastPt i (k.val / 128) hg) 0 * 512 + 1 * (i.val % 512)
      rw [(index_eq _).2.2.2.2.1.1, e]; omega
    | ⟨1, _⟩ =>
      show k.val = win0_4.index (lastPt i (k.val / 128) hg) 1 * 128 + 1 * (k.val % 128)
      rw [(index_eq _).2.2.2.2.1.2, e]; omega
  have := arrAt_last d 4 (lastPt i (k.val / 128) hg) (flush0_4 _) (ix2 (inBlk i) (lane k)) (fun t ht hm => by
    obtain ⟨y, hy⟩ := View.exists_emb_of_mem_set _ hm
    have h0 : win0_4.index (lastPt i (k.val / 128) hg) 0 * 512 + 1 * (i.val % 512) = win0_4.index t 0 * 512 + 1 * (y 0).val := (congrArg (fun z => (z 0).val) hy).symm
    have h1 : win0_4.index (lastPt i (k.val / 128) hg) 1 * 128 + 1 * (k.val % 128) = win0_4.index t 1 * 128 + 1 * (y 1).val := (congrArg (fun z => (z 1).val) hy).symm
    have hy0 : (y 0).val < 512 := (y 0).isLt
    have hy1 : (y 1).val < 128 := (y 1).isLt
    have hN := lt_of_lt_of_eq t.isLt (show cfg0.N = 96 from N_0)
    rw [(index_eq _).2.2.2.2.1.1, (index_eq _).2.2.2.2.1.1, e] at h0
    rw [(index_eq _).2.2.2.2.1.2, (index_eq _).2.2.2.2.1.2, e] at h1
    omega) cfg0.N (lastPt i (k.val / 128) hg).isLt le_rfl
  rw [← he] at this
  refine this.trans ?_
  rw [h _ (by rw [e]; omega), coord_last, e, show (16 * (k.val / 128) + 12 + i.val / 512) / 16 = k.val / 128 by omega]
  rfl

/-- The features at the end. -/
theorem end_i (d : Dat τ (Elt F) Unit ℕ (UR sig nD τ) ℕ cfg0 c)
    (h : ∀ t, t.val / 4 % 4 = 3 → d.after 5 t = k0_pay14 (kept m c (t.val / 16) (grid0.coords t 2) 3).2) :
    d.arrAt 5 cfg0.N = outI m c := by
  funext j
  obtain ⟨i, k, rfl⟩ : ∃ (i : Fin 2048) (k : Fin 768), j = ix2 i k := ⟨j 0, j 1, eq_ix2 j⟩
  have hr : i.val / 512 < 4 := by omega
  have hg : k.val / 128 < 6 := by omega
  have e : (lastPt i (k.val / 128) hg).val = 16 * (k.val / 128) + 12 + i.val / 512 := rfl
  have he : (ix2 i k : S2048x768.Idx) = ((cfg0.win 5).blk (lastPt i (k.val / 128) hg)).view.emb (ix2 (inBlk i) (lane k)) := by
    refine funext fun a => Fin.ext ?_
    match a with
    | ⟨0, _⟩ =>
      show i.val = win0_5.index (lastPt i (k.val / 128) hg) 0 * 512 + 1 * (i.val % 512)
      rw [(index_eq _).2.2.2.2.2.1, e]; omega
    | ⟨1, _⟩ =>
      show k.val = win0_5.index (lastPt i (k.val / 128) hg) 1 * 128 + 1 * (k.val % 128)
      rw [(index_eq _).2.2.2.2.2.2, e]; omega
  have := arrAt_last d 5 (lastPt i (k.val / 128) hg) (flush0_5 _) (ix2 (inBlk i) (lane k)) (fun t ht hm => by
    obtain ⟨y, hy⟩ := View.exists_emb_of_mem_set _ hm
    have h0 : win0_5.index (lastPt i (k.val / 128) hg) 0 * 512 + 1 * (i.val % 512) = win0_5.index t 0 * 512 + 1 * (y 0).val := (congrArg (fun z => (z 0).val) hy).symm
    have h1 : win0_5.index (lastPt i (k.val / 128) hg) 1 * 128 + 1 * (k.val % 128) = win0_5.index t 1 * 128 + 1 * (y 1).val := (congrArg (fun z => (z 1).val) hy).symm
    have hy0 : (y 0).val < 512 := (y 0).isLt
    have hy1 : (y 1).val < 128 := (y 1).isLt
    have hN := lt_of_lt_of_eq t.isLt (show cfg0.N = 96 from N_0)
    rw [(index_eq _).2.2.2.2.2.1, (index_eq _).2.2.2.2.2.1, e] at h0
    rw [(index_eq _).2.2.2.2.2.2, (index_eq _).2.2.2.2.2.2, e] at h1
    omega) cfg0.N (lastPt i (k.val / 128) hg).isLt le_rfl
  rw [← he] at this
  refine this.trans ?_
  rw [h _ (by rw [e]; omega), coord_last, e, show (16 * (k.val / 128) + 12 + i.val / 512) / 16 = k.val / 128 by omega]
  rfl

end

set_option backward.isDefEq.respectTransparency.types false in
/-- The whole run: the three results, the arguments unchanged, every counter at zero. -/
theorem run_out : θ_run defs (onTc (τ := τ) (main (F := F))) (s₀ m ρ) (fun r => (∀ c : Dev nD,
      (r.2.mem ((c.tc : Thread nD τ).loc main_v0_0) = outX m c ∧ r.2.mem ((c.tc : Thread nD τ).loc main_v0_1) = outM m c
        ∧ r.2.mem ((c.tc : Thread nD τ).loc main_v0_2) = outI m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  refine (θ_run defs _ _).mono (fun r h => ⟨fun c => ⟨?_, ?_, ?_, ?_⟩, h.2⟩) (run_main m ρ)
  · obtain ⟨after, hL, hA⟩ := h.1.exists_exact c
    refine ⟨(hA 3).trans (end_x m c _ fun t => ?_), (hA 4).trans (end_m m c _ fun t ht => ?_), (hA 5).trans (end_i m c _ fun t ht => ?_)⟩
    · exact Dat.toRRel_leaves (dat m c) (fgt := fgt) (Rl := Rl m c) (w := 3) rfl (hL 3 t (flush0_3 t))
    · exact Dat.toRRel_leaves (dat m c) (fgt := fgt) (Rl := Rl m c) (w := 4) rfl (hL 4 t (flush0_4 t)) ht
    · exact Dat.toRRel_leaves (dat m c) (fgt := fgt) (Rl := Rl m c) (w := 5) rfl (hL 5 t (flush0_5 t)) ht
  · exact h.1.arr_in c 0 rfl
  · exact h.1.arr_in c 1 rfl
  · exact h.1.arr_in c 2 rfl

end Encode
-- ==== Proof.EncodeTop.lean ====
module

public import Mathlib.Data.EReal.Operations
public import Mathlib.Algebra.BigOperators.Fin

@[expose] public section

/-! # The greatest entry of a run and where it first stands

A run of entries `u lo, …, u (hi - 1)`, each with a label; what is kept of it is the greatest and the label of the first place it stands at. -/

namespace EncodeTop

/-- `M` is the greatest entry of a run, and `a` the label of the first place it stands at. -/
def Top {α : Type} (u : ℕ → EReal) (w : ℕ → α) (lo hi : ℕ) (M : EReal) (a : α) : Prop :=
  ∃ A, lo ≤ A ∧ A < hi ∧ (∀ n, lo ≤ n → n < hi → u n ≤ u A) ∧ (∀ n, lo ≤ n → n < A → u n < u A) ∧ M = u A ∧ a = w A

variable {α β : Type} {u : ℕ → EReal} {w : ℕ → α} {lo mid hi : ℕ} {M M' : EReal} {a a' : α}

/-- A run of one entry. -/
theorem Top.one (u : ℕ → EReal) (w : ℕ → α) (n : ℕ) : Top u w n (n + 1) (u n) (w n) :=
  ⟨n, le_refl _, Nat.lt_succ_self _, fun k h h' => (show k = n by omega) ▸ le_refl _, fun k h h' => absurd h' (by omega), rfl, rfl⟩

/-- Two runs, one after the other: the later one's greatest is taken only when it is strictly greater. -/
theorem Top.join (h : Top u w lo mid M a) (h' : Top u w mid hi M' a') (c : Prop) [Decidable c] (hc : c ↔ M < M') :
    Top u w lo hi (if c then M' else M) (if c then a' else a) := by
  obtain ⟨A, h1, h2, h3, h4, rfl, rfl⟩ := h
  obtain ⟨A', k1, k2, k3, k4, rfl, rfl⟩ := h'
  by_cases hlt : u A < u A'
  · rw [if_pos (hc.mpr hlt), if_pos (hc.mpr hlt)]
    refine ⟨A', by omega, k2, fun n hn hn' => ?_, fun n hn hn' => ?_, rfl, rfl⟩
    · rcases Nat.lt_or_ge n mid with hm | hm
      · exact (h3 n hn hm).trans hlt.le
      · exact k3 n hm hn'
    · rcases Nat.lt_or_ge n mid with hm | hm
      · exact (h3 n hn hm).trans_lt hlt
      · exact k4 n hm hn'
  · rw [if_neg (fun h => hlt (hc.mp h)), if_neg (fun h => hlt (hc.mp h))]
    refine ⟨A, h1, by omega, fun n hn hn' => ?_, h4, rfl, rfl⟩
    rcases Nat.lt_or_ge n mid with hm | hm
    · exact h3 n hn hm
    · exact (k3 n hm hn').trans (not_lt.mp hlt)

/-- The labels renamed. -/
theorem Top.rename (h : Top u w lo hi M a) (f : α → β) : Top u (fun n => f (w n)) lo hi M (f a) := by
  obtain ⟨A, h1, h2, h3, h4, rfl, rfl⟩ := h
  exact ⟨A, h1, h2, h3, h4, rfl, rfl⟩

/-- A run read from further on. -/
theorem Top.shift (d : ℕ) (h : Top (fun n => u (d + n)) (fun n => w (d + n)) lo hi M a) : Top u w (d + lo) (d + hi) M a := by
  obtain ⟨A, h1, h2, h3, h4, rfl, rfl⟩ := h
  refine ⟨d + A, by omega, by omega, fun n hn hn' => ?_, fun n hn hn' => ?_, rfl, rfl⟩
  · have := h3 (n - d) (by omega) (by omega); simpa only [show d + (n - d) = n by omega] using this
  · have := h4 (n - d) (by omega) (by omega); simpa only [show d + (n - d) = n by omega] using this

/-- Only the labels within the run count. -/
theorem Top.congr {w' : ℕ → α} (h : Top u w lo hi M a) (e : ∀ n, lo ≤ n → n < hi → w n = w' n) : Top u w' lo hi M a := by
  obtain ⟨A, h1, h2, h3, h4, rfl, rfl⟩ := h
  exact ⟨A, h1, h2, h3, h4, rfl, e A h1 h2⟩

/-- The product of a row, less the bias, and a feature's column. -/
noncomputable def encOf (x : Fin 2048 → Fin 768 → EReal) (b : Fin 768 → EReal) (w : Fin 768 → Fin 49152 → EReal) (i : Fin 2048) (f : ℕ) : EReal :=
  ∑ k : Fin 768, (x i k - b k) * w k (Fin.ofNat 49152 f)

end EncodeTop
-- ==== Proof.EncodeValue.lean ====
module

public import proofs.«01_k».proof.Proof.EncodeOut
public import proofs.«01_k».proof.Proof.EncodeTop
public import Idealize.ShloMosaic.Lib.Pointwise

@[expose] public section

set_option maxRecDepth 16384

noncomputable section

/-! # The encoder's results over the extended reals

Every entry of a tile is the product of a normalised row and a feature's column; what is kept of a bin is its greatest entry and the first
feature that has it. -/

namespace Encode

open Idealize.ShloMosaic Idealize.ShloMosaic.TcCoe
open Cert.EncodeIdeal Cert.EncodeIdeal.Gen
open EncodeTop

/-! ## The slabs of a tile -/

/-- One comparison of the chain at an entry: the slab's entry is taken, with its label, only when it is strictly greater. -/
theorem step {u : ℕ → EReal} {w : ℕ → BitVec 32} {n : ℕ} (y : S512x128.Idx) {old new : FVec Ideal S512x128 .f32} {a b : IVec S512x128 32}
    (h : Top u w 0 n (old y) (a y)) (hn : new y = u n) (hb : b y = w n) :
    Top u w 0 (n + 1) (select (cmpf .ogt new old) new old y) (select (cmpf .ogt new old) b a y) := by
  have h1 : Top u w n (n + 1) (new y) (b y) := by rw [hn, hb]; exact Top.one u w n
  refine h.join h1 (cmpf .ogt new old y = 1) ?_
  show Ideal.cmp .ogt (new y) (old y) = 1 ↔ _
  unfold Ideal.cmp
  by_cases hc : (old y : EReal) < new y
  · simp [hc]
  · simp [hc]

/-- An entry of a slab of a tile. -/
theorem slab_at (P : FVec Ideal S512x2048 .f32) (n : ℕ) (hn : n < 16) (h : S512x2048.Slices ![0, n * 128] S512x128) (r : Fin 512) (l : Fin 128) :
    extractStridedSlice S512x128 ![0, n * 128] P h (ix2 r l) = P (ix2 r ⟨n * 128 + l.val, by have := l.isLt; omega⟩) := by
  unfold extractStridedSlice
  congr 1
  funext a
  apply Fin.ext
  match a with
  | ⟨0, _⟩ => show 0 + r.val = r.val; omega
  | ⟨1, _⟩ => rfl

/-- The slab at which a tile's maxima are met. -/
def slabs (v5 : Vec Ideal S512x768 .f32) (s : Vec Ideal S1x768 .f32) (W : Vec Ideal S768x2048 .bf16) : IVec S512x128 32 :=
  select (k0_pay4 (k0_pay17 v5 s W) (partMx v5 s W) (k0_pay60 (k0_pay17 v5 s W))) (broadcast S512x128 15#32)
    (select (k0_pay1 (partMx v5 s W) (k0_pay60 (k0_pay17 v5 s W))) (broadcast S512x128 14#32) (partIx v5 s W))

section
variable (v5 : Vec Ideal S512x768 .f32) (s : Vec Ideal S1x768 .f32) (W : Vec Ideal S768x2048 .bf16) (r : Fin 512) (l : Fin 128) (u : ℕ → EReal)
  (hu : ∀ n (hn : n < 16), k0_pay17 v5 s W (ix2 r ⟨n * 128 + l.val, by have := l.isLt; omega⟩) = u n)

include hu in
/-- A tile's maxima and the slabs at which they are met. -/
theorem tile_top : Top u (BitVec.ofNat 32) 0 16
    (k0_pay5 (k0_pay17 v5 s W) (partMx v5 s W) (k0_pay60 (k0_pay17 v5 s W)) (ix2 r l)) (slabs v5 s W (ix2 r l)) := by
  have e (n : ℕ) (hn : n < 16) (h : S512x2048.Slices ![0, n * 128] S512x128) :
      extractStridedSlice S512x128 ![0, n * 128] (k0_pay17 v5 s W) h (ix2 r l) = u n := (slab_at _ n hn h r l).trans (hu n hn)
  have h0 : Top u (BitVec.ofNat 32) 0 1 (k0_pay18 v5 s W (ix2 r l)) (broadcast S512x128 0#32 (ix2 r l)) := by
    have := Top.one u (BitVec.ofNat 32) 0
    rw [← e 0 (by omega) slices_S512x2048_o0_0_S512x128] at this
    exact this
  have h1 := step (old := k0_pay18 v5 s W) (new := k0_pay19 v5 s W) (b := broadcast S512x128 1#32) _ h0 (e 1 (by omega) slices_S512x2048_o0_128_S512x128) rfl
  have h2 := step (old := k0_pay21 v5 s W) (new := k0_pay22 v5 s W) (b := broadcast S512x128 2#32) _ h1 (e 2 (by omega) slices_S512x2048_o0_256_S512x128) rfl
  have h3 := step (old := k0_pay24 v5 s W) (new := k0_pay25 v5 s W) (b := broadcast S512x128 3#32) _ h2 (e 3 (by omega) slices_S512x2048_o0_384_S512x128) rfl
  have h4 := step (old := k0_pay27 v5 s W) (new := k0_pay29 v5 s W) (a := k0_pay28 v5 s W) (b := broadcast S512x128 4#32) _ h3
    (e 4 (by omega) slices_S512x2048_o0_512_S512x128) rfl
  have h5 := step (old := k0_pay31 (k0_pay27 v5 s W) (k0_pay29 v5 s W)) (new := k0_pay32 (k0_pay17 v5 s W)) (b := broadcast S512x128 5#32) _ h4
    (e 5 (by omega) slices_S512x2048_o0_640_S512x128) rfl
  have h6 := step (old := k0_pay34 (k0_pay17 v5 s W) (k0_pay27 v5 s W) (k0_pay29 v5 s W)) (new := k0_pay35 (k0_pay17 v5 s W)) (b := broadcast S512x128 6#32) _ h5
    (e 6 (by omega) slices_S512x2048_o0_768_S512x128) rfl
  have h7 := step (old := k0_pay37 (k0_pay17 v5 s W) (k0_pay27 v5 s W) (k0_pay29 v5 s W)) (new := k0_pay38 (k0_pay17 v5 s W)) (b := broadcast S512x128 7#32) _ h6
    (e 7 (by omega) slices_S512x2048_o0_896_S512x128) rfl
  have h8 := step (old := k0_pay40 (k0_pay17 v5 s W) (k0_pay27 v5 s W) (k0_pay29 v5 s W)) (new := k0_pay41 (k0_pay17 v5 s W)) (b := broadcast S512x128 8#32) _ h7
    (e 8 (by omega) slices_S512x2048_o0_1024_S512x128) rfl
  have h9 := step (old := k0_pay43 (k0_pay17 v5 s W) (k0_pay27 v5 s W) (k0_pay29 v5 s W)) (new := k0_pay44 (k0_pay17 v5 s W)) (b := broadcast S512x128 9#32) _ h8
    (e 9 (by omega) slices_S512x2048_o0_1152_S512x128) rfl
  have h10 := step (old := k0_pay46 (k0_pay17 v5 s W) (k0_pay27 v5 s W) (k0_pay29 v5 s W)) (new := k0_pay47 (k0_pay17 v5 s W)) (b := broadcast S512x128 10#32) _ h9
    (e 10 (by omega) slices_S512x2048_o0_1280_S512x128) rfl
  have h11 := step (old := k0_pay49 (k0_pay17 v5 s W) (k0_pay27 v5 s W) (k0_pay29 v5 s W)) (new := k0_pay50 (k0_pay17 v5 s W)) (b := broadcast S512x128 11#32) _ h10
    (e 11 (by omega) slices_S512x2048_o0_1408_S512x128) rfl
  have h12 := step (old := k0_pay52 (k0_pay17 v5 s W) (k0_pay27 v5 s W) (k0_pay29 v5 s W)) (new := k0_pay53 (k0_pay17 v5 s W)) (b := broadcast S512x128 12#32) _ h11
    (e 12 (by omega) slices_S512x2048_o0_1536_S512x128) rfl
  have h13 := step (old := k0_pay55 (k0_pay17 v5 s W) (k0_pay27 v5 s W) (k0_pay29 v5 s W)) (new := k0_pay56 (k0_pay17 v5 s W)) (b := broadcast S512x128 13#32) _ h12
    (e 13 (by omega) slices_S512x2048_o0_1664_S512x128) rfl
  have h14 := step (old := partMx v5 s W) (new := k0_pay60 (k0_pay17 v5 s W)) (a := partIx v5 s W) (b := broadcast S512x128 14#32) _ h13
    (e 14 (by omega) slices_S512x2048_o0_1792_S512x128) rfl
  exact step (old := k0_pay2 (partMx v5 s W) (k0_pay60 (k0_pay17 v5 s W))) (new := k0_pay3 (k0_pay17 v5 s W)) (b := broadcast S512x128 15#32) _ h14
    (e 15 (by omega) slices_S512x2048_o0_1920_S512x128) rfl

/-- The feature a slab's lane stands for, as the kernel computes it. -/
def feat (a0 a1 w : BitVec 32) (l : Fin 128) : BitVec 32 := a0 * 8192#32 + (a1 * 16#32 + w) * 128#32 + BitVec.ofNat 32 l.val

/-- The features at which a tile's maxima are met. -/
theorem feats_at (a0 a1 : BitVec 32) : k0_pay6 a0 a1 (k0_pay17 v5 s W) (partMx v5 s W) (partIx v5 s W) (k0_pay60 (k0_pay17 v5 s W)) (ix2 r l)
    = feat a0 a1 (slabs v5 s W (ix2 r l)) l := by
  show _ + iota .tc S512x128 32 [1] iota_S512x128_d1_w32 (ix2 r l) = _ + BitVec.ofNat 32 l.val
  rw [iota_single_apply]
  rfl

include hu in
/-- What a tile gives of a bin. -/
theorem tile_feats (a0 a1 : BitVec 32) : Top u (fun n => feat a0 a1 (BitVec.ofNat 32 n) l) 0 16
    (k0_pay5 (k0_pay17 v5 s W) (partMx v5 s W) (k0_pay60 (k0_pay17 v5 s W)) (ix2 r l))
    (k0_pay6 a0 a1 (k0_pay17 v5 s W) (partMx v5 s W) (partIx v5 s W) (k0_pay60 (k0_pay17 v5 s W)) (ix2 r l)) := by
  rw [feats_at]
  exact (tile_top v5 s W r l u hu).rename fun w => feat a0 a1 w l

/-- A tile's stored maxima at an entry. -/
theorem tileMx_at : tileMx v5 s W (ix3 0 r l) = k0_pay5 (k0_pay17 v5 s W) (partMx v5 s W) (k0_pay60 (k0_pay17 v5 s W)) (ix2 r l) := by
  unfold tileMx k0_pay7
  simp only [pointwise]

/-- A tile's stored features at an entry. -/
theorem tileIx_at (a0 a1 : BitVec 32) : tileIx a0 a1 v5 s W (ix3 0 r l)
    = k0_pay6 a0 a1 (k0_pay17 v5 s W) (partMx v5 s W) (partIx v5 s W) (k0_pay60 (k0_pay17 v5 s W)) (ix2 r l) := by
  unfold tileIx k0_pay8
  simp only [pointwise]

/-- A stored entry read back. -/
theorem unlead_at {α : Type} (p : S1x512x128.Idx → α) : shapeCast S512x128 p shapeCasts_S1x512x128_S512x128 (ix2 r l) = p (ix3 0 r l) := by
  simp only [pointwise]

include hu in
/-- A tile's bin joined to the kept one. -/
theorem join_top (a0 a1 : BitVec 32) (p : Vec Ideal S1x512x128 .f32) (q : Vec Ideal S1x512x128 .i32) (U : ℕ → EReal) (w : ℕ → BitVec 32) (d : ℕ)
    (hU : ∀ n, U (d + n) = u n) (hw : ∀ n, n < 16 → w (d + n) = feat a0 a1 (BitVec.ofNat 32 n) l)
    (hp : Top U w 0 d (p (ix3 0 r l)) (q (ix3 0 r l))) :
    Top U w 0 (d + 16) (joinMx v5 s W p (ix3 0 r l)) (joinIx a0 a1 v5 s W p q (ix3 0 r l)) := by
  have h1 : Top U w (d + 0) (d + 16) _ _ := Top.shift d (by
    rw [show (fun n => U (d + n)) = u from funext hU]
    exact (tile_feats v5 s W r l u hu a0 a1).congr fun n _ hn => (hw n hn).symm)
  have hM : joinMx v5 s W p (ix3 0 r l) = if k0_pay10 (k0_pay17 v5 s W) (partMx v5 s W) (k0_pay60 (k0_pay17 v5 s W)) p (ix2 r l) = 1 then
      k0_pay5 (k0_pay17 v5 s W) (partMx v5 s W) (k0_pay60 (k0_pay17 v5 s W)) (ix2 r l) else p (ix3 0 r l) := by
    unfold joinMx k0_pay11
    simp only [pointwise]
    rw [← unlead_at r l p]
    rfl
  have hI : joinIx a0 a1 v5 s W p q (ix3 0 r l) = if k0_pay10 (k0_pay17 v5 s W) (partMx v5 s W) (k0_pay60 (k0_pay17 v5 s W)) p (ix2 r l) = 1 then
      k0_pay6 a0 a1 (k0_pay17 v5 s W) (partMx v5 s W) (partIx v5 s W) (k0_pay60 (k0_pay17 v5 s W)) (ix2 r l) else q (ix3 0 r l) := by
    unfold joinIx k0_pay12
    simp only [pointwise]
    rfl
  rw [hM, hI]
  refine hp.join h1 _ ?_
  show Ideal.cmp .ogt _ (k0_pay9 p (ix2 r l)) = 1 ↔ _
  rw [show k0_pay9 p (ix2 r l) = p (ix3 0 r l) from unlead_at r l p]
  unfold Ideal.cmp
  by_cases hc : (p (ix3 0 r l) : EReal) < k0_pay5 (k0_pay17 v5 s W) (partMx v5 s W) (k0_pay60 (k0_pay17 v5 s W)) (ix2 r l)
  · simp [hc]
  · simp [hc]

end

/-- An entry of a tile: the product of the row and the feature's column. -/
theorem prod_at (v5 : Vec Ideal S512x768 .f32) (s : Vec Ideal S1x768 .f32) (W : Vec Ideal S768x2048 .bf16) (r : Fin 512) (j : Fin 2048) :
    k0_pay17 v5 s W (ix2 r j) = ∑ k : Fin 768, (k0_pay16 v5 (ix2 r k) - s (ix2 0 k)) * W (ix2 k j) := by
  unfold k0_pay17
  simp only [pointwise]
  rw [zero_add]
  rfl

/-- An entry of a block's rows. -/
theorem rows_at (b : Fin 4) (x : Vec Ideal S2048x768 .f32) (r : Fin 512) (k : Fin 768) :
    rowsOf b x (ix2 r k) = x (ix2 ⟨b.val * 512 + r.val, by omega⟩ k) := by
  unfold rowsOf VecWindow.window
  congr 1
  funext a
  apply Fin.ext
  match a with
  | ⟨0, _⟩ => show b.val * 512 + 1 * r.val = b.val * 512 + r.val; omega
  | ⟨1, _⟩ => show 0 + 1 * k.val = k.val; omega

variable (m : (ℓ : Loc nD τ sig) → Buf (Elt Ideal) ℓ) (c : Dev nD)

/-- A normalised entry. -/
def normed (x : EReal) : EReal := min (Ideal.ofBits .f32 0x41200000#32) (max (Ideal.ofBits .f32 0xC1200000#32) (x * Ideal.ofBits .f32 0x41DDB3D7#32))

/-- The kernel's product of a row and a feature's column. -/
def code (i : Fin 2048) (f : ℕ) : EReal :=
  encOf (fun i k => normed (argX m c (ix2 i k))) (fun k => argB m c (ix2 0 k)) (fun k f => argW m c (ix2 k f)) i f

/-- An entry of the normalised rows. -/
theorem outX_at (i : Fin 2048) (k : Fin 768) : outX m c (ix2 i k) = normed (argX m c (ix2 i k)) := by
  unfold outX k0_pay16
  simp only [pointwise]
  rw [rows_at]
  have e : (⟨(blkOf i).val * 512 + (inBlk i).val, by omega⟩ : Fin 2048) = i := Fin.ext (by simp only [blkOf, inBlk]; omega)
  rw [e]
  rfl

/-- What is kept of a bin after a number of tiles. -/
theorem kept_top (g : ℕ) (b : Fin 4) (r : Fin 512) (l : Fin 128) (n : ℕ) :
    Top (fun n => code m c ⟨b.val * 512 + r.val, by omega⟩ (g * 8192 + n * 128 + l.val)) (fun n => BitVec.ofNat 32 (g * 8192 + n * 128 + l.val)) 0 (16 * n + 16)
      ((kept m c g b n).1 (ix3 0 r l)) ((kept m c g b n).2 (ix3 0 r l)) := by
  have hu (t : ℕ) (n : ℕ) (hn : n < 16) : k0_pay17 (rowsOf b (argX m c)) (argB m c) (k0_pay15 (colsOf m c (4 * g + t))) (ix2 r ⟨n * 128 + l.val, by omega⟩)
      = code m c ⟨b.val * 512 + r.val, by omega⟩ (g * 8192 + (16 * t + n) * 128 + l.val) := by
    rw [prod_at]
    unfold code encOf
    refine Finset.sum_congr rfl fun k _ => ?_
    congr 2
    · unfold k0_pay16
      simp only [pointwise]
      rw [rows_at]
      rfl
    · unfold k0_pay15
      simp only [pointwise]
      unfold colsOf
      show argW m c (ix2 k (Fin.ofNat 49152 ((4 * g + t) * 2048 + (n * 128 + l.val)))) = argW m c (ix2 k (Fin.ofNat 49152 (g * 8192 + (16 * t + n) * 128 + l.val)))
      congr 3
      omega
  have hw (t : ℕ) (n : ℕ) : BitVec.ofNat 32 (g * 8192 + (16 * t + n) * 128 + l.val) = feat (BitVec.ofNat 32 g) (BitVec.ofNat 32 t) (BitVec.ofNat 32 n) l := by
    unfold feat
    simp only [← BitVec.ofNat_mul, ← BitVec.ofNat_add]
    congr 1
    omega
  induction n with
  | zero =>
    rw [show (kept m c g b 0).1 (ix3 0 r l) = _ from tileMx_at _ _ _ r l, show (kept m c g b 0).2 (ix3 0 r l) = _ from tileIx_at _ _ _ r l _ _]
    have := (tile_feats _ _ _ r l (fun n => code m c ⟨b.val * 512 + r.val, by omega⟩ (g * 8192 + (16 * 0 + n) * 128 + l.val)) (hu 0)
      (BitVec.ofNat 32 g) (BitVec.ofNat 32 0)).congr fun n _ _ => (hw 0 n).symm
    simpa only [Nat.mul_zero, Nat.zero_add, Nat.add_zero] using this
  | succ n ih =>
    exact join_top _ _ _ r l _ (hu (n + 1)) (BitVec.ofNat 32 g) (BitVec.ofNat 32 (n + 1)) _ _ _ _ (16 * n + 16) (fun k => rfl) (fun k _ => hw (n + 1) k) ih

/-- What the kernel gives of a bin: its greatest product and the first feature that has it. -/
theorem out_top (i : Fin 2048) (j : Fin 768) :
    Top (fun n => code m c i (j.val / 128 * 8192 + n * 128 + j.val % 128)) (fun n => BitVec.ofNat 32 (j.val / 128 * 8192 + n * 128 + j.val % 128)) 0 64
      (outM m c (ix2 i j)) (outI m c (ix2 i j)) := by
  have h := kept_top m c (j.val / 128) (blkOf i) (inBlk i) (lane j) 3
  have e : (⟨(blkOf i).val * 512 + (inBlk i).val, by omega⟩ : Fin 2048) = i := Fin.ext (by simp only [blkOf, inBlk]; omega)
  rw [e] at h
  rw [← unlead_at (inBlk i) (lane j) (kept m c (j.val / 128) (blkOf i) 3).1, ← unlead_at (inBlk i) (lane j) (kept m c (j.val / 128) (blkOf i) 3).2] at h
  exact h

end Encode
-- ==== Proof.EncodeRef.lean ====
module

public import proofs.«01_k».proof.Proof.Gen.EncodeReferenceIdeal.Run
public import proofs.«01_k».proof.Proof.EncodeTop
public import proofs.«01_k».proof.Proof.SelectRound
public import Idealize.ShloMosaic.Lib.Pointwise

@[expose] public section

set_option maxRecDepth 16384

noncomputable section

/-! The encoding reference's results, entry by entry: the normalised rows, each bin's greatest product, and the first feature that has it. -/

namespace Cert.Proof.EncodeRef

open Cert.EncodeReferenceIdeal Cert.EncodeReferenceIdeal.Gen Idealize.ShloMosaic EncodeTop

variable (X : FVec Ideal S2048x768 .f32) (B : FVec Ideal S1x768 .f32) (W : FVec Ideal S768x49152 .f32)

/-- The normalised rows. -/
def xn : FVec Ideal S2048x768 .f32 :=
  minimumf (broadcastInDim S2048x768 ![] bcast_S_S2048x768 (constant S_ .f32 0x41200000#32))
    (maximumf (broadcastInDim S2048x768 ![] bcast_S_S2048x768 (constant S_ .f32 0xC1200000#32))
      (mulf (Host.divf X (broadcastInDim S2048x768 ![] bcast_S_S2048x768 (constant S_ .f32 0x3F800000#32)))
        (broadcastInDim S2048x768 ![] bcast_S_S2048x768 (constant S_ .f32 0x41DDB3D7#32))))

/-- An entry of the normalised rows. -/
theorem xn_at (i : Fin 2048) (k : Fin 768) :
    xn X (ix2 i k) = min (Ideal.ofBits .f32 0x41200000#32) (max (Ideal.ofBits .f32 0xC1200000#32) (X (ix2 i k) * Ideal.ofBits .f32 0x41DDB3D7#32)) := by
  unfold xn
  simp only [pointwise]
  unfold Ideal.div
  rw [if_neg one_ne_zero, show ((1 : EReal)⁻¹) = 1 from by norm_num, mul_one]

/-- The products, by bin. -/
def bins : FVec Ideal S2048x6x64x128 .f32 :=
  shapeCast S2048x6x64x128 (Host.dotGeneral dot_S2048x768_S768x49152_S2048x49152_1_0_0_1_n_n none
    (subf (xn X) (broadcastInDim S2048x768 ![0, 1] bcast_S1x768_S2048x768_0_1 B)) W) shapeCasts_S2048x49152_S2048x6x64x128

/-- A product. -/
theorem bins_at (i : Fin 2048) (g : Fin 6) (n : Fin 64) (l : Fin 128) :
    bins X B W (ix4 i g n l) = encOf (fun i k => xn X (ix2 i k)) (fun k => B (ix2 0 k)) (fun k f => W (ix2 k f)) i (g.val * 8192 + n.val * 128 + l.val) := by
  unfold bins encOf
  simp only [pointwise]
  rw [zero_add]
  refine Finset.sum_congr rfl fun k _ => ?_
  congr 3
  apply Fin.ext
  show _ = _ % 49152
  rw [Nat.mod_eq_of_lt (by omega)]

/-- Each bin's greatest product. -/
def tops : FVec Ideal S2048x6x128 .f32 :=
  Host.reduce FloatOps.maximumf (bins X B W) (constant S_ .f32 0xFF800000#32) reducesTo_S2048x6x64x128_S2048x6x128_d2 h_S_

/-- The first feature that has it. -/
def firsts : IVec S2048x6x128 32 :=
  Host.reduce IntOp.minsi (select (cmpf .oeq (bins X B W) (broadcastInDim S2048x6x64x128 ![0, 1, 2, 3] bcast_S2048x6x1x128_S2048x6x64x128_0_1_2_3
      (broadcastInDim S2048x6x1x128 ![0, 1, 3] bcast_S2048x6x128_S2048x6x1x128_0_1_3 (tops X B W))))
    (broadcastInDim S2048x6x64x128 ![1, 2, 3] bcast_S6x64x128_S2048x6x64x128_1_2_3 (shapeCast S6x64x128 (iotaInDim S49152 32 0) shapeCasts_S49152_S6x64x128))
    (broadcastInDim S2048x6x64x128 ![] bcast_S_S2048x6x64x128 (constantI S_ 32 49152#32)))
    (constantI S_ 32 2147483647#32) reducesTo_S2048x6x64x128_S2048x6x128_d2 h_S_

section
variable (i : Fin 2048) (g : Fin 6) (l : Fin 128) (M : EReal) (a : BitVec 32)
  (h : Top (fun n => encOf (fun i k => xn X (ix2 i k)) (fun k => B (ix2 0 k)) (fun k f => W (ix2 k f)) i (g.val * 8192 + n * 128 + l.val))
    (fun n => BitVec.ofNat 32 (g.val * 8192 + n * 128 + l.val)) 0 64 M a)

include h in
/-- A bin's greatest product. -/
theorem tops_at : tops X B W (ix3 i g l) = M := by
  unfold tops
  simp only [pointwise]
  simp only [bins_at, Select.word_bot]
  obtain ⟨A, -, hA, hle, -, rfl, -⟩ := h
  apply le_antisymm
  · rw [Finset.fold_max_le]
    exact ⟨bot_le, fun n _ => hle n.val (Nat.zero_le _) n.isLt⟩
  · rw [Finset.le_fold_max]
    exact Or.inr ⟨⟨A, hA⟩, Finset.mem_univ _, le_refl _⟩

/-- A feature's word, read signed. -/
theorem toInt_feature (f : ℕ) (hf : f < 49152) : (BitVec.ofNat 32 f).toInt = f := by
  rw [BitVec.toInt_eq_toNat_cond, BitVec.toNat_ofNat, Nat.mod_eq_of_lt (by omega)]
  split <;> omega

include h in
/-- The first feature that has it. -/
theorem firsts_at : firsts X B W (ix3 i g l) = a := by
  unfold firsts
  simp only [pointwise]
  show Finset.fold IntOp.minsi (2147483647#32) (fun n : Fin 64 => if bins X B W (ix4 i g n l) = tops X B W (ix3 i g l)
    then BitVec.ofNat 32 (g.val * 8192 + n.val * 128 + l.val) else 49152#32) Finset.univ = a
  rw [tops_at X B W i g l M a h]
  simp only [bins_at]
  obtain ⟨A, -, hA, hle, hlt, rfl, rfl⟩ := h
  dsimp only at hlt ⊢
  apply BitVec.eq_of_toInt_eq
  rw [← Finset.fold_hom (op' := (min : Int → Int → Int)) (m := BitVec.toInt) Select.toInt_minsi]
  rw [toInt_feature (g.val * 8192 + A * 128 + l.val) (by omega)]
  apply le_antisymm
  · rw [Finset.fold_min_le]
    refine Or.inr ⟨⟨A, hA⟩, Finset.mem_univ _, ?_⟩
    rw [if_pos rfl, toInt_feature (g.val * 8192 + A * 128 + l.val) (by omega)]
  · rw [Finset.le_fold_min]
    refine ⟨by rw [show (2147483647#32 : BitVec 32).toInt = 2147483647 from by decide]; omega, fun n _ => ?_⟩
    split
    · next he =>
      rw [toInt_feature (g.val * 8192 + n.val * 128 + l.val) (by omega)]
      have : A ≤ n.val := by
        by_contra hn
        exact absurd he (hlt n.val (Nat.zero_le _) (by omega)).ne
      omega
    · rw [show (49152#32 : BitVec 32).toInt = 49152 from by decide]; omega

end

/-- The bins' greatest products as the result has them. -/
theorem top_read (T : FVec Ideal S2048x6x128 .f32) (i : Fin 2048) (j : Fin 768) :
    shapeCast S2048x768 T shapeCasts_S2048x6x128_S2048x768 (ix2 i j) = T (ix3 i ⟨j.val / 128, by omega⟩ ⟨j.val % 128, by omega⟩) := by
  simp only [pointwise]

/-- The features as the result has them. -/
theorem first_read (T : IVec S2048x6x128 32) (i : Fin 2048) (j : Fin 768) :
    shapeCast S2048x768 T shapeCasts_S2048x6x128_S2048x768 (ix2 i j) = T (ix3 i ⟨j.val / 128, by omega⟩ ⟨j.val % 128, by omega⟩) := by
  simp only [pointwise]

end Cert.Proof.EncodeRef
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_table
public import proofs.«01_k».proof.Proof.Value
public import proofs.«01_k».proof.Proof.Ref
public import proofs.«01_k».proof.Proof.Gen.Stats
public import proofs.«01_k».proof.Proof.Gen.Stats.Frame
public import proofs.«01_k».proof.Proof.Gen.StatsIdeal
public import proofs.«01_k».proof.Proof.Gen.StatsIdeal.Value
public import proofs.«01_k».proof.Proof.Gen.StatsReferenceIdeal
public import proofs.«01_k».proof.Proof.Gen.StatsReferenceIdeal.Run
public import proofs.«01_k».proof.Proof.Gen.Pre_finite
public import proofs.«01_k».proof.Proof.StatsSums
public import proofs.«01_k».proof.Proof.StatsRef
public import proofs.«01_k».proof.Proof.Gen.Select
public import proofs.«01_k».proof.Proof.Gen.Select.Frame
public import proofs.«01_k».proof.Proof.Gen.SelectIdeal
public import proofs.«01_k».proof.Proof.Gen.SelectIdeal.Value
public import proofs.«01_k».proof.Proof.Gen.SelectReferenceIdeal
public import proofs.«01_k».proof.Proof.Gen.SelectReferenceIdeal.Run
public import proofs.«01_k».proof.Proof.SelectValue
public import proofs.«01_k».proof.Proof.SelectRef
public import proofs.«01_k».proof.Proof.Gen.Encode
public import proofs.«01_k».proof.Proof.Gen.EncodeIdeal
public import proofs.«01_k».proof.Proof.EncodeValue
public import proofs.«01_k».proof.Proof.EncodeRef
public import proofs.«01_k».proof.Proof.Gen.EncodeReferenceIdeal
public import proofs.«01_k».proof.Proof.Gen.EncodeReferenceIdeal.Run
public import Idealize.ShloMosaic.Adequacy
public import Idealize.ShloMosaic.Init

@[expose] public section

noncomputable section

namespace Cert.Proof

open Idealize.ShloMosaic Idealize.SL.Sem

/-- A TensorCore's array that is neither scoped nor a semaphore is among the arrays the run speaks of. -/
theorem arg0_mem : Proc.devRef .tc (Cert.KernelIdeal.main_arg0 : Ref Cert.KernelIdeal.sig .tc) ∈ Pipeline.ucRefs Cert.KernelIdeal.τ Cert.KernelIdeal.sig := by decide
theorem arg1_mem : Proc.devRef .tc (Cert.KernelIdeal.main_arg1 : Ref Cert.KernelIdeal.sig .tc) ∈ Pipeline.ucRefs Cert.KernelIdeal.τ Cert.KernelIdeal.sig := by decide
theorem arg2_mem : Proc.devRef .tc (Cert.KernelIdeal.main_arg2 : Ref Cert.KernelIdeal.sig .tc) ∈ Pipeline.ucRefs Cert.KernelIdeal.τ Cert.KernelIdeal.sig := by decide
theorem out_mem : Decode.out' ∈ Pipeline.ucRefs Cert.KernelIdeal.τ Cert.KernelIdeal.sig := by decide

/-- The kernel's run at any floats, read at its arguments, its result and its counters. -/
theorem run {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hi : ∀ d, Decode.InTable (Decode.argI m d)) :
    θ_run (Cert.KernelIdeal.defs (F := F)) (Cert.KernelIdeal.threads (F := F)) ⟨m, fun _ => 0, ρ⟩ (fun r =>
      (∀ c : Dev Cert.KernelIdeal.nD, r.2.mem (c, Decode.out') = Decode.resV m c
        ∧ r.2.mem (c, Proc.devRef .tc (Cert.KernelIdeal.main_arg0 : Ref Cert.KernelIdeal.sig .tc)) = Decode.argI m c
        ∧ r.2.mem (c, Proc.devRef .tc (Cert.KernelIdeal.main_arg1 : Ref Cert.KernelIdeal.sig .tc)) = Decode.argW m c
        ∧ r.2.mem (c, Proc.devRef .tc (Cert.KernelIdeal.main_arg2 : Ref Cert.KernelIdeal.sig .tc)) = Decode.argT m c)
      ∧ r.2.sem = fun _ => 0) :=
  (θ_run Cert.KernelIdeal.defs _ _).mono (fun _ h => ⟨fun c => ⟨(h.1 c _ out_mem).trans (Function.update_self _ _ _),
      (h.1 c _ arg0_mem).trans (Decode.V2_arg0 m c), (h.1 c _ arg1_mem).trans (Decode.V2_arg1 m c), (h.1 c _ arg2_mem).trans (Decode.V2_arg2 m c)⟩, h.2⟩)
    (Decode.run_main (F := F) m ρ (Decode.preOK_of m hi))

/-- The kernel's frame: it ends, its arguments are unchanged and every counter is at zero. -/
theorem frame_kernel : Cert.quiescent_Kernel := fun m ρ hpre =>
  (θ_run Cert.KernelIdeal.defs _ _).mono (fun _ h => ⟨fun c => (h.1 c).2, h.2⟩)
    (run (F := Bits) m ρ fun d => Ref.inTable_of_pre _ _ _ (hpre d))

/-- The ideal kernel's frame. -/
theorem frame_ideal : Cert.quiescent_KernelIdeal := fun m ρ hpre =>
  (θ_run Cert.KernelIdeal.defs _ _).mono (fun _ h => ⟨fun c => (h.1 c).2, h.2⟩)
    (run (F := Ideal) m ρ fun d => Ref.inTable_of_pre _ _ _ (hpre d))

/-- The reference's frame: host operations only, no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs compute the same rows: at each entry both are the sum, over the token's features, of the weight
    times the entry of the feature's row. -/
theorem algebraic : Cert.algebraic_KernelIdeal_ReferenceIdeal := by
  intro m ρ m' ρ' hpre hagree
  have hi : ∀ d, Decode.InTable (Decode.argI m d) := fun d => Ref.inTable_of_pre _ _ _ (hpre d)
  refine ⟨fun c => Decode.resV m c, (θ_run Cert.KernelIdeal.defs _ _).mono (fun _ h => h.1) (run (F := Ideal) m ρ hi), ?_⟩
  refine (θ_run Cert.ReferenceIdeal.defs _ _).mono (fun _ h c => ⟨(h c).1.trans ?_, (h c).2⟩) (Cert.ReferenceIdeal.Value.run (F := Ideal) m' ρ')
  obtain ⟨h0, h1, h2⟩ := hagree c
  show Ref.out (F := Ideal) _ _ _ = Decode.resV m c
  rw [h0, h1, h2]
  funext j
  obtain ⟨b, e, rfl⟩ : ∃ (b : Fin 2048) (e : Fin 768), j = ix2 b e := ⟨j 0, j 1, eq_ix2 j⟩
  rw [Decode.resV_at m c (hi c)]
  exact Ref.out_at _ (hi c) _ _ b e

/-! ## The statistics -/

/-- The statistics kernel's frame. -/
theorem frame_stats : Cert.quiescent_Stats := fun m ρ _ => Cert.Stats.Gen.frame (F := Bits) m ρ

/-- The ideal statistics kernel's frame. -/
theorem frame_stats_ideal : Cert.quiescent_StatsIdeal := fun m ρ _ => Cert.StatsIdeal.Gen.frame (F := Ideal) m ρ

/-- The statistics reference's frame: host operations only, no semaphore. -/
theorem frame_stats_reference : Cert.quiescent_StatsReferenceIdeal := fun m ρ _ =>
  (θ_run Cert.StatsReferenceIdeal.defs _ _).mono (fun r h => ⟨fun c => (h c).2.2.2.2, sem_eq_zero_of_no_sems (by decide) r.2⟩)
    (Cert.StatsReferenceIdeal.Value.run (F := Ideal) m ρ)

section
variable (m : (ℓ : Loc Cert.StatsIdeal.nD Cert.StatsIdeal.τ Cert.StatsIdeal.sig) → Buf (Elt Ideal) ℓ)
  (m' : (ℓ : Loc Cert.StatsReferenceIdeal.nD Cert.StatsReferenceIdeal.τ Cert.StatsReferenceIdeal.sig) → Buf (Elt Ideal) ℓ)
  (c : Dev Cert.StatsIdeal.nD)
  (hX : StatsRef.argX m' c = Stats.argX m c) (hD : StatsRef.argD m' c = Stats.argD m c) (hB : StatsRef.argB m' c = Stats.argB m c)

include hD hB in
/-- The two programs' biased decoded rows agree. -/
theorem stats_y (i : Fin 2048) (j : Fin 768) : StatsRef.yAt m' c i j = Stats.yAt m c i j := by
  unfold StatsRef.yAt Stats.yAt
  rw [hD, hB]

include hX hD hB in
/-- The two programs' squared errors agree. -/
theorem stats_err (i : Fin 2048) (j : Fin 768) : StatsRef.sqErr m' c i j = Stats.sqErr m c i j := by
  unfold StatsRef.sqErr Stats.sqErr
  rw [hX, stats_y m m' c hD hB]

include hX hD hB in
/-- A column's explained fraction: over finite columns the means of the centred products are what the six sums give. -/
theorem stats_explained (hx : ∀ i j, ∃ r : ℝ, Stats.argX m c (ix2 i j) = (r : EReal)) (hd : ∀ i j, ∃ r : ℝ, Stats.argD m c (ix2 i j) = (r : EReal))
    (hb : ∀ j, ∃ r : ℝ, Stats.argB m c (ix1 j) = (r : EReal)) (j : Fin 768) :
    Ideal.div (StatsAlg.centred (StatsRef.colX m' c j) (StatsRef.colY m' c j) * StatsAlg.centred (StatsRef.colX m' c j) (StatsRef.colY m' c j))
      (StatsAlg.centred (StatsRef.colX m' c j) (StatsRef.colX m' c j) * StatsAlg.centred (StatsRef.colY m' c j) (StatsRef.colY m' c j))
      = Stats.explained m c j := by
  choose fx hfx using hx
  choose fd hfd using hd
  choose fb hfb using hb
  have hcx : ∀ i, StatsRef.colX m' c j i = (fx i j : EReal) := fun i => by
    unfold StatsRef.colX; rw [hX, hfx]
  have hcy : ∀ i, StatsRef.colY m' c j i = ((fd i j + fb j : ℝ) : EReal) := fun i => by
    unfold StatsRef.colY
    rw [stats_y m m' c hD hB]
    unfold Stats.yAt
    rw [hfd, hfb, EReal.coe_add]
  rw [StatsAlg.centred_eq _ _ _ _ hcx hcy, StatsAlg.centred_eq _ _ _ _ hcx hcx, StatsAlg.centred_eq _ _ _ _ hcy hcy]
  have e0 : StatsRef.colX m' c j = fun i => Stats.argX m c (ix2 i j) := funext fun i => by unfold StatsRef.colX; rw [hX]
  have e1 : StatsRef.colY m' c j = fun i => Stats.yAt m c i j := funext fun i => stats_y m m' c hD hB i j
  rw [e0, e1]
  rfl

end

/-- An index of a one-entry array. -/
theorem one_entry (j : Cert.StatsIdeal.S1x1.Idx) : j = ix2 0 0 := by
  obtain ⟨a, b, rfl⟩ : ∃ a b : Fin 1, j = ix2 a b := ⟨j 0, j 1, eq_ix2 j⟩
  rw [Subsingleton.elim a 0, Subsingleton.elim b 0]

/-- The two programs compute the same scaled rows, the same mean squared errors, the same unexplained fraction and, of finite
    inputs, the same explained variance. -/
theorem algebraic_stats : Cert.algebraic_StatsIdeal_StatsReferenceIdeal_pre_finite := by
  intro m ρ m' ρ' hpre hagree
  refine ⟨fun c => Cert.StatsIdeal.Value.G3 m c, fun c => Cert.StatsIdeal.Value.G4 m c, fun c => Cert.StatsIdeal.Value.G5 m c,
    fun c => Cert.StatsIdeal.Value.G6 m c, Cert.StatsIdeal.Value.run m ρ, ?_⟩
  refine (θ_run Cert.StatsReferenceIdeal.defs _ _).mono (fun _ h c => ?_) (Cert.StatsReferenceIdeal.Value.run (F := Ideal) m' ρ')
  obtain ⟨hX, hD, hB⟩ := hagree c
  obtain ⟨hx, hd, hb⟩ := StatsRef.real_of_pre _ _ _ (hpre c)
  refine ⟨(h c).1.trans ?_, (h c).2.1.trans ?_, (h c).2.2.1.trans ?_, (h c).2.2.2.1.trans ?_, (h c).2.2.2.2⟩
  · funext k
    obtain ⟨i, j, rfl⟩ : ∃ (i : Fin 2048) (j : Fin 768), k = ix2 i j := ⟨k 0, k 1, eq_ix2 k⟩
    refine (StatsRef.y_at m' c i j).trans (Eq.trans ?_ (Stats.y_at m c i j).symm)
    rw [stats_y m m' c hD hB]
  · funext k
    obtain ⟨i, rfl⟩ : ∃ i : Fin 2048, k = ix1 i := ⟨k 0, eq_ix1 k⟩
    refine (StatsRef.loss_at m' c i).trans (Eq.trans ?_ (Stats.loss_at m c i).symm)
    simp only [stats_err m m' c hX hD hB]
  · funext k
    obtain rfl := one_entry k
    refine (StatsRef.fvu_at m' c).trans (Eq.trans ?_ (Stats.fvu_at m c).symm)
    simp only [stats_err m m' c hX hD hB]
    rw [show StatsRef.argX m' c = Stats.argX m c from hX]
    rfl
  · funext k
    obtain rfl := one_entry k
    refine (StatsRef.ve_at m' c).trans (Eq.trans ?_ (Stats.ve_at m c).symm)
    simp only [stats_explained m m' c hX hD hB hx hd hb]

/-! ## The selection -/

/-- The selection kernel's frame. -/
theorem frame_select : Cert.quiescent_Select := fun m ρ _ => Cert.Select.Gen.frame (F := Bits) m ρ

/-- The ideal selection kernel's frame. -/
theorem frame_select_ideal : Cert.quiescent_SelectIdeal := fun m ρ _ => Cert.SelectIdeal.Gen.frame (F := Ideal) m ρ

/-- The selection reference's frame: host operations only, no semaphore. -/
theorem frame_select_reference : Cert.quiescent_SelectReferenceIdeal := fun m ρ _ =>
  (θ_run Cert.SelectReferenceIdeal.defs _ _).mono (fun r h => ⟨fun c => (h c).2.2, sem_eq_zero_of_no_sems (by decide) r.2⟩)
    (Cert.SelectReferenceIdeal.Value.run (F := Ideal) m ρ)

/-- The two programs compute the same values and the same features: at each rank both name the bin that comes there when a
    token's bins are sorted, the greatest first and equals in their own order. -/
theorem algebraic_select : Cert.algebraic_SelectIdeal_SelectReferenceIdeal_pre_above_floor := by
  intro m ρ m' ρ' hpre hagree
  have hm : ∀ c i j, ⊥ < Select.argM m c (ix2 i j) := fun c i j => SelectRef.above_of_pre _ _ (hpre c) i j
  refine ⟨fun c => Select.weights m c, fun c => Select.features m c,
    (θ_run Cert.SelectIdeal.defs _ _).mono (fun _ h c => ⟨(h c).1.trans (Select.final2 m c (hm c)), (h c).2.1.trans (Select.final3 m c (hm c)), (h c).2.2⟩)
      (Cert.SelectIdeal.Value.run_blocks m ρ), ?_⟩
  refine (θ_run Cert.SelectReferenceIdeal.defs _ _).mono (fun _ h c => ⟨(h c).1.trans ?_, (h c).2.1.trans ?_, (h c).2.2⟩)
    (Cert.SelectReferenceIdeal.Value.run (F := Ideal) m' ρ')
  · rw [(hagree c).1]
    funext i
    obtain ⟨b, k, rfl⟩ : ∃ (b : Fin 2048) (k : Fin 32), i = ix2 b k := ⟨i 0, i 1, eq_ix2 i⟩
    exact SelectRef.value_at _ b k
  · show SelectRef.taken _ _ = Select.features m c
    rw [(hagree c).1, (hagree c).2]
    funext i
    obtain ⟨b, k, rfl⟩ : ∃ (b : Fin 2048) (k : Fin 32), i = ix2 b k := ⟨i 0, i 1, eq_ix2 i⟩
    exact SelectRef.feature_at _ _ b k

/-! ## The encoder -/

/-- The encoder's body, as the grid calls it, is one text in the two readings. -/
theorem encode_rows : Cert.Encode.defs₀ (F := Bits) = Cert.EncodeIdeal.defs₀ (F := Bits) := by
  unfold Cert.Encode.defs₀ Cert.EncodeIdeal.defs₀
  refine congrArg Defs.onTc ?_
  funext l a
  match l, a with
  | 0, (t, s) => rfl
  | ⟨n + 1, h⟩, _ => exact absurd h (Nat.not_lt.2 (Nat.le_add_left _ _))

/-- So are the procedures that the program calls. -/
theorem encode_defs : Cert.Encode.defs (F := Bits) = Cert.EncodeIdeal.defs (F := Bits) :=
  congrArg (Pipeline.defs Cert.EncodeIdeal.pcfgs) encode_rows

/-- The encoder's frame. -/
theorem frame_encode : Cert.quiescent_Encode := fun m ρ _ => by
  rw [encode_defs]
  exact (θ_run Cert.EncodeIdeal.defs _ _).mono (fun _ h => ⟨fun c => (h.1 c).2, h.2⟩) (Encode.run_out (F := Bits) m ρ)

/-- The ideal encoder's frame. -/
theorem frame_encode_ideal : Cert.quiescent_EncodeIdeal := fun m ρ _ =>
  (θ_run Cert.EncodeIdeal.defs _ _).mono (fun _ h => ⟨fun c => (h.1 c).2, h.2⟩) (Encode.run_out (F := Ideal) m ρ)

/-- The encoding reference's frame: host operations only, no semaphore. -/
theorem frame_encode_reference : Cert.quiescent_EncodeReferenceIdeal := fun m ρ _ =>
  (θ_run Cert.EncodeReferenceIdeal.defs _ _).mono (fun r h => ⟨fun c => (h c).2.2.2, sem_eq_zero_of_no_sems (by decide) r.2⟩)
    (Cert.EncodeReferenceIdeal.Value.run (F := Ideal) m ρ)

/-- What the kernel gives of a bin, over the reference's normalised rows. -/
theorem encode_top (m : (ℓ : Loc Cert.EncodeIdeal.nD Cert.EncodeIdeal.τ Cert.EncodeIdeal.sig) → Buf (Elt Ideal) ℓ) (c : Dev Cert.EncodeIdeal.nD)
    (i : Fin 2048) (j : Fin 768) :
    EncodeTop.Top (fun n => EncodeTop.encOf (fun i k => EncodeRef.xn (Encode.argX m c) (ix2 i k)) (fun k => Encode.argB m c (ix2 0 k))
        (fun k f => Encode.argW m c (ix2 k f)) i (j.val / 128 * 8192 + n * 128 + j.val % 128))
      (fun n => BitVec.ofNat 32 (j.val / 128 * 8192 + n * 128 + j.val % 128)) 0 64 (Encode.outM m c (ix2 i j)) (Encode.outI m c (ix2 i j)) := by
  have h := Encode.out_top m c i j
  unfold Encode.code at h
  simp only [EncodeRef.xn_at]
  exact h

/-- The two programs compute the same normalised rows, the same bins' maxima, and of each the same feature, the first that has it. -/
theorem algebraic_encode : Cert.algebraic_EncodeIdeal_EncodeReferenceIdeal := by
  intro m ρ m' ρ' _ hagree
  refine ⟨fun c => Encode.outX m c, fun c => Encode.outM m c, fun c => Encode.outI m c,
    (θ_run Cert.EncodeIdeal.defs _ _).mono (fun _ h c => ⟨(h.1 c).1.1, (h.1 c).1.2.1, (h.1 c).1.2.2, (h.1 c).2⟩) (Encode.run_out (F := Ideal) m ρ), ?_⟩
  refine (θ_run Cert.EncodeReferenceIdeal.defs _ _).mono (fun _ h c => ⟨(h c).1.trans ?_, (h c).2.1.trans ?_, (h c).2.2.1.trans ?_, (h c).2.2.2⟩)
    (Cert.EncodeReferenceIdeal.Value.run (F := Ideal) m' ρ')
  · rw [(hagree c).1]
    funext y
    obtain ⟨i, k, rfl⟩ : ∃ (i : Fin 2048) (k : Fin 768), y = ix2 i k := ⟨y 0, y 1, eq_ix2 y⟩
    exact (EncodeRef.xn_at (Encode.argX m c) i k).trans (Encode.outX_at m c i k).symm
  · rw [(hagree c).1, (hagree c).2.1, (hagree c).2.2]
    funext y
    obtain ⟨i, j, rfl⟩ : ∃ (i : Fin 2048) (j : Fin 768), y = ix2 i j := ⟨y 0, y 1, eq_ix2 y⟩
    exact (EncodeRef.top_read (EncodeRef.tops (Encode.argX m c) (Encode.argB m c) (Encode.argW m c)) i j).trans
      (EncodeRef.tops_at _ _ _ i ⟨j.val / 128, by omega⟩ ⟨j.val % 128, by omega⟩ _ _ (encode_top m c i j))
  · rw [(hagree c).1, (hagree c).2.1, (hagree c).2.2]
    funext y
    obtain ⟨i, j, rfl⟩ : ∃ (i : Fin 2048) (j : Fin 768), y = ix2 i j := ⟨y 0, y 1, eq_ix2 y⟩
    exact (EncodeRef.first_read (EncodeRef.firsts (Encode.argX m c) (Encode.argB m c) (Encode.argW m c)) i j).trans
      (EncodeRef.firsts_at _ _ _ i ⟨j.val / 128, by omega⟩ ⟨j.val % 128, by omega⟩ _ _ (encode_top m c i j))

/-- The whole claim. -/
theorem claim : Cert.Claim := ⟨Cert.Kernel.Gen.facts, Cert.KernelIdeal.Gen.facts, Cert.ReferenceIdeal.Gen.facts,
  Cert.Stats.Gen.facts, Cert.StatsIdeal.Gen.facts, Cert.StatsReferenceIdeal.Gen.facts,
  Cert.Select.Gen.facts, Cert.SelectIdeal.Gen.facts, Cert.SelectReferenceIdeal.Gen.facts,
  Cert.Encode.Gen.facts, Cert.EncodeIdeal.Gen.facts, Cert.EncodeReferenceIdeal.Gen.facts,
  Cert.Pre_idx_in_table.Gen.facts, Cert.Pre_finite.Gen.facts, SelectRef.facts,
  frame_kernel, frame_ideal, frame_reference, fun m ρ _ => frame_reference m ρ trivial,
  frame_stats, frame_stats_ideal, fun m ρ _ => frame_stats_ideal m ρ trivial,
  frame_stats_reference, fun m ρ _ => frame_stats_reference m ρ trivial,
  frame_select, frame_select_ideal, fun m ρ _ => frame_select_ideal m ρ trivial,
  frame_select_reference, fun m ρ _ => frame_select_reference m ρ trivial,
  frame_encode, frame_encode_ideal, frame_encode_reference,
  trivial, algebraic, trivial, algebraic_stats, trivial, algebraic_select, trivial, algebraic_encode⟩

end Cert.Proof

end
